-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def preserves_Kernel_KernelIdeal : Prop :=
  IdealRules.named_const.Statement Cert.KernelIdeal.κ "exp2_scale" .f32 0x3E16C740#32 (((Real.sqrt 96)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v73_0)) (v1 : (c : Dev Cert.ProjIdeal.nD) → Buf (Elt Ideal) ((c.tc : Thread Cert.ProjIdeal.nD Cert.ProjIdeal.τ).loc Cert.ProjIdeal.main_v73_1)) (v2 : (c : Dev Cert.ProjIdeal.nD) → Buf (Elt Ideal) ((c.tc : Thread Cert.ProjIdeal.nD Cert.ProjIdeal.τ).loc Cert.ProjIdeal.main_v73_2)) (v3 : (c : Dev Cert.ProjIdeal.nD) → Buf (Elt Ideal) ((c.tc : Thread Cert.ProjIdeal.nD Cert.ProjIdeal.τ).loc Cert.ProjIdeal.main_v73_3)) (v4 : (c : Dev Cert.ProjIdeal.nD) → Buf (Elt Ideal) ((c.tc : Thread Cert.ProjIdeal.nD Cert.ProjIdeal.τ).loc Cert.ProjIdeal.main_v73_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v73_0) = v0 c
          ∧ r.2.mem ((c.tc : Thread Cert.ProjIdeal.nD Cert.ProjIdeal.τ).loc Cert.ProjIdeal.main_v73_1) = v1 c
          ∧ r.2.mem ((c.tc : Thread Cert.ProjIdeal.nD Cert.ProjIdeal.τ).loc Cert.ProjIdeal.main_v73_2) = v2 c
          ∧ r.2.mem ((c.tc : Thread Cert.ProjIdeal.nD Cert.ProjIdeal.τ).loc Cert.ProjIdeal.main_v73_3) = v3 c
          ∧ r.2.mem ((c.tc : Thread Cert.ProjIdeal.nD Cert.ProjIdeal.τ).loc Cert.ProjIdeal.main_v73_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v33) = v0 c
          ∧ r.2.mem ((c.tc : Thread Cert.ProjRefIdeal.nD Cert.ProjRefIdeal.τ).loc Cert.ProjRefIdeal.main_v97) = v1 c
          ∧ r.2.mem ((c.tc : Thread Cert.ProjRefIdeal.nD Cert.ProjRefIdeal.τ).loc Cert.ProjRefIdeal.main_v98) = v2 c
          ∧ r.2.mem ((c.tc : Thread Cert.ProjRefIdeal.nD Cert.ProjRefIdeal.τ).loc Cert.ProjRefIdeal.main_v63) = v3 c
          ∧ r.2.mem ((c.tc : Thread Cert.ProjRefIdeal.nD Cert.ProjRefIdeal.τ).loc Cert.ProjRefIdeal.main_v96) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v35)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v35) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v79) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
-- ==== Pre_finite.lean ====
abbrev S4x4096x8x64 : Shape := ⟨4, ![4, 4096, 8, 64]⟩
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩

class Facts : Prop where
  bcast_S_S4x4096x8x128 : S_.BroadcastsInDim S4x4096x8x128 (![] : Fin 0 → Fin S4x4096x8x128.rank)
  bcast_S_S4x4096x8x32 : S_.BroadcastsInDim S4x4096x8x32 (![] : Fin 0 → Fin S4x4096x8x32.rank)
  bcast_S_S4x4096x128 : S_.BroadcastsInDim S4x4096x128 (![] : Fin 0 → Fin S4x4096x128.rank)
  bcast_S_S4x4096x32 : S_.BroadcastsInDim S4x4096x32 (![] : Fin 0 → Fin S4x4096x32.rank)

variable [Facts]

def fn {F : FTy → Type} [FloatOps F] (main_arg0 : FVec F S4x4096x8x64 .f32) (main_arg1 : FVec F S4x4096x8x64 .f32) (main_arg2 : FVec F S4x4096x8x64 .f32) (main_arg3 : FVec F S4x4096x8x128 .f32) (main_arg4 : FVec F S4x4096x8x32 .f32) (main_arg5 : FVec F S4x4096x128 .f32) (main_arg6 : FVec F S4x4096x32 .f32) : IVec S4x4096x8x128 1 × IVec S4x4096x8x32 1 × IVec S4x4096x128 1 × IVec S4x4096x32 1 :=
  let main_v0 : FVec F S4x4096x8x128 .f32 := Host.absf main_arg3
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x4096x8x32 .f32 := Host.absf main_arg4
  let main_cst_0 : FVec F S_ .f32 := constant S_ .f32 0x7F800000#32
  let main_v4 : FVec F S4x4096x8x32 .f32 := broadcastInDim S4x4096x8x32 ![] bcast_S_S4x4096x8x32 main_cst_0
  let main_v5 : IVec S4x4096x8x32 1 := cmpf .olt main_v3 main_v4
  let main_v6 : FVec F S4x4096x128 .f32 := Host.absf main_arg5
  let main_cst_1 : FVec F S_ .f32 := constant S_ .f32 0x7F800000#32
  let main_v7 : FVec F S4x4096x128 .f32 := broadcastInDim S4x4096x128 ![] bcast_S_S4x4096x128 main_cst_1
  let main_v8 : IVec S4x4096x128 1 := cmpf .olt main_v6 main_v7
  let main_v9 : FVec F S4x4096x32 .f32 := Host.absf main_arg6
  let main_cst_2 : FVec F S_ .f32 := constant S_ .f32 0x7F800000#32
  let main_v10 : FVec F S4x4096x32 .f32 := broadcastInDim S4x4096x32 ![] bcast_S_S4x4096x32 main_cst_2
  let main_v11 : IVec S4x4096x32 1 := cmpf .olt main_v9 main_v10
  (main_v2, main_v5, main_v8, main_v11)
-- ==== Kernel.lean ====
abbrev S4x4096x8x64 : Shape := ⟨4, ![4, 4096, 8, 64]⟩
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩
abbrev S4x4096x8x96 : Shape := ⟨4, ![4, 4096, 8, 96]⟩
abbrev S4x4096x8x256 : Shape := ⟨4, ![4, 4096, 8, 256]⟩
abbrev S4x8x4096x256 : Shape := ⟨4, ![4, 8, 4096, 256]⟩
abbrev S4x4096x96 : Shape := ⟨3, ![4, 4096, 96]⟩
abbrev S4x4096x256 : Shape := ⟨3, ![4, 4096, 256]⟩
abbrev S4x128x4096 : Shape := ⟨3, ![4, 128, 4096]⟩
abbrev S4x16x4096 : Shape := ⟨3, ![4, 16, 4096]⟩
abbrev S4x144x4096 : Shape := ⟨3, ![4, 144, 4096]⟩
abbrev S4x4096x4x128 : Shape := ⟨4, ![4, 4096, 4, 128]⟩
abbrev S4x4x4096x128 : Shape := ⟨4, ![4, 4, 4096, 128]⟩
abbrev S4x8x4096x128 : Shape := ⟨4, ![4, 8, 4096, 128]⟩
abbrev S1x4x256x128 : Shape := ⟨4, ![1, 4, 256, 128]⟩
abbrev S1x4x4096x128 : Shape := ⟨4, ![1, 4, 4096, 128]⟩
abbrev S1x8x256x256 : Shape := ⟨4, ![1, 8, 256, 256]⟩
abbrev S1x4096x256 : Shape := ⟨3, ![1, 4096, 256]⟩
abbrev S1x144x4096 : Shape := ⟨3, ![1, 144, 4096]⟩
abbrev S1x8x256x128 : Shape := ⟨4, ![1, 8, 256, 128]⟩
abbrev S512x2048 : Shape := ⟨2, ![512, 2048]⟩
abbrev S1x2048 : Shape := ⟨2, ![1, 2048]⟩
abbrev S144x2048 : Shape := ⟨2, ![144, 2048]⟩
abbrev S256x256 : Shape := ⟨2, ![256, 256]⟩
abbrev S2048x256 : Shape := ⟨2, ![2048, 256]⟩
abbrev S512x128 : Shape := ⟨2, ![512, 128]⟩
abbrev S1x1x256x128 : Shape := ⟨4, ![1, 1, 256, 128]⟩
abbrev S256x128 : Shape := ⟨2, ![256, 128]⟩
abbrev S2048x1 : Shape := ⟨2, ![2048, 1]⟩
abbrev S512x256 : Shape := ⟨2, ![512, 256]⟩
abbrev S256x512 : Shape := ⟨2, ![256, 512]⟩
abbrev S1x2048x1 : Shape := ⟨3, ![1, 2048, 1]⟩
abbrev S1 : Shape := ⟨1, ![1]⟩
abbrev S1x1x1 : Shape := ⟨3, ![1, 1, 1]⟩
abbrev S8x256x256 : Shape := ⟨3, ![8, 256, 256]⟩
abbrev S1x512x256 : Shape := ⟨3, ![1, 512, 256]⟩
abbrev S2048 : Shape := ⟨1, ![2048]⟩
abbrev S1x144x512 : Shape := ⟨3, ![1, 144, 512]⟩
abbrev S144x512 : Shape := ⟨2, ![144, 512]⟩
abbrev S128x2048 : Shape := ⟨2, ![128, 2048]⟩
abbrev S128x256 : Shape := ⟨2, ![128, 256]⟩

abbrev nBuf : Space → Nat
  | .hbm => 34
  | .vmem => 20
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8x128, .f32⟩
  | .hbm, ⟨4, _⟩ => ⟨S4x4096x8x32, .f32⟩
  | .hbm, ⟨5, _⟩ => ⟨S4x4096x128, .f32⟩
  | .hbm, ⟨6, _⟩ => ⟨S4x4096x32, .f32⟩
  | .hbm, ⟨7, _⟩ => ⟨S_, .f32⟩
  | .hbm, ⟨8, _⟩ => ⟨S4x4096x8x96, .f32⟩
  | .hbm, ⟨9, _⟩ => ⟨S4x4096x8x256, .f32⟩
  | .hbm, ⟨10, _⟩ => ⟨S4x8x4096x256, .f32⟩
  | .hbm, ⟨11, _⟩ => ⟨S_, .f32⟩
  | .hbm, ⟨12, _⟩ => ⟨S4x4096x96, .f32⟩
  | .hbm, ⟨13, _⟩ => ⟨S4x4096x256, .f32⟩
  | .hbm, ⟨14, _⟩ => ⟨S4x4096x256, .bf16⟩
  | .hbm, ⟨15, _⟩ => ⟨S4x128x4096, .f32⟩
  | .hbm, ⟨16, _⟩ => ⟨S_, .f32⟩
  | .hbm, ⟨17, _⟩ => ⟨S4x16x4096, .f32⟩
  | .hbm, ⟨18, _⟩ => ⟨S4x144x4096, .f32⟩
  | .hbm, ⟨19, _⟩ => ⟨S4x144x4096, .bf16⟩
  | .hbm, ⟨20, _⟩ => ⟨S_, .f32⟩
  | .hbm, ⟨21, _⟩ => ⟨S4x4096x8x64, .f32⟩
  | .hbm, ⟨22, _⟩ => ⟨S4x4096x8x64, .f32⟩
  | .hbm, ⟨23, _⟩ => ⟨S4x4096x4x128, .f32⟩
  | .hbm, ⟨24, _⟩ => ⟨S4x4x4096x128, .f32⟩
  | .hbm, ⟨25, _⟩ => ⟨S4x4x4096x128, .bf16⟩
  | .hbm, ⟨26, _⟩ => ⟨S4x4096x4x128, .f32⟩
  | .hbm, ⟨27, _⟩ => ⟨S4x4x4096x128, .f32⟩
  | .hbm, ⟨28, _⟩ => ⟨S4x4x4096x128, .bf16⟩
  | .hbm, ⟨29, _⟩ => ⟨S4x4096x4x128, .f32⟩
  | .hbm, ⟨30, _⟩ => ⟨S4x4x4096x128, .f32⟩
  | .hbm, ⟨31, _⟩ => ⟨S4x4x4096x128, .bf16⟩
  | .hbm, ⟨32, _⟩ => ⟨S4x4x4096x128, .f32⟩
  | .hbm, ⟨33, _⟩ => ⟨S4x8x4096x128, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x4x4096x128, .bf16⟩
  | .local _ .vmem, ⟨3, _⟩ => ⟨S1x4x4096x128, .bf16⟩
  | .local _ .vmem, ⟨4, _⟩ => ⟨S1x4x4096x128, .bf16⟩
  | .local _ .vmem, ⟨5, _⟩ => ⟨S1x4x4096x128, .bf16⟩
  | .local _ .vmem, ⟨6, _⟩ => ⟨S1x8x256x256, .f32⟩
  | .local _ .vmem, ⟨7, _⟩ => ⟨S1x8x256x256, .f32⟩
  | .local _ .vmem, ⟨8, _⟩ => ⟨S1x4096x256, .bf16⟩
  | .local _ .vmem, ⟨9, _⟩ => ⟨S1x4096x256, .bf16⟩
  | .local _ .vmem, ⟨10, _⟩ => ⟨S1x144x4096, .bf16⟩
  | .local _ .vmem, ⟨11, _⟩ => ⟨S1x144x4096, .bf16⟩
  | .local _ .vmem, ⟨12, _⟩ => ⟨S1x4x256x128, .f32⟩
  | .local _ .vmem, ⟨13, _⟩ => ⟨S1x4x256x128, .f32⟩
  | .local _ .vmem, ⟨14, _⟩ => ⟨S1x8x256x128, .f32⟩
  | .local _ .vmem, ⟨15, _⟩ => ⟨S1x8x256x128, .f32⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | .local _ .vmem, ⟨19, _⟩ => ⟨S144x2048, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32_4 : BitVec 32 := 256#32
  let v32 : BitVec 32 := Scalar.muli arg1 c256_i32_4
  v32
def k0_off1 (i : grid0.Coords) : Fin 4 → Nat :=
  let c0_25 : Index := 0#32
  let c0_26 : Index := 0#32
  let arg1 : BitVec 32 := BitVec.ofNat 32 (i 1).val
  let c256_i32_4 : BitVec 32 := 256#32
  let v32 : BitVec 32 := Scalar.muli arg1 c256_i32_4
  let v33 : BitVec 32 := v32
  let v59 : Index := Scalar.indexCast v33
  let c0_27 : Index := 0#32
  ![0, 0, v59.toNat, 0]
def k0_off2 (i : grid0.Coords) : Fin 4 → Nat :=
  let c0_32 : Index := 0#32
  let c1_33 : Index := 1#32
  let arg1 : BitVec 32 := BitVec.ofNat 32 (i 1).val
  let c256_i32_4 : BitVec 32 := 256#32
  let v32 : BitVec 32 := Scalar.muli arg1 c256_i32_4
  let v33 : BitVec 32 := v32
  let v68 : Index := Scalar.indexCast v33
  let c0_34 : Index := 0#32
  ![0, 1, v68.toNat, 0]
def k0_off3 (i : grid0.Coords) : Fin 4 → Nat :=
  let c0_39 : Index := 0#32
  let c2_40 : Index := 2#32
  let arg1 : BitVec 32 := BitVec.ofNat 32 (i 1).val
  let c256_i32_4 : BitVec 32 := 256#32
  let v32 : BitVec 32 := Scalar.muli arg1 c256_i32_4
  let v33 : BitVec 32 := v32
  let v77 : Index := Scalar.indexCast v33
  let c0_41 : Index := 0#32
  ![0, 2, v77.toNat, 0]
def k0_off4 (i : grid0.Coords) : Fin 4 → Nat :=
  let c0_46 : Index := 0#32
  let c3_47 : Index := 3#32
  let arg1 : BitVec 32 := BitVec.ofNat 32 (i 1).val
  let c256_i32_4 : BitVec 32 := 256#32
  let v32 : BitVec 32 := Scalar.muli arg1 c256_i32_4
  let v33 : BitVec 32 := v32
  let v86 : Index := Scalar.indexCast v33
  let c0_48 : Index := 0#32
  ![0, 3, v86.toNat, 0]
def k0_mult2 (arg14 : BitVec 32) : BitVec 32 :=
  let c256_i32_157 : BitVec 32 := 256#32
  let v281 : BitVec 32 := Scalar.muli arg14 c256_i32_157
  v281

def k0_off5 (arg14 : BitVec 32) : Fin 4 → Nat :=
  let c0_158 : Index := 0#32
  let c0_159 : Index := 0#32
  let c256_i32_157 : BitVec 32 := 256#32
  let v281 : BitVec 32 := Scalar.muli arg14 c256_i32_157
  let v282 : BitVec 32 := v281
  let v283 : Index := Scalar.indexCast v282
  let c0_160 : Index := 0#32
  ![0, 0, v283.toNat, 0]
def k0_off6 (arg14 : BitVec 32) : Fin 4 → Nat :=
  let c0_165 : Index := 0#32
  let c1_166 : Index := 1#32
  let c256_i32_157 : BitVec 32 := 256#32
  let v281 : BitVec 32 := Scalar.muli arg14 c256_i32_157
  let v282 : BitVec 32 := v281
  let v292 : Index := Scalar.indexCast v282
  let c0_167 : Index := 0#32
  ![0, 1, v292.toNat, 0]
def k0_off7 (arg14 : BitVec 32) : Fin 4 → Nat :=
  let c0_172 : Index := 0#32
  let c2_173 : Index := 2#32
  let c256_i32_157 : BitVec 32 := 256#32
  let v281 : BitVec 32 := Scalar.muli arg14 c256_i32_157
  let v282 : BitVec 32 := v281
  let v301 : Index := Scalar.indexCast v282
  let c0_174 : Index := 0#32
  ![0, 2, v301.toNat, 0]
def k0_off8 (arg14 : BitVec 32) : Fin 4 → Nat :=
  let c0_179 : Index := 0#32
  let c3_180 : Index := 3#32
  let c256_i32_157 : BitVec 32 := 256#32
  let v281 : BitVec 32 := Scalar.muli arg14 c256_i32_157
  let v282 : BitVec 32 := v281
  let v310 : Index := Scalar.indexCast v282
  let c0_181 : Index := 0#32
  ![0, 3, v310.toNat, 0]

def k0_chk1 (arg14 : BitVec 32) : Prop :=
  (256 ∣ (k0_mult2 arg14).toNat) ∧
  (∀ a, (k0_off5 arg14) a + S1x1x256x128.size a ≤ S1x4x4096x128.size a) ∧
  (∀ a, (k0_off6 arg14) a + S1x1x256x128.size a ≤ S1x4x4096x128.size a) ∧
  (∀ a, (k0_off7 arg14) a + S1x1x256x128.size a ≤ S1x4x4096x128.size a) ∧
  (∀ a, (k0_off8 arg14) a + S1x1x256x128.size a ≤ S1x4x4096x128.size a)
theorem k0_mult2_dvd : ∀ (arg14 : BitVec 32) (k0_hw1 : k0_chk1 arg14), 256 ∣ (k0_mult2 arg14).toNat := fun arg14 k0_hw1 => k0_hw1.1
theorem k0_off5_inb : ∀ (arg14 : BitVec 32) (k0_hw1 : k0_chk1 arg14), ∀ a, (k0_off5 arg14) a + S1x1x256x128.size a ≤ S1x4x4096x128.size a := fun arg14 k0_hw1 => k0_hw1.2.1
theorem k0_off6_inb : ∀ (arg14 : BitVec 32) (k0_hw1 : k0_chk1 arg14), ∀ a, (k0_off6 arg14) a + S1x1x256x128.size a ≤ S1x4x4096x128.size a := fun arg14 k0_hw1 => k0_hw1.2.2.1
theorem k0_off7_inb : ∀ (arg14 : BitVec 32) (k0_hw1 : k0_chk1 arg14), ∀ a, (k0_off7 arg14) a + S1x1x256x128.size a ≤ S1x4x4096x128.size a := fun arg14 k0_hw1 => k0_hw1.2.2.2.1
theorem k0_off8_inb : ∀ (arg14 : BitVec 32) (k0_hw1 : k0_chk1 arg14), ∀ a, (k0_off8 arg14) a + S1x1x256x128.size a ≤ S1x4x4096x128.size a := fun arg14 k0_hw1 => k0_hw1.2.2.2.2

def k0_mult3 : BitVec 32 :=
  let c0_i32_101 : BitVec 32 := 0#32
  c0_i32_101
@[reducible] def k0_t1_loop (i : grid0.Coords) : Scf.Loop 32 :=
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_116 : BitVec 32 := 1#32
  ⟨c0_i32_113, v217, c1_i32_116⟩
def k0_mult4 (i : grid0.Coords) (k0_t1 : Fin (k0_t1_loop i).trips) : BitVec 32 :=
  let c2_i32_157 : BitVec 32 := 2#32
  let c0_i32_113 : BitVec 32 := 0#32
  let c1_i32_116 : BitVec 32 := 1#32
  let arg14 : BitVec 32 := Scf.iv c0_i32_113 c1_i32_116 k0_t1
  let v281 : BitVec 32 := Scalar.muli c2_i32_157 arg14
  let c1_i32_158 : BitVec 32 := 1#32
  let v282 : BitVec 32 := Scalar.addi v281 c1_i32_158
  let c512_i32_159 : BitVec 32 := 512#32
  let v283 : BitVec 32 := Scalar.muli v282 c512_i32_159
  v283
def k0_off9 (i : grid0.Coords) (k0_t1 : Fin (k0_t1_loop i).trips) (c1_i32_158 : BitVec 32) : Fin 3 → Nat :=
  let c0_160 : Index := 0#32
  let c2_i32_157 : BitVec 32 := 2#32
  let c0_i32_113 : BitVec 32 := 0#32
  let c1_i32_116 : BitVec 32 := 1#32
  let arg14 : BitVec 32 := Scf.iv c0_i32_113 c1_i32_116 k0_t1
  let v281 : BitVec 32 := Scalar.muli c2_i32_157 arg14
  let v282 : BitVec 32 := Scalar.addi v281 c1_i32_158
  let c512_i32_159 : BitVec 32 := 512#32
  let v283 : BitVec 32 := Scalar.muli v282 c512_i32_159
  let v284 : BitVec 32 := v283
  let v285 : Index := Scalar.indexCast v284
  let c0_161 : Index := 0#32
  ![0, v285.toNat, 0]
def k0_mult5 (i : grid0.Coords) (k0_t1 : Fin (k0_t1_loop i).trips) : BitVec 32 :=
  let c2_i32_165 : BitVec 32 := 2#32
  let c0_i32_113 : BitVec 32 := 0#32
  let c1_i32_116 : BitVec 32 := 1#32
  let arg14 : BitVec 32 := Scf.iv c0_i32_113 c1_i32_116 k0_t1
  let v292 : BitVec 32 := Scalar.muli c2_i32_165 arg14
  let c512_i32_166 : BitVec 32 := 512#32
  let v293 : BitVec 32 := Scalar.muli v292 c512_i32_166
  v293
def k0_off10 (i : grid0.Coords) (k0_t1 : Fin (k0_t1_loop i).trips) : Fin 3 → Nat :=
  let c0_174 : Index := 0#32
  let c0_175 : Index := 0#32
  let c2_i32_165 : BitVec 32 := 2#32
  let c0_i32_113 : BitVec 32 := 0#32
  let c1_i32_116 : BitVec 32 := 1#32
  let arg14 : BitVec 32 := Scf.iv c0_i32_113 c1_i32_116 k0_t1
  let v292 : BitVec 32 := Scalar.muli c2_i32_165 arg14
  let c512_i32_166 : BitVec 32 := 512#32
  let v293 : BitVec 32 := Scalar.muli v292 c512_i32_166
  let v294 : BitVec 32 := v293
  let v308 : Index := Scalar.indexCast v294
  ![0, 0, v308.toNat]
def k0_mult6 (i : grid0.Coords) (k0_t1 : Fin (k0_t1_loop i).trips) : BitVec 32 :=
  let c2_i32_181 : BitVec 32 := 2#32
  let c0_i32_113 : BitVec 32 := 0#32
  let c1_i32_116 : BitVec 32 := 1#32
  let arg14 : BitVec 32 := Scf.iv c0_i32_113 c1_i32_116 k0_t1
  let v320 : BitVec 32 := Scalar.muli c2_i32_181 arg14
  let c2_i32_182 : BitVec 32 := 2#32
  let v321 : BitVec 32 := Scalar.addi v320 c2_i32_182
  let c512_i32_183 : BitVec 32 := 512#32
  let v322 : BitVec 32 := Scalar.muli v321 c512_i32_183
  v322
def k0_mult7 (i : grid0.Coords) (k0_t1 : Fin (k0_t1_loop i).trips) : BitVec 32 :=
  let c2_i32_189 : BitVec 32 := 2#32
  let c0_i32_113 : BitVec 32 := 0#32
  let c1_i32_116 : BitVec 32 := 1#32
  let arg14 : BitVec 32 := Scf.iv c0_i32_113 c1_i32_116 k0_t1
  let v331 : BitVec 32 := Scalar.muli c2_i32_189 arg14
  let c1_i32_190 : BitVec 32 := 1#32
  let v332 : BitVec 32 := Scalar.addi v331 c1_i32_190
  let c512_i32_191 : BitVec 32 := 512#32
  let v333 : BitVec 32 := Scalar.muli v332 c512_i32_191
  v333
def k0_off11 (i : grid0.Coords) (k0_t1 : Fin (k0_t1_loop i).trips) : Fin 3 → Nat :=
  let c0_199 : Index := 0#32
  let c0_200 : Index := 0#32
  let c2_i32_189 : BitVec 32 := 2#32
  let c0_i32_113 : BitVec 32 := 0#32
  let c1_i32_116 : BitVec 32 := 1#32
  let arg14 : BitVec 32 := Scf.iv c0_i32_113 c1_i32_116 k0_t1
  let v331 : BitVec 32 := Scalar.muli c2_i32_189 arg14
  let c1_i32_190 : BitVec 32 := 1#32
  let v332 : BitVec 32 := Scalar.addi v331 c1_i32_190
  let c512_i32_191 : BitVec 32 := 512#32
  let v333 : BitVec 32 := Scalar.muli v332 c512_i32_191
  let v334 : BitVec 32 := v333
  let v348 : Index := Scalar.indexCast v334
  ![0, 0, v348.toNat]
@[reducible] def k0_t2_loop (i : grid0.Coords) : Scf.Loop 32 :=
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let v214 : BitVec 32 := Scalar.addi c0_i32_113 v213
  let c1_i32_117 : BitVec 32 := 1#32
  ⟨v217, v214, c1_i32_117⟩
def k0_mult8 (i : grid0.Coords) (k0_t2 : Fin (k0_t2_loop i).trips) : BitVec 32 :=
  let c2_i32_157 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v281 : BitVec 32 := Scalar.muli c2_i32_157 arg14
  let c1_i32_158 : BitVec 32 := 1#32
  let v282 : BitVec 32 := Scalar.addi v281 c1_i32_158
  let c512_i32_159 : BitVec 32 := 512#32
  let v283 : BitVec 32 := Scalar.muli v282 c512_i32_159
  v283
def k0_off12 (i : grid0.Coords) (k0_t2 : Fin (k0_t2_loop i).trips) (c1_i32_158 : BitVec 32) : Fin 3 → Nat :=
  let c0_160 : Index := 0#32
  let c2_i32_157 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v281 : BitVec 32 := Scalar.muli c2_i32_157 arg14
  let v282 : BitVec 32 := Scalar.addi v281 c1_i32_158
  let c512_i32_159 : BitVec 32 := 512#32
  let v283 : BitVec 32 := Scalar.muli v282 c512_i32_159
  let v284 : BitVec 32 := v283
  let v285 : Index := Scalar.indexCast v284
  let c0_161 : Index := 0#32
  ![0, v285.toNat, 0]
def k0_mult9 (i : grid0.Coords) (k0_t2 : Fin (k0_t2_loop i).trips) : BitVec 32 :=
  let c2_i32_165 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v292 : BitVec 32 := Scalar.muli c2_i32_165 arg14
  let c512_i32_166 : BitVec 32 := 512#32
  let v293 : BitVec 32 := Scalar.muli v292 c512_i32_166
  v293
def k0_off13 (i : grid0.Coords) (k0_t2 : Fin (k0_t2_loop i).trips) : Fin 3 → Nat :=
  let c0_174 : Index := 0#32
  let c0_175 : Index := 0#32
  let c2_i32_165 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v292 : BitVec 32 := Scalar.muli c2_i32_165 arg14
  let c512_i32_166 : BitVec 32 := 512#32
  let v293 : BitVec 32 := Scalar.muli v292 c512_i32_166
  let v294 : BitVec 32 := v293
  let v308 : Index := Scalar.indexCast v294
  ![0, 0, v308.toNat]
def k0_mult10 (i : grid0.Coords) (k0_t2 : Fin (k0_t2_loop i).trips) : BitVec 32 :=
  let c2_i32_181 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v320 : BitVec 32 := Scalar.muli c2_i32_181 arg14
  let c2_i32_182 : BitVec 32 := 2#32
  let v321 : BitVec 32 := Scalar.addi v320 c2_i32_182
  let c512_i32_183 : BitVec 32 := 512#32
  let v322 : BitVec 32 := Scalar.muli v321 c512_i32_183
  v322
def k0_mult11 (i : grid0.Coords) (k0_t2 : Fin (k0_t2_loop i).trips) : BitVec 32 :=
  let c2_i32_189 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v331 : BitVec 32 := Scalar.muli c2_i32_189 arg14
  let c1_i32_190 : BitVec 32 := 1#32
  let v332 : BitVec 32 := Scalar.addi v331 c1_i32_190
  let c512_i32_191 : BitVec 32 := 512#32
  let v333 : BitVec 32 := Scalar.muli v332 c512_i32_191
  v333
def k0_off14 (i : grid0.Coords) (k0_t2 : Fin (k0_t2_loop i).trips) : Fin 3 → Nat :=
  let c0_199 : Index := 0#32
  let c0_200 : Index := 0#32
  let c2_i32_189 : BitVec 32 := 2#32
  let c0_i32_113 : BitVec 32 := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c0_i32_107 : BitVec 32 := 0#32
  let v197 : BitVec 1 := Scalar.cmpi .sgt v179 c0_i32_107
  let v198 : BitVec 32 := Scalar.extui v197
  let c0_i32_108 : BitVec 32 := 0#32
  let v199 : BitVec 1 := Scalar.cmpi .slt v179 c0_i32_108
  let v200 : BitVec 32 := Scalar.extui v199
  let v201 : BitVec 32 := Scalar.subi v198 v200
  let c2_i32 : BitVec 32 := 2#32
  let c0_i32_109 : BitVec 32 := 0#32
  let v202 : BitVec 1 := Scalar.cmpi .sgt c2_i32 c0_i32_109
  let v203 : BitVec 32 := Scalar.extui v202
  let c0_i32_110 : BitVec 32 := 0#32
  let v204 : BitVec 1 := Scalar.cmpi .slt c2_i32 c0_i32_110
  let v205 : BitVec 32 := Scalar.extui v204
  let v206 : BitVec 32 := Scalar.subi v203 v205
  let v207 : BitVec 1 := Scalar.cmpi .ne v201 v206
  let v208 : BitVec 32 := Scalar.remsi v179 c2_i32
  let c0_i32_111 : BitVec 32 := 0#32
  let v209 : BitVec 1 := Scalar.cmpi .ne v208 c0_i32_111
  let v210 : BitVec 1 := Scalar.andi v207 v209
  let v196 : BitVec 32 := Scalar.divsi v179 c2_i32
  let c1_i32_112 : BitVec 32 := 1#32
  let v211 : BitVec 32 := Scalar.subi v196 c1_i32_112
  let v212 : BitVec 32 := Scalar.select v210 v211 v196
  let v213 : BitVec 32 := Scalar.subi v212 c0_i32_113
  let c1_i32_115 : BitVec 32 := 1#32
  let v215 : BitVec 32 := Scalar.divsi v213 c1_i32_115
  let v216 : BitVec 32 := Scalar.muli v215 c1_i32_115
  let v217 : BitVec 32 := Scalar.addi c0_i32_113 v216
  let c1_i32_117 : BitVec 32 := 1#32
  let arg14 : BitVec 32 := Scf.iv v217 c1_i32_117 k0_t2
  let v331 : BitVec 32 := Scalar.muli c2_i32_189 arg14
  let c1_i32_190 : BitVec 32 := 1#32
  let v332 : BitVec 32 := Scalar.addi v331 c1_i32_190
  let c512_i32_191 : BitVec 32 := 512#32
  let v333 : BitVec 32 := Scalar.muli v332 c512_i32_191
  let v334 : BitVec 32 := v333
  let v348 : Index := Scalar.indexCast v334
  ![0, 0, v348.toNat]
def k0_cond1 (i : grid0.Coords) : BitVec 1 :=
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c2_i32_118 : BitVec 32 := 2#32
  let c0_i32_119 : BitVec 32 := 0#32
  let v220 : BitVec 1 := Scalar.cmpi .eq c2_i32_118 c0_i32_119
  let c1_i32_120 : BitVec 32 := 1#32
  let v221 : BitVec 32 := Scalar.select v220 c1_i32_120 c2_i32_118
  let v222 : BitVec 32 := Scalar.remsi v179 v221
  let c0_i32_122 : BitVec 32 := 0#32
  let v224 : BitVec 1 := Scalar.cmpi .slt v222 c0_i32_122
  let c0_i32_123 : BitVec 32 := 0#32
  let v225 : BitVec 1 := Scalar.cmpi .slt v221 c0_i32_123
  let v226 : BitVec 1 := Scalar.xori v224 v225
  let c0_i32_121 : BitVec 32 := 0#32
  let v223 : BitVec 1 := Scalar.cmpi .ne v222 c0_i32_121
  let v227 : BitVec 1 := Scalar.andi v226 v223
  let v228 : BitVec 32 := Scalar.addi v222 v221
  let v229 : BitVec 32 := Scalar.select v227 v228 v222
  let c1_i32_124 : BitVec 32 := 1#32
  let v230 : BitVec 1 := Scalar.cmpi .eq v229 c1_i32_124
  let v231 : BitVec 32 := Scalar.extui v230
  let c0_i32_125 : BitVec 32 := 0#32
  let v232 : BitVec 1 := Scalar.cmpi .ne v231 c0_i32_125
  v232

def k0_mult12 (i : grid0.Coords) : BitVec 32 :=
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c512_i32_157 : BitVec 32 := 512#32
  let v281 : BitVec 32 := Scalar.muli v179 c512_i32_157
  v281
def k0_off15 (i : grid0.Coords) : Fin 3 → Nat :=
  let c0_158 : Index := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c512_i32_157 : BitVec 32 := 512#32
  let v281 : BitVec 32 := Scalar.muli v179 c512_i32_157
  let v282 : BitVec 32 := v281
  let v283 : Index := Scalar.indexCast v282
  let c0_159 : Index := 0#32
  ![0, v283.toNat, 0]
def k0_mult13 (i : grid0.Coords) : BitVec 32 :=
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c1_i32_163 : BitVec 32 := 1#32
  let v290 : BitVec 32 := Scalar.subi v179 c1_i32_163
  let c512_i32_164 : BitVec 32 := 512#32
  let v291 : BitVec 32 := Scalar.muli v290 c512_i32_164
  v291
def k0_off16 (i : grid0.Coords) : Fin 3 → Nat :=
  let c0_172 : Index := 0#32
  let c0_173 : Index := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c1_i32_163 : BitVec 32 := 1#32
  let v290 : BitVec 32 := Scalar.subi v179 c1_i32_163
  let c512_i32_164 : BitVec 32 := 512#32
  let v291 : BitVec 32 := Scalar.muli v290 c512_i32_164
  let v292 : BitVec 32 := v291
  let v306 : Index := Scalar.indexCast v292
  ![0, 0, v306.toNat]
def k0_mult14 (i : grid0.Coords) : BitVec 32 :=
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c512_i32_179 : BitVec 32 := 512#32
  let v318 : BitVec 32 := Scalar.muli v179 c512_i32_179
  v318
def k0_off17 (i : grid0.Coords) : Fin 3 → Nat :=
  let c0_194 : Index := 0#32
  let c0_195 : Index := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c512_i32_179 : BitVec 32 := 512#32
  let v318 : BitVec 32 := Scalar.muli v179 c512_i32_179
  let v319 : BitVec 32 := v318
  let v358 : Index := Scalar.indexCast v319
  ![0, 0, v358.toNat]
def k0_cond2 (i : grid0.Coords) : BitVec 1 :=
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c2_i32_118 : BitVec 32 := 2#32
  let c0_i32_119 : BitVec 32 := 0#32
  let v220 : BitVec 1 := Scalar.cmpi .eq c2_i32_118 c0_i32_119
  let c1_i32_120 : BitVec 32 := 1#32
  let v221 : BitVec 32 := Scalar.select v220 c1_i32_120 c2_i32_118
  let v222 : BitVec 32 := Scalar.remsi v179 v221
  let c0_i32_122 : BitVec 32 := 0#32
  let v224 : BitVec 1 := Scalar.cmpi .slt v222 c0_i32_122
  let c0_i32_123 : BitVec 32 := 0#32
  let v225 : BitVec 1 := Scalar.cmpi .slt v221 c0_i32_123
  let v226 : BitVec 1 := Scalar.xori v224 v225
  let c0_i32_121 : BitVec 32 := 0#32
  let v223 : BitVec 1 := Scalar.cmpi .ne v222 c0_i32_121
  let v227 : BitVec 1 := Scalar.andi v226 v223
  let v228 : BitVec 32 := Scalar.addi v222 v221
  let v229 : BitVec 32 := Scalar.select v227 v228 v222
  let c1_i32_124 : BitVec 32 := 1#32
  let v230 : BitVec 1 := Scalar.cmpi .eq v229 c1_i32_124
  let v_true : BitVec 1 := 1#1
  let v233 : BitVec 1 := Scalar.xori v230 v_true
  let v234 : BitVec 32 := Scalar.extui v233
  let c0_i32_126 : BitVec 32 := 0#32
  let v235 : BitVec 1 := Scalar.cmpi .ne v234 c0_i32_126
  v235

def k0_mult15 (i : grid0.Coords) : BitVec 32 :=
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c512_i32_157 : BitVec 32 := 512#32
  let v281 : BitVec 32 := Scalar.muli v179 c512_i32_157
  v281
def k0_off18 (i : grid0.Coords) : Fin 3 → Nat :=
  let c0_172 : Index := 0#32
  let c0_173 : Index := 0#32
  let arg1 : BitVec 32 := BitVec.ofNat 32 (i 1).val
  let c256_i32_4 : BitVec 32 := 256#32
  let v32 : BitVec 32 := Scalar.muli arg1 c256_i32_4
  let v33 : BitVec 32 := v32
  let c0_i32_89 : BitVec 32 := 0#32
  let v164 : BitVec 1 := Scalar.cmpi .sgt v33 c0_i32_89
  let v165 : BitVec 32 := Scalar.extui v164
  let c0_i32_90 : BitVec 32 := 0#32
  let v166 : BitVec 1 := Scalar.cmpi .slt v33 c0_i32_90
  let v167 : BitVec 32 := Scalar.extui v166
  let v168 : BitVec 32 := Scalar.subi v165 v167
  let c512_i32 : BitVec 32 := 512#32
  let c0_i32_91 : BitVec 32 := 0#32
  let v169 : BitVec 1 := Scalar.cmpi .sgt c512_i32 c0_i32_91
  let v170 : BitVec 32 := Scalar.extui v169
  let c0_i32_92 : BitVec 32 := 0#32
  let v171 : BitVec 1 := Scalar.cmpi .slt c512_i32 c0_i32_92
  let v172 : BitVec 32 := Scalar.extui v171
  let v173 : BitVec 32 := Scalar.subi v170 v172
  let v174 : BitVec 1 := Scalar.cmpi .ne v168 v173
  let v175 : BitVec 32 := Scalar.remsi v33 c512_i32
  let c0_i32_93 : BitVec 32 := 0#32
  let v176 : BitVec 1 := Scalar.cmpi .ne v175 c0_i32_93
  let v177 : BitVec 1 := Scalar.andi v174 v176
  let v163 : BitVec 32 := Scalar.divsi v33 c512_i32
  let c1_i32_94 : BitVec 32 := 1#32
  let v178 : BitVec 32 := Scalar.subi v163 c1_i32_94
  let v179 : BitVec 32 := Scalar.select v177 v178 v163
  let c512_i32_157 : BitVec 32 := 512#32
  let v281 : BitVec 32 := Scalar.muli v179 c512_i32_157
  let v282 : BitVec 32 := v281
  let v321 : Index := Scalar.indexCast v282
  ![0, 0, v321.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x144x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "exp2_scale" => some (((Real.sqrt 96)⁻¹ * (Real.log 2)⁻¹ : ℝ) : EReal)
  | "mask" => some ⊥
  | _ => none
-- ==== ReferenceIdeal.lean ====
abbrev S4x4096x8x64 : Shape := ⟨4, ![4, 4096, 8, 64]⟩
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S4x4096x4096x8 : Shape := ⟨4, ![4, 4096, 4096, 8]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x4096x128 : Shape := ⟨4, ![4, 8, 4096, 128]⟩

abbrev nBuf : Space → Nat
  | .hbm => 28
  | .vmem => 2
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8x128, .f32⟩
  | .hbm, ⟨4, _⟩ => ⟨S4x4096x8x32, .f32⟩
  | .hbm, ⟨5, _⟩ => ⟨S4x4096x128, .f32⟩
  | .hbm, ⟨6, _⟩ => ⟨S4x4096x32, .f32⟩
  | .hbm, ⟨7, _⟩ => ⟨S4x4096x4096x8, .f32⟩
  | .hbm, ⟨8, _⟩ => ⟨S4x8x4096x4096, .f32⟩
  | .hbm, ⟨9, _⟩ => ⟨S4x4096x4096x8, .f32⟩
  | .hbm, ⟨10, _⟩ => ⟨S4x8x4096x4096, .f32⟩
  | .hbm, ⟨11, _⟩ => ⟨S4x8x4096x4096, .f32⟩
  | .hbm, ⟨12, _⟩ => ⟨S4x8x4096x4096, .f32⟩
  | .hbm, ⟨13, _⟩ => ⟨S_, .f32⟩
  | .hbm, ⟨14, _⟩ => ⟨S4x8x4096, .f32⟩
  | .hbm, ⟨15, _⟩ => ⟨S_, .f32⟩
  | .hbm, ⟨16, _⟩ => ⟨S4x8x4096, .f32⟩
  | .hbm, ⟨17, _⟩ => ⟨S4x8x4096, .f32⟩
  | .hbm, ⟨18, _⟩ => ⟨S4x8x4096x1, .f32⟩
  | .hbm, ⟨19, _⟩ => ⟨S4x8x4096x4096, .f32⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096, .f32⟩
  | .hbm, ⟨24, _⟩ => ⟨S4x8x4096x1, .f32⟩
  | .hbm, ⟨25, _⟩ => ⟨S4x8x4096x4096, .f32⟩
  | .hbm, ⟨26, _⟩ => ⟨S4x8x4096x4096, .f32⟩
  | .hbm, ⟨27, _⟩ => ⟨S4x8x4096x128, .f32⟩
  | .local _ .vmem, ⟨0, _⟩ => ⟨S4x8x4096x4096, .f32⟩
  | .local _ .vmem, ⟨1, _⟩ => ⟨S4x8x4096x4096, .f32⟩
  | _, _ => ⟨S4x4096x8x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "mask" => some ⊥
  | "scale" => some (((Real.sqrt 96)⁻¹ : ℝ) : EReal)
  | _ => none

abbrev grid0 : Pipeline.Grid := .none

abbrev stage0_0 : Fin 1 → Memref sig .tc .vmem S4x8x4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x4096x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proj.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x1024 : Shape := ⟨2, ![1, 1024]⟩
abbrev S1024x32 : Shape := ⟨2, ![1024, 32]⟩
abbrev S1024x96 : Shape := ⟨2, ![1024, 96]⟩
abbrev S1024x512 : Shape := ⟨2, ![1024, 512]⟩
abbrev S1024x1408 : Shape := ⟨2, ![1024, 1408]⟩
abbrev S1024x16 : Shape := ⟨2, ![1024, 16]⟩
abbrev S1024x2176 : Shape := ⟨2, ![1024, 2176]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S256x2560 : Shape := ⟨2, ![256, 2560]⟩
abbrev S8x8 : Shape := ⟨2, ![8, 8]⟩
abbrev S8x64x128 : Shape := ⟨3, ![8, 64, 128]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S1x256 : Shape := ⟨2, ![1, 256]⟩
abbrev S128x256 : Shape := ⟨2, ![128, 256]⟩
abbrev S1x128x256 : Shape := ⟨3, ![1, 128, 256]⟩
abbrev S4x128x256 : Shape := ⟨3, ![4, 128, 256]⟩
abbrev S1x128 : Shape := ⟨2, ![1, 128]⟩
abbrev S4x512x4096 : Shape := ⟨3, ![4, 512, 4096]⟩
abbrev S4x4096x128 : Shape := ⟨3, ![4, 4096, 128]⟩
abbrev S4x4096x32 : Shape := ⟨3, ![4, 4096, 32]⟩
abbrev S4x4x4096x128 : Shape := ⟨4, ![4, 4, 4096, 128]⟩
abbrev S4x8x4096x256 : Shape := ⟨4, ![4, 8, 4096, 256]⟩
abbrev S4x4096x256 : Shape := ⟨3, ![4, 4096, 256]⟩
abbrev S4x144x4096 : Shape := ⟨3, ![4, 144, 4096]⟩
abbrev S1x512x1024 : Shape := ⟨3, ![1, 512, 1024]⟩
abbrev S512x128 : Shape := ⟨2, ![512, 128]⟩
abbrev S1x512x512 : Shape := ⟨3, ![1, 512, 512]⟩
abbrev S1x512x128 : Shape := ⟨3, ![1, 512, 128]⟩
abbrev S1x512x32 : Shape := ⟨3, ![1, 512, 32]⟩
abbrev S1x4x512x128 : Shape := ⟨4, ![1, 4, 512, 128]⟩
abbrev S1x8x512x256 : Shape := ⟨4, ![1, 8, 512, 256]⟩
abbrev S1x512x256 : Shape := ⟨3, ![1, 512, 256]⟩
abbrev S1x144x512 : Shape := ⟨3, ![1, 144, 512]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2176 : Shape := ⟨2, ![512, 2176]⟩
abbrev S512x512 : Shape := ⟨2, ![512, 512]⟩
abbrev S1x1x512x128 : Shape := ⟨4, ![1, 1, 512, 128]⟩
abbrev S512x2560 : Shape := ⟨2, ![512, 2560]⟩
abbrev S512x32 : Shape := ⟨2, ![512, 32]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 106
  | .vmem => 40
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x1952, .f32⟩
  | .hbm, ⟨8, _⟩ => ⟨S256, .f32⟩
  | .hbm, ⟨9, _⟩ => ⟨S256x768, .f32⟩
  | .hbm, ⟨10, _⟩ => ⟨S128, .f32⟩
  | .hbm, ⟨11, _⟩ => ⟨S128x8x64, .f32⟩
  | .hbm, ⟨12, _⟩ => ⟨S4096, .i32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096, .f32⟩
  | .hbm, ⟨22, _⟩ => ⟨S4096x1, .f32⟩
  | .hbm, ⟨23, _⟩ => ⟨S1x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S_, .f32⟩
  | .hbm, ⟨30, _⟩ => ⟨S4096x96, .f32⟩
  | .hbm, ⟨31, _⟩ => ⟨S4096x128, .f32⟩
  | .hbm, ⟨32, _⟩ => ⟨S4096x16, .f32⟩
  | .hbm, ⟨33, _⟩ => ⟨S4096x128, .f32⟩
  | .hbm, ⟨34, _⟩ => ⟨S1x1024, .f32⟩
  | .hbm, ⟨35, _⟩ => ⟨S1024x2816, .bf16⟩
  | .hbm, ⟨36, _⟩ => ⟨S1024x2816, .bf16⟩
  | .hbm, ⟨37, _⟩ => ⟨S2816x1024, .bf16⟩
  | .hbm, ⟨38, _⟩ => ⟨S1x1024, .f32⟩
  | .hbm, ⟨39, _⟩ => ⟨S1024x32, .f32⟩
  | .hbm, ⟨40, _⟩ => ⟨S_, .f32⟩
  | .hbm, ⟨41, _⟩ => ⟨S1024x96, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x1408, .f32⟩
  | .hbm, ⟨47, _⟩ => ⟨S1024x16, .f32⟩
  | .hbm, ⟨48, _⟩ => ⟨S1024x16, .f32⟩
  | .hbm, ⟨49, _⟩ => ⟨S1024x2176, .f32⟩
  | .hbm, ⟨50, _⟩ => ⟨S1024x2176, .bf16⟩
  | .hbm, ⟨51, _⟩ => ⟨S256x8x96, .f32⟩
  | .hbm, ⟨52, _⟩ => ⟨S256x8x64, .f32⟩
  | .hbm, ⟨53, _⟩ => ⟨S256x512, .f32⟩
  | .hbm, ⟨54, _⟩ => ⟨S256x8x32, .f32⟩
  | .hbm, ⟨55, _⟩ => ⟨S256x8x16, .f32⟩
  | .hbm, ⟨56, _⟩ => ⟨S256x8x16, .f32⟩
  | .hbm, ⟨57, _⟩ => ⟨S256x8x32, .f32⟩
  | .hbm, ⟨58, _⟩ => ⟨S_, .i32⟩
  | .hbm, ⟨59, _⟩ => ⟨S_, .f32⟩
  | .hbm, ⟨60, _⟩ => ⟨S256x8x128, .f32⟩
  | .hbm, ⟨61, _⟩ => ⟨S256x1024, .f32⟩
  | .hbm, ⟨62, _⟩ => ⟨S_, .i32⟩
  | .hbm, ⟨63, _⟩ => ⟨S_, .f32⟩
  | .hbm, ⟨64, _⟩ => ⟨S256x8x128, .f32⟩
  | .hbm, ⟨65, _⟩ => ⟨S256x1024, .f32⟩
  | .hbm, ⟨66, _⟩ => ⟨S256x2560, .f32⟩
  | .hbm, ⟨67, _⟩ => ⟨S256x2560, .bf16⟩
  | .hbm, ⟨68, _⟩ => ⟨S8x8, .i32⟩
  | .hbm, ⟨69, _⟩ => ⟨S8x8, .i32⟩
  | .hbm, ⟨70, _⟩ => ⟨S_, .i32⟩
  | .hbm, ⟨71, _⟩ => ⟨S8x8, .i32⟩
  | .hbm, ⟨72, _⟩ => ⟨S8x8, .i32⟩
  | .hbm, ⟨73, _⟩ => ⟨S8x8, .i1⟩
  | .hbm, ⟨74, _⟩ => ⟨S8x8, .f32⟩
  | .hbm, ⟨75, _⟩ => ⟨S8x64x128, .f32⟩
  | .hbm, ⟨76, _⟩ => ⟨S8x64x1x128, .f32⟩
  | .hbm, ⟨77, _⟩ => ⟨S8x1x8x1, .f32⟩
  | .hbm, ⟨78, _⟩ => ⟨S8x64x8x128, .f32⟩
  | .hbm, ⟨79, _⟩ => ⟨S8x64x8x128, .f32⟩
  | .hbm, ⟨80, _⟩ => ⟨S8x64x8x128, .f32⟩
  | .hbm, ⟨81, _⟩ => ⟨S512x1024, .f32⟩
  | .hbm, ⟨82, _⟩ => ⟨S1x1024, .f32⟩
  | .hbm, ⟨83, _⟩ => ⟨S1x256, .f32⟩
  | .hbm, ⟨84, _⟩ => ⟨S128x256, .f32⟩
  | .hbm, ⟨85, _⟩ => ⟨S128x256, .f32⟩
  | .hbm, ⟨86, _⟩ => ⟨S128x256, .f32⟩
  | .hbm, ⟨87, _⟩ => ⟨S128x256, .f32⟩
  | .hbm, ⟨88, _⟩ => ⟨S1x128x256, .f32⟩
  | .hbm, ⟨89, _⟩ => ⟨S1x128x256, .f32⟩
  | .hbm, ⟨90, _⟩ => ⟨S1x128x256, .f32⟩
  | .hbm, ⟨91, _⟩ => ⟨S1x128x256, .f32⟩
  | .hbm, ⟨92, _⟩ => ⟨S4x128x256, .f32⟩
  | .hbm, ⟨93, _⟩ => ⟨S4x128x256, .bf16⟩
  | .hbm, ⟨94, _⟩ => ⟨S1x128, .f32⟩
  | .hbm, ⟨95, _⟩ => ⟨S4x4096x1024, .f32⟩
  | .hbm, ⟨96, _⟩ => ⟨S4x512x4096, .f32⟩
  | .hbm, ⟨97, _⟩ => ⟨S4x512x4096, .f32⟩
  | .hbm, ⟨98, _⟩ => ⟨S4x4096x128, .f32⟩
  | .hbm, ⟨99, _⟩ => ⟨S4x4096x32, .f32⟩
  | .hbm, ⟨100, _⟩ => ⟨S4x4x4096x128, .bf16⟩
  | .hbm, ⟨101, _⟩ => ⟨S4x4x4096x128, .bf16⟩
  | .hbm, ⟨102, _⟩ => ⟨S4x4x4096x128, .bf16⟩
  | .hbm, ⟨103, _⟩ => ⟨S4x8x4096x256, .bf16⟩
  | .hbm, ⟨104, _⟩ => ⟨S4x4096x256, .bf16⟩
  | .hbm, ⟨105, _⟩ => ⟨S4x144x4096, .bf16⟩
  | .local _ .vmem, ⟨0, _⟩ => ⟨S1x512x1024, .f32⟩
  | .local _ .vmem, ⟨1, _⟩ => ⟨S1x512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S1024x2176, .bf16⟩
  | .local _ .vmem, ⟨13, _⟩ => ⟨S1x256, .f32⟩
  | .local _ .vmem, ⟨14, _⟩ => ⟨S256x2560, .bf16⟩
  | .local _ .vmem, ⟨15, _⟩ => ⟨S4x128x256, .bf16⟩
  | .local _ .vmem, ⟨16, _⟩ => ⟨S1x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x128, .f32⟩
  | .local _ .vmem, ⟨24, _⟩ => ⟨S1x512x128, .f32⟩
  | .local _ .vmem, ⟨25, _⟩ => ⟨S1x512x32, .f32⟩
  | .local _ .vmem, ⟨26, _⟩ => ⟨S1x512x32, .f32⟩
  | .local _ .vmem, ⟨27, _⟩ => ⟨S1x4x512x128, .bf16⟩
  | .local _ .vmem, ⟨28, _⟩ => ⟨S1x4x512x128, .bf16⟩
  | .local _ .vmem, ⟨29, _⟩ => ⟨S1x4x512x128, .bf16⟩
  | .local _ .vmem, ⟨30, _⟩ => ⟨S1x4x512x128, .bf16⟩
  | .local _ .vmem, ⟨31, _⟩ => ⟨S1x4x512x128, .bf16⟩
  | .local _ .vmem, ⟨32, _⟩ => ⟨S1x4x512x128, .bf16⟩
  | .local _ .vmem, ⟨33, _⟩ => ⟨S1x8x512x256, .bf16⟩
  | .local _ .vmem, ⟨34, _⟩ => ⟨S1x8x512x256, .bf16⟩
  | .local _ .vmem, ⟨35, _⟩ => ⟨S1x512x256, .bf16⟩
  | .local _ .vmem, ⟨36, _⟩ => ⟨S1x512x256, .bf16⟩
  | .local _ .vmem, ⟨37, _⟩ => ⟨S1x144x512, .bf16⟩
  | .local _ .vmem, ⟨38, _⟩ => ⟨S1x144x512, .bf16⟩
  | .local _ .vmem, ⟨39, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_c_4 : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73_0 : Ref sig .tc := ⟨.hbm, 95, rfl⟩
abbrev main_v73_1 : Ref sig .tc := ⟨.hbm, 96, rfl⟩
abbrev main_v73_2 : Ref sig .tc := ⟨.hbm, 97, rfl⟩
abbrev main_v73_3 : Ref sig .tc := ⟨.hbm, 98, rfl⟩
abbrev main_v73_4 : Ref sig .tc := ⟨.hbm, 99, rfl⟩
abbrev main_v73_5 : Ref sig .tc := ⟨.hbm, 100, rfl⟩
abbrev main_v73_6 : Ref sig .tc := ⟨.hbm, 101, rfl⟩
abbrev main_v73_7 : Ref sig .tc := ⟨.hbm, 102, rfl⟩
abbrev main_v73_8 : Ref sig .tc := ⟨.hbm, 103, rfl⟩
abbrev main_v73_9 : Ref sig .tc := ⟨.hbm, 104, rfl⟩
abbrev main_v73_10 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2176 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x144x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== ProjRefIdeal.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S4x4096x1952 : Shape := ⟨3, ![4, 4096, 1952]⟩
abbrev S4x4096x512 : Shape := ⟨3, ![4, 4096, 512]⟩
abbrev S4x4096x128 : Shape := ⟨3, ![4, 4096, 128]⟩
abbrev S1x1x128 : Shape := ⟨3, ![1, 1, 128]⟩
abbrev S4x4096x32 : Shape := ⟨3, ![4, 4096, 32]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4x4096x16 : Shape := ⟨3, ![4, 4096, 16]⟩
abbrev S1x4096x16 : Shape := ⟨3, ![1, 4096, 16]⟩
abbrev S4x512x4096 : Shape := ⟨3, ![4, 512, 4096]⟩

abbrev nBuf : Space → Nat
  | .hbm => 134
  | .vmem => 0
  | .smem => 0
  | _ => 0

abbrev hbmTy0_0 (i : Nat) : BufTy := match i % 128 with
  | 0 => ⟨S4x4096x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S1024x1952, .f32⟩
  | 8 => ⟨S256, .f32⟩
  | 9 => ⟨S256x768, .f32⟩
  | 10 => ⟨S128, .f32⟩
  | 11 => ⟨S128x8x64, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x2816, .f32⟩
  | 29 => ⟨S4x4096x2816, .f32⟩
  | 30 => ⟨S4x4096x2816, .f32⟩
  | 31 => ⟨S_, .f32⟩
  | 32 => ⟨S4x4096x2816, .f32⟩
  | 33 => ⟨S4x4096x2816, .f32⟩
  | 34 => ⟨S_, .f32⟩
  | 35 => ⟨S4x4096x2816, .f32⟩
  | 36 => ⟨S4x4096x2816, .f32⟩
  | 37 => ⟨S4x4096x2816, .f32⟩
  | 38 => ⟨S4x4096x2816, .f32⟩
  | 39 => ⟨S4x4096x2816, .f32⟩
  | 40 => ⟨S4x4096x1024, .f32⟩
  | 41 => ⟨S4x4096x1024, .f32⟩
  | 42 => ⟨S_, .f32⟩
  | 43 => ⟨S4x4096, .f32⟩
  | 44 => ⟨S4x4096x1, .f32⟩
  | 45 => ⟨S_, .f32⟩
  | 46 => ⟨S4x4096x1, .f32⟩
  | 47 => ⟨S4x4096x1, .f32⟩
  | 48 => ⟨S_, .f32⟩
  | 49 => ⟨S4x4096x1, .f32⟩
  | 50 => ⟨S4x4096x1, .f32⟩
  | 51 => ⟨S4x4096x1, .f32⟩
  | 52 => ⟨S4x4096x1024, .f32⟩
  | 53 => ⟨S4x4096x1024, .f32⟩
  | 54 => ⟨S1x1x1024, .f32⟩
  | 55 => ⟨S4x4096x1024, .f32⟩
  | 56 => ⟨S4x4096x1024, .f32⟩
  | 57 => ⟨S_, .f32⟩
  | 58 => ⟨S4x4096x1024, .f32⟩
  | 59 => ⟨S4x4096x1024, .f32⟩
  | 60 => ⟨S4x4096x1024, .f32⟩
  | 61 => ⟨S4x4096x1024, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S_, .f32⟩
  | 69 => ⟨S4x4096x1, .f32⟩
  | 70 => ⟨S4x4096x1, .f32⟩
  | 71 => ⟨S4x4096x1, .f32⟩
  | 72 => ⟨S4x4096x1024, .f32⟩
  | 73 => ⟨S4x4096x1024, .f32⟩
  | 74 => ⟨S1x1x1024, .f32⟩
  | 75 => ⟨S4x4096x1024, .f32⟩
  | 76 => ⟨S4x4096x1024, .f32⟩
  | 77 => ⟨S4x4096x1952, .f32⟩
  | 78 => ⟨S4x4096x512, .f32⟩
  | 79 => ⟨S4x4096x512, .f32⟩
  | 80 => ⟨S4x4096x128, .f32⟩
  | 81 => ⟨S4x4096x128, .f32⟩
  | 82 => ⟨S_, .f32⟩
  | 83 => ⟨S4x4096, .f32⟩
  | 84 => ⟨S4x4096x1, .f32⟩
  | 85 => ⟨S_, .f32⟩
  | 86 => ⟨S4x4096x1, .f32⟩
  | 87 => ⟨S4x4096x1, .f32⟩
  | 88 => ⟨S_, .f32⟩
  | 89 => ⟨S4x4096x1, .f32⟩
  | 90 => ⟨S4x4096x1, .f32⟩
  | 91 => ⟨S4x4096x1, .f32⟩
  | 92 => ⟨S4x4096x128, .f32⟩
  | 93 => ⟨S4x4096x128, .f32⟩
  | 94 => ⟨S1x1x128, .f32⟩
  | 95 => ⟨S4x4096x128, .f32⟩
  | 96 => ⟨S4x4096x128, .f32⟩
  | 97 => ⟨S4x4096x32, .f32⟩
  | 98 => ⟨S4096, .i32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S4096, .f32⟩
  | 108 => ⟨S4096x1, .f32⟩
  | 109 => ⟨S1x16, .f32⟩
  | 110 => ⟨S4096x16, .f32⟩
  | 111 => ⟨S4096x16, .f32⟩
  | 112 => ⟨S4096x16, .f32⟩
  | 113 => ⟨S4096x16, .f32⟩
  | 114 => ⟨S4096x16, .f32⟩
  | 115 => ⟨S4x4096x16, .f32⟩
  | 116 => ⟨S4x4096x16, .f32⟩
  | 117 => ⟨S1x4096x16, .f32⟩
  | 118 => ⟨S4x4096x16, .f32⟩
  | 119 => ⟨S4x4096x16, .f32⟩
  | 120 => ⟨S1x4096x16, .f32⟩
  | 121 => ⟨S4x4096x16, .f32⟩
  | 122 => ⟨S4x4096x16, .f32⟩
  | 123 => ⟨S4x4096x16, .f32⟩
  | 124 => ⟨S1x4096x16, .f32⟩
  | 125 => ⟨S4x4096x16, .f32⟩
  | 126 => ⟨S4x4096x16, .f32⟩
  | 127 => ⟨S1x4096x16, .f32⟩
  | _ => ⟨S4x4096x1024, .f32⟩

abbrev hbmTy0_1 (i : Nat) : BufTy := match i % 128 with
  | 0 => ⟨S4x4096x16, .f32⟩
  | 1 => ⟨S4x4096x16, .f32⟩
  | 2 => ⟨S4x4096x16, .f32⟩
  | 3 => ⟨S4x4096x32, .f32⟩
  | 4 => ⟨S4x512x4096, .f32⟩
  | 5 => ⟨S4x512x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== Out.lean ====
abbrev S4x4096x8x64 : Shape := ⟨4, ![4, 4096, 8, 64]⟩
abbrev S4x4096x8x128 : Shape := ⟨4, ![4, 4096, 8, 128]⟩
abbrev S4x4096x1024 : Shape := ⟨3, ![4, 4096, 1024]⟩
abbrev S512 : Shape := ⟨1, ![512]⟩
abbrev S128x8x64 : Shape := ⟨3, ![128, 8, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x4096x4x128 : Shape := ⟨4, ![4, 4096, 4, 128]⟩
abbrev S4x4x4096x128 : Shape := ⟨4, ![4, 4, 4096, 128]⟩
abbrev S4x8x4096x128 : Shape := ⟨4, ![4, 8, 4096, 128]⟩
abbrev S8x8 : Shape := ⟨2, ![8, 8]⟩
abbrev S_ : Shape := ⟨0, ![]⟩
abbrev S8x128x64 : Shape := ⟨3, ![8, 128, 64]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S1024x512 : Shape := ⟨2, ![1024, 512]⟩
abbrev S1x512 : Shape := ⟨2, ![1, 512]⟩
abbrev S256x128 : Shape := ⟨2, ![256, 128]⟩
abbrev S1x256x128 : Shape := ⟨3, ![1, 256, 128]⟩
abbrev S4x256x128 : Shape := ⟨3, ![4, 256, 128]⟩
abbrev S1x1024 : Shape := ⟨2, ![1, 1024]⟩
abbrev S1x4x512x128 : Shape := ⟨4, ![1, 4, 512, 128]⟩
abbrev S1x8x512x128 : Shape := ⟨4, ![1, 8, 512, 128]⟩
abbrev S1x512x1024 : Shape := ⟨3, ![1, 512, 1024]⟩
abbrev S512x2816 : Shape := ⟨2, ![512, 2816]⟩
abbrev S1x1x512x128 : Shape := ⟨4, ![1, 1, 512, 128]⟩
abbrev S512x128 : Shape := ⟨2, ![512, 128]⟩
abbrev S512x512 : Shape := ⟨2, ![512, 512]⟩
abbrev S512x1024 : Shape := ⟨2, ![512, 1024]⟩
abbrev S512x256 : Shape := ⟨2, ![512, 256]⟩
abbrev S512x1 : Shape := ⟨2, ![512, 1]⟩
abbrev S1024x256 : Shape := ⟨2, ![1024, 256]⟩

abbrev nBuf : Space → Nat
  | .hbm => 50
  | .vmem => 19
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x128, .f32⟩
  | .hbm, ⟨2, _⟩ => ⟨S4x4096x1024, .f32⟩
  | .hbm, ⟨3, _⟩ => ⟨S512, .f32⟩
  | .hbm, ⟨4, _⟩ => ⟨S512, .f32⟩
  | .hbm, ⟨5, _⟩ => ⟨S128x8x64, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S4x4096x4x128, .f32⟩
  | .hbm, ⟨14, _⟩ => ⟨S4x4x4096x128, .f32⟩
  | .hbm, ⟨15, _⟩ => ⟨S4x8x4096x128, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x128x64, .f32⟩
  | .hbm, ⟨24, _⟩ => ⟨S8x128x1x64, .f32⟩
  | .hbm, ⟨25, _⟩ => ⟨S8x1x8x1, .f32⟩
  | .hbm, ⟨26, _⟩ => ⟨S8x128x8x64, .f32⟩
  | .hbm, ⟨27, _⟩ => ⟨S8x128x8x64, .f32⟩
  | .hbm, ⟨28, _⟩ => ⟨S8x128x8x64, .f32⟩
  | .hbm, ⟨29, _⟩ => ⟨S1024x512, .f32⟩
  | .hbm, ⟨30, _⟩ => ⟨S1x512, .f32⟩
  | .hbm, ⟨31, _⟩ => ⟨S1x512, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S1x256x128, .f32⟩
  | .hbm, ⟨37, _⟩ => ⟨S1x256x128, .f32⟩
  | .hbm, ⟨38, _⟩ => ⟨S1x256x128, .f32⟩
  | .hbm, ⟨39, _⟩ => ⟨S1x256x128, .f32⟩
  | .hbm, ⟨40, _⟩ => ⟨S4x256x128, .f32⟩
  | .hbm, ⟨41, _⟩ => ⟨S4x256x128, .bf16⟩
  | .hbm, ⟨42, _⟩ => ⟨S1024x1024, .bf16⟩
  | .hbm, ⟨43, _⟩ => ⟨S1x1024, .f32⟩
  | .hbm, ⟨44, _⟩ => ⟨S1x1024, .f32⟩
  | .hbm, ⟨45, _⟩ => ⟨S1024x2816, .bf16⟩
  | .hbm, ⟨46, _⟩ => ⟨S1024x2816, .bf16⟩
  | .hbm, ⟨47, _⟩ => ⟨S2816x1024, .bf16⟩
  | .hbm, ⟨48, _⟩ => ⟨S1x1024, .f32⟩
  | .hbm, ⟨49, _⟩ => ⟨S4x4096x1024, .f32⟩
  | .local _ .vmem, ⟨0, _⟩ => ⟨S1x4x512x128, .f32⟩
  | .local _ .vmem, ⟨1, _⟩ => ⟨S1x4x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x512, .f32⟩
  | .local _ .vmem, ⟨7, _⟩ => ⟨S1x512, .f32⟩
  | .local _ .vmem, ⟨8, _⟩ => ⟨S4x256x128, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x2816, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== OutRefIdeal.lean ====
abbrev S4x4096x8x64 : Shape := ⟨4, ![4, 4096, 8, 64]⟩
abbrev S4x4096x8x128 : Shape := ⟨4, ![4, 4096, 8, 128]⟩
abbrev S4x4096x1024 : Shape := ⟨3, ![4, 4096, 1024]⟩
abbrev S512 : Shape := ⟨1, ![512]⟩
abbrev S128x8x64 : Shape := ⟨3, ![128, 8, 64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x64x4x4096 : Shape := ⟨4, ![8, 64, 4, 4096]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x1x1024 : Shape := ⟨3, ![1, 1, 1024]⟩
abbrev S4x4096x2816 : Shape := ⟨3, ![4, 4096, 2816]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x128, .f32⟩
  | .hbm, ⟨2, _⟩ => ⟨S4x4096x1024, .f32⟩
  | .hbm, ⟨3, _⟩ => ⟨S512, .f32⟩
  | .hbm, ⟨4, _⟩ => ⟨S512, .f32⟩
  | .hbm, ⟨5, _⟩ => ⟨S128x8x64, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S8x64x4x4096, .f32⟩
  | .hbm, ⟨14, _⟩ => ⟨S4x4096x8x64, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x512, .f32⟩
  | .hbm, ⟨29, _⟩ => ⟨S4x4096x512, .f32⟩
  | .hbm, ⟨30, _⟩ => ⟨S1x1x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x512, .f32⟩
  | .hbm, ⟨45, _⟩ => ⟨S4x4096x512, .f32⟩
  | .hbm, ⟨46, _⟩ => ⟨S1x1x512, .f32⟩
  | .hbm, ⟨47, _⟩ => ⟨S4x4096x512, .f32⟩
  | .hbm, ⟨48, _⟩ => ⟨S4x4096x512, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x1024, .f32⟩
  | .hbm, ⟨80, _⟩ => ⟨S4x4096x1024, .f32⟩
  | .hbm, ⟨81, _⟩ => ⟨S1x1x1024, .f32⟩
  | .hbm, ⟨82, _⟩ => ⟨S4x4096x1024, .f32⟩
  | .hbm, ⟨83, _⟩ => ⟨S4x4096x1024, .f32⟩
  | .hbm, ⟨84, _⟩ => ⟨S4x4096x2816, .f32⟩
  | .hbm, ⟨85, _⟩ => ⟨S4x4096x2816, .f32⟩
  | .hbm, ⟨86, _⟩ => ⟨S4x4096x2816, .f32⟩
  | .hbm, ⟨87, _⟩ => ⟨S_, .f32⟩
  | .hbm, ⟨88, _⟩ => ⟨S4x4096x2816, .f32⟩
  | .hbm, ⟨89, _⟩ => ⟨S4x4096x2816, .f32⟩
  | .hbm, ⟨90, _⟩ => ⟨S_, .f32⟩
  | .hbm, ⟨91, _⟩ => ⟨S4x4096x2816, .f32⟩
  | .hbm, ⟨92, _⟩ => ⟨S4x4096x2816, .f32⟩
  | .hbm, ⟨93, _⟩ => ⟨S4x4096x2816, .f32⟩
  | .hbm, ⟨94, _⟩ => ⟨S4x4096x2816, .f32⟩
  | .hbm, ⟨95, _⟩ => ⟨S4x4096x2816, .f32⟩
  | .hbm, ⟨96, _⟩ => ⟨S4x4096x1024, .f32⟩
  | .hbm, ⟨97, _⟩ => ⟨S4x4096x1024, .f32⟩
  | .hbm, ⟨98, _⟩ => ⟨S_, .f32⟩
  | .hbm, ⟨99, _⟩ => ⟨S4x4096, .f32⟩
  | .hbm, ⟨100, _⟩ => ⟨S4x4096x1, .f32⟩
  | .hbm, ⟨101, _⟩ => ⟨S_, .f32⟩
  | .hbm, ⟨102, _⟩ => ⟨S4x4096x1, .f32⟩
  | .hbm, ⟨103, _⟩ => ⟨S4x4096x1, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1, .f32⟩
  | .hbm, ⟨108, _⟩ => ⟨S4x4096x1024, .f32⟩
  | .hbm, ⟨109, _⟩ => ⟨S4x4096x1024, .f32⟩
  | .hbm, ⟨110, _⟩ => ⟨S1x1x1024, .f32⟩
  | .hbm, ⟨111, _⟩ => ⟨S4x4096x1024, .f32⟩
  | .hbm, ⟨112, _⟩ => ⟨S4x4096x1024, .f32⟩
  | .hbm, ⟨113, _⟩ => ⟨S_, .f32⟩
  | .hbm, ⟨114, _⟩ => ⟨S4x4096x1024, .f32⟩
  | .hbm, ⟨115, _⟩ => ⟨S4x4096x1024, .f32⟩
  | .hbm, ⟨116, _⟩ => ⟨S4x4096x1024, .f32⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩

abbrev nD : Nat := 1
abbrev τ : Topo := Topo.v7x

variable {F : FTy → Type} [FloatOps F]
-- ==== Proof.Attn.Kit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What core `c`'s buffers hold once the host's own operations are done. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to its kernel launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host leaves argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host leaves argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host leaves argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host leaves argument 3 as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host leaves argument 4 as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host leaves argument 5 as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host leaves argument 6 as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block of grid point `t`, read from the array it is cut from. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0 holds its block when the body starts. -/
theorem before_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block when the body starts. -/
theorem before_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block when the body starts. -/
theorem before_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block when the body starts. -/
theorem before_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 holds its block when the body starts. -/
theorem before_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 holds its block when the body starts. -/
theorem before_of5 {c : Dev nD} (dat : Dat τ (Elt F) Unit ℕ (UR sig nD τ) ℕ cfg0 c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The odd branch's condition over the grid. -/
theorem hodd : ∀ t : Fin (cfg0 (F := F)).N, k0_cond1 (grid0.coords t) = 1#1 ↔ (t.val % 4 = 2 ∨ t.val % 4 = 3) :=
  (by decide +kernel : ∀ t : Fin grid0.N, k0_cond1 (grid0.coords t) = 1#1 ↔ (t.val % 4 = 2 ∨ t.val % 4 = 3))

/-- The even branch's condition over the grid. -/
theorem heven : ∀ t : Fin (cfg0 (F := F)).N, k0_cond2 (grid0.coords t) = 1#1 ↔ (t.val % 4 = 0 ∨ t.val % 4 = 1) :=
  (by decide +kernel : ∀ t : Fin grid0.N, k0_cond2 (grid0.coords t) = 1#1 ↔ (t.val % 4 = 0 ∨ t.val % 4 = 1))

/-- A buffer of the latent output, through which its contents are stated. -/
abbrev VO7 : View sig .tc .vmem S1x8x256x128 .f32 := (Memref.whole cc0_stg7_0 : Memref sig .tc .vmem S1x8x256x128 .f32).view
abbrev ms0 (t : Fin (cfg0 (F := F)).N) : Memref sig .tc .vmem S1x4x256x128 .bf16 := win0_0.stage ((cfg0 (F := F)).slots t 0)
abbrev hs0 (t : Fin (cfg0 (F := F)).N) : (ms0 t).IsWhole := hstage0_0 (((cfg0 (F := F)).slots t 0).cast nbuf0_0)
abbrev ms1 (t : Fin (cfg0 (F := F)).N) : Memref sig .tc .vmem S1x4x4096x128 .bf16 := win0_1.stage ((cfg0 (F := F)).slots t 1)
abbrev hs1 (t : Fin (cfg0 (F := F)).N) : (ms1 t).IsWhole := hstage0_1 (((cfg0 (F := F)).slots t 1).cast nbuf0_1)
abbrev ms2 (t : Fin (cfg0 (F := F)).N) : Memref sig .tc .vmem S1x4x4096x128 .bf16 := win0_2.stage ((cfg0 (F := F)).slots t 2)
abbrev hs2 (t : Fin (cfg0 (F := F)).N) : (ms2 t).IsWhole := hstage0_2 (((cfg0 (F := F)).slots t 2).cast nbuf0_2)
abbrev ms3 (t : Fin (cfg0 (F := F)).N) : Memref sig .tc .vmem S1x8x256x256 .f32 := win0_3.stage ((cfg0 (F := F)).slots t 3)
abbrev hs3 (t : Fin (cfg0 (F := F)).N) : (ms3 t).IsWhole := hstage0_3 (((cfg0 (F := F)).slots t 3).cast nbuf0_3)
abbrev ms4 (t : Fin (cfg0 (F := F)).N) : Memref sig .tc .vmem S1x4096x256 .bf16 := win0_4.stage ((cfg0 (F := F)).slots t 4)
abbrev hs4 (t : Fin (cfg0 (F := F)).N) : (ms4 t).IsWhole := hstage0_4 (((cfg0 (F := F)).slots t 4).cast nbuf0_4)
abbrev ms5 (t : Fin (cfg0 (F := F)).N) : Memref sig .tc .vmem S1x144x4096 .bf16 := win0_5.stage ((cfg0 (F := F)).slots t 5)
abbrev hs5 (t : Fin (cfg0 (F := F)).N) : (ms5 t).IsWhole := hstage0_5 (((cfg0 (F := F)).slots t 5).cast nbuf0_5)
abbrev ms6 (t : Fin (cfg0 (F := F)).N) : Memref sig .tc .vmem S1x4x256x128 .f32 := win0_6.stage ((cfg0 (F := F)).slots t 6)
abbrev hs6 (t : Fin (cfg0 (F := F)).N) : (ms6 t).IsWhole := hstage0_6 (((cfg0 (F := F)).slots t 6).cast nbuf0_6)
abbrev ms7 (t : Fin (cfg0 (F := F)).N) : Memref sig .tc .vmem S1x8x256x128 .f32 := win0_7.stage ((cfg0 (F := F)).slots t 7)
abbrev hs7 (t : Fin (cfg0 (F := F)).N) : (ms7 t).IsWhole := hstage0_7 (((cfg0 (F := F)).slots t 7).cast nbuf0_7)
abbrev scM0 : Memref sig .tc .vmem S512x2048 .f32 := Memref.whole cc0_scratch0
abbrev scM1 : Memref sig .tc .vmem S512x2048 .f32 := Memref.whole cc0_scratch1
abbrev scM2 : Memref sig .tc .vmem S1x2048 .f32 := Memref.whole cc0_scratch2
abbrev scM3 : Memref sig .tc .vmem S144x2048 .f32 := Memref.whole cc0_scratch3

/-- The launch's invariant: the four scratch buffers at some contents, and the generator. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.KernelIdeal.Attn

end
-- ==== Proof.Attn.While.lean ====
module

public import proofs.«01_k».proof.Proof.Attn.Kit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- The loop's termination measure is a number of trips. -/
abbrev 𝒱₀ : Variants := Variants.nat

theorem stop_test : Scalar.cmpi .sge (Scalar.subi (BitVec.ofNat 32 0) 1#32) 0#32 = 0#1 := by decide +kernel

theorem stop_and (b : BitVec 1) : ¬ Scalar.andi (Scalar.cmpi .sge (Scalar.subi (BitVec.ofNat 32 0) 1#32) 0#32) b = 1#1 := by
  rw [stop_test]; revert b; decide +kernel

/-- With `k + 1` trips to go the counter is `k`, and its block lies in the arrays. -/
theorem chk_succ : ∀ k : ℕ, k < 16 → k0_chk1 (Scalar.subi (BitVec.ofNat 32 (k + 1)) 1#32) := by
  have h : ∀ k : Fin 16, k0_chk1 (Scalar.subi (BitVec.ofNat 32 (k.val + 1)) 1#32) := by decide +kernel
  exact fun k hk => h ⟨k, hk⟩

theorem counter_succ : ∀ k : ℕ, k < 16 → Scalar.subi (BitVec.ofNat 32 (k + 1)) 1#32 = BitVec.ofNat 32 k := by
  have h : ∀ k : Fin 16, Scalar.subi (BitVec.ofNat 32 (k.val + 1)) 1#32 = BitVec.ofNat 32 k.val := by decide +kernel
  exact fun k hk => h ⟨k, hk⟩

section Label

variable (c : Dev nD) (arg3 : Memref sig .tc .vmem S1x4x4096x128 .bf16) (arg4 : Memref sig .tc .vmem S1x4x4096x128 .bf16)
  (f3 : BufTy.Contents (Elt F) arg3.view.ty) (f4 : BufTy.Contents (Elt F) arg4.view.ty)

/-- The two buffers the loop reads. -/
def held : sProp 𝕄 :=
  iprop((arg3.view.loc (c : Thread nD τ) ↦[arg3.view.set]{fullShare} f3) ∗ (arg4.view.loc (c : Thread nD τ) ↦[arg4.view.set]{fullShare} f4))

/-- The loop borrows the two buffers and returns some state. -/
def spec : sWPT 𝕄 (BitVec 32 × FVec F S2048x1 .f32 × FVec F S256x128 .f32 × FVec F S256x128 .f32 × FVec F S256x128 .f32 × FVec F S256x128 .f32) := do
  sWPT.consume (held c arg3 arg4 f3 f4)
  let r ← sWPT.arbitrary
  sWPT.produce (held c arg3 arg4 f3 f4)
  pure r

theorem spec_apply (K : (BitVec 32 × FVec F S2048x1 .f32 × FVec F S256x128 .f32 × FVec F S256x128 .f32 × FVec F S256x128 .f32 × FVec F S256x128 .f32) → sProp 𝕄) :
    spec c arg3 arg4 f3 f4 K = iprop(held c arg3 arg4 f3 f4 ∗ ∀ r, (held c arg3 arg4 f3 f4 -∗ K r)) := rfl

set_option maxHeartbeats 2000000 in
/-- The loop with `k` trips to go. -/
theorem spec_le (E : Set ℕ) (i : grid0.Coords) (harg3 : arg3.IsWhole) (harg4 : arg4.IsWhole) (v31 : IVec S512x128 1)
    (v38 v43 v48 v53 : FVec F S512x128 .bf16) (v5 : FVec F S256x256 .bf16) :
    ∀ k : ℕ, k ≤ 16 → ∀ (a15 : FVec F S2048x1 .f32) (a16 a17 a18 a19 : FVec F S256x128 .f32) K,
      spec c arg3 arg4 f3 f4 K ⊢ wp frame (wpE (defs₀ (F := F)) 𝒱₀ (c : Thread nD τ) (some k)) E
        (defs₀ (F := F) .tc 1 ⟨i, arg3, harg3, arg4, harg4, v31, v38, v43, v48, v53, v5, Scalar.subi (BitVec.ofNat 32 k) 1#32, a15, a16, a17, a18, a19⟩) K := by
  intro k
  induction k with
  | zero =>
    intro hk a15 a16 a17 a18 a19 K
    rw [spec_apply]
    show _ ⊢ wp frame (wpE (defs₀ (F := F)) 𝒱₀ (c : Thread nD τ) (some 0)) E
      (cc0_while1 i arg3 harg3 arg4 harg4 v31 v38 v43 v48 v53 v5 (Scalar.subi (BitVec.ofNat 32 0) 1#32) a15 a16 a17 a18 a19) K
    rw [cc0_while1_eq_skeleton]; unfold cc0_while1_skel
    simp only [stop_and, ↓reduceIte, Prog.pure_eq_ret]
    iintro ⟨H, Hk⟩
    rw [wp_ret]; imodintro
    iapply Hk
    iexact H
  | succ k ih =>
    intro hk a15 a16 a17 a18 a19 K
    rw [spec_apply]
    show _ ⊢ wp frame (wpE (defs₀ (F := F)) 𝒱₀ (c : Thread nD τ) (some (k + 1))) E
      (cc0_while1 i arg3 harg3 arg4 harg4 v31 v38 v43 v48 v53 v5 (Scalar.subi (BitVec.ofNat 32 (k + 1)) 1#32) a15 a16 a17 a18 a19) K
    have hchk := chk_succ k (by omega)
    rw [cc0_while1_eq_skeleton]; unfold cc0_while1_skel
    simp only [k0_part16_eq_skeleton, k0_part17_eq_skeleton]
    split
    · unfold held
      iintro ⟨⟨H3, H4⟩, Hk⟩
      sl_exec (disch := sl_exact hchk)
      rw [counter_succ k (by omega)]
      iapply (wp_call_spec 𝒱₀ (c : Thread nD τ) (some (k + 1)) E (spec c arg3 arg4 f3 f4) k
        (fun u hu => by cases hu; exact Nat.lt_succ_self k) (ih (by omega) _ _ _ _ _))
      rw [spec_apply]; unfold held
      isplitl [H3 H4]
      · isplitl [H3]; · iexact H3
        iexact H4
      iintro %r ⟨H3, H4⟩
      rw [wp_ret]; imodintro
      iapply Hk
      isplitl [H3]; · iexact H3
      iexact H4
    · simp only [Prog.pure_eq_ret]
      iintro ⟨H, Hk⟩
      rw [wp_ret]; imodintro
      iapply Hk
      iexact H

end Label

end Cert.KernelIdeal.Attn

end
-- ==== Proof.Attn.Model.lean ====
module

public import proofs.«01_k».proof.Proof.Attn.While

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- The query row the block starts at. -/
def wOff (i : grid0.Coords) : BitVec 32 := Scalar.muli (BitVec.ofNat 32 (i 1).val) 256#32

/-- The number of whole chunks before the one on the diagonal. -/
def wNf (i : grid0.Coords) : BitVec 32 :=
  Scalar.select (Scalar.andi (Scalar.cmpi .ne (Scalar.subi (Scalar.extui (Scalar.cmpi .sgt (wOff i) 0#32)) (Scalar.extui (Scalar.cmpi .slt (wOff i) 0#32)))
      (Scalar.subi (Scalar.extui (Scalar.cmpi .sgt 512#32 0#32)) (Scalar.extui (Scalar.cmpi .slt 512#32 0#32)) : BitVec 32)) (Scalar.cmpi .ne (Scalar.remsi (wOff i) 512#32) 0#32))
    (Scalar.subi (Scalar.divsi (wOff i) 512#32) 1#32) (Scalar.divsi (wOff i) 512#32)

variable (i : grid0.Coords) (q : FVec F S2048x256 .bf16) (x4 : Vec F S1x4096x256 .bf16) (x5 : Vec F S1x144x4096 .bf16)

/-- What the kernel carries from chunk to chunk: the scores of the next chunk, the running maximum, the running sums. -/
structure St (F : FTy → Type) where
  /-- the scores of the next chunk -/
  sa : Vec F S512x2048 .f32
  /-- the running maximum -/
  mx : Vec F S1x2048 .f32
  /-- the running sums -/
  acc : Vec F S144x2048 .f32

/-- Before the first chunk. -/
def st0 : St F := ⟨k0_pay70 q (View.ld x4 (Rect.unit (s := S1x4096x256) ![0, 0, 0] S1x512x256.size inb_S1x4096x256_S1x512x256_0_0_0)), k0_pay68, k0_pay69 (FloatOps.ofBits .f32 0x00000000#32)⟩

/-- The odd chunk's scores in a trip. -/
def sbOf (k : Fin (k0_t1_loop i).trips) : Vec F S512x2048 .f32 := k0_pay4 q (View.ld x4 (Rect.unit (s := S1x4096x256) (k0_off9 i k 1#32) S1x512x256.size (k0_off9_inb i k 0)))

/-- The maximum and the sums after a trip's first chunk. -/
def midMx (S : St F) : Vec F S1x2048 .f32 := k0_pay7 (k0_pay5 S.sa S.mx)
def midAcc (k : Fin (k0_t1_loop i).trips) (S : St F) : Vec F S144x2048 .f32 :=
  k0_pay6 S.sa S.mx S.acc (View.ld x5 (Rect.unit (s := S1x144x4096) (k0_off10 i k) S1x144x512.size (k0_off10_inb i k)))

/-- One trip: two chunks taken in, the scores of the second-next chunk made. -/
def stepT (k : Fin (k0_t1_loop i).trips) (S : St F) : St F :=
  ⟨k0_pay8 q (View.ld x4 (Rect.unit (s := S1x4096x256) (k0_off9 i k 2#32) S1x512x256.size (k0_off9_inb i k 1))),
    k0_pay72 (k0_pay9 (sbOf i q x4 k) (midMx S)),
    k0_pay71 (k0_pay10 (sbOf i q x4 k) (midMx S) (midAcc i x5 k S)) (k0_pay11 (View.ld x5 (Rect.unit (s := S1x144x4096) (k0_off11 i k) S1x144x512.size (k0_off11_inb i k)))) (k0_pay12 (sbOf i q x4 k) (midMx S))⟩

/-- After `n` trips. -/
def stAt : ℕ → St F
  | 0 => st0 q x4
  | n + 1 => if h : n < (k0_t1_loop i).trips then stepT i q x4 x5 ⟨n, h⟩ (stAt n) else stAt n

theorem stAt_succ (k : Fin (k0_t1_loop i).trips) : stAt i q x4 x5 (k.val + 1) = stepT i q x4 x5 k (stAt i q x4 x5 k.val) := by
  conv_lhs => rw [stAt]
  rw [dif_pos k.isLt]

/-- The sums at the end where the whole chunks are even in number. -/
def finA (h2 : k0_cond2 i = 1#1) (S : St F) : Vec F S144x2048 .f32 :=
  k0_pay77 (k0_pay32 (wOff i) (wNf i) S.sa S.mx) (k0_pay33 (wOff i) (wNf i) S.sa S.mx S.acc)
    (k0_pay34 (View.ld x5 (Rect.unit (s := S1x144x4096) (k0_off18 i) S1x144x512.size (k0_off18_inb i h2))))

/-- The last chunk's scores where the whole chunks are odd in number. -/
def lastSb (h1 : k0_cond1 i = 1#1) : Vec F S512x2048 .f32 := k0_pay22 q (View.ld x4 (Rect.unit (s := S1x4096x256) (k0_off15 i) S1x512x256.size (k0_off15_inb i h1)))

/-- The maximum and the sums before the diagonal chunk where the whole chunks are odd in number. -/
def preMx (S : St F) : Vec F S1x2048 .f32 := k0_pay25 (k0_pay23 S.sa S.mx)
def preAcc (h1 : k0_cond1 i = 1#1) (S : St F) : Vec F S144x2048 .f32 :=
  k0_pay24 S.sa S.mx S.acc (View.ld x5 (Rect.unit (s := S1x144x4096) (k0_off16 i) S1x144x512.size (k0_off16_inb i h1)))

/-- The sums at the end where the whole chunks are odd in number. -/
def finB (h1 : k0_cond1 i = 1#1) (S : St F) : Vec F S144x2048 .f32 :=
  k0_pay75 (k0_pay28 (wOff i) (wNf i) (lastSb i q x4 h1) (preMx S)) (k0_pay29 (wOff i) (wNf i) (lastSb i q x4 h1) (preMx S) (preAcc i x5 h1 S))
    (View.ld x5 (Rect.unit (s := S1x144x4096) (k0_off17 i) S1x144x512.size (k0_off17_inb i h1)))

/-- The output's tiles, one per head, the last stored first. -/
def tiles (acc : Vec F S144x2048 .f32) : List (View.Piece (Elt F) S1x8x256x128 .f32) :=
  [⟨Rect.unit (s := S1x8x256x128) ![0, 7, 0, 0] S1x1x256x128.size inb_S1x8x256x128_S1x1x256x128_0_7_0_0, k0_pay88 (k0_pay79 acc)⟩,
   ⟨Rect.unit (s := S1x8x256x128) ![0, 6, 0, 0] S1x1x256x128.size inb_S1x8x256x128_S1x1x256x128_0_6_0_0, k0_pay87 (k0_pay79 acc)⟩,
   ⟨Rect.unit (s := S1x8x256x128) ![0, 5, 0, 0] S1x1x256x128.size inb_S1x8x256x128_S1x1x256x128_0_5_0_0, k0_pay86 (k0_pay79 acc)⟩,
   ⟨Rect.unit (s := S1x8x256x128) ![0, 4, 0, 0] S1x1x256x128.size inb_S1x8x256x128_S1x1x256x128_0_4_0_0, k0_pay85 (k0_pay79 acc)⟩,
   ⟨Rect.unit (s := S1x8x256x128) ![0, 3, 0, 0] S1x1x256x128.size inb_S1x8x256x128_S1x1x256x128_0_3_0_0, k0_pay84 (k0_pay79 acc)⟩,
   ⟨Rect.unit (s := S1x8x256x128) ![0, 2, 0, 0] S1x1x256x128.size inb_S1x8x256x128_S1x1x256x128_0_2_0_0, k0_pay83 (k0_pay82 acc)⟩,
   ⟨Rect.unit (s := S1x8x256x128) ![0, 1, 0, 0] S1x1x256x128.size inb_S1x8x256x128_S1x1x256x128_0_1_0_0, k0_pay81 acc⟩,
   ⟨Rect.unit (s := S1x8x256x128) ![0, 0, 0, 0] S1x1x256x128.size inb_S1x8x256x128_S1x1x256x128_0_0_0_0, k0_pay80 acc⟩]

theorem tiles_cover (acc : Vec F S144x2048 .f32) (y : S1x8x256x128.Idx) : ∃ p ∈ tiles acc, y ∈ p.1.set :=
  View.cover_of_tiledL (tiles acc) S1x1x256x128.size (by sl_kernel_rfl) y

/-- The output's block. -/
def outOf (acc : Vec F S144x2048 .f32) : Vec F S1x8x256x128 .f32 := VO7.read (Elt F) (VO7.writes (Elt F) VO7.junk (tiles acc))

end Cert.KernelIdeal.Attn

end
-- ==== Proof.Attn.Loop.lean ====
module

public import proofs.«01_k».proof.Proof.Attn.Model

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

section Whole

variable {Val : EltTy → Type} {sp : Space} {s : Shape} {e : EltTy} {off off' : Fin s.rank → ℕ}

/-- A load of the whole buffer after a store of the whole buffer reads what was stored. -/
theorem cov_whole [∀ e, Nonempty (Val e)] (v : View sig .tc sp s e) (inb : ∀ a, off a + s.size a ≤ s.size a) (inb' : ∀ a, off' a + s.size a ≤ s.size a)
    (w : s.Idx → Val e) (L : List (View.Piece Val s e)) :
    v.readCov ((⟨Rect.unit off' (no_index s.size) inb', w⟩ : View.Piece Val s e) :: L) (Rect.unit off (no_index s.size) inb).toLoadRect = w := View.readCov_full v inb inb' w L

/-- A load of the whole buffer reads its contents. -/
theorem at_whole {m : Memref sig .tc sp s e} (h : m.IsWhole) (inb : ∀ a, off a + s.size a ≤ s.size a) (X : s.Idx → Val e) :
    m.view.readAt Val (Rect.unit off (no_index s.size) inb).toLoadRect (h.unread X) = X := (View.readAt_full m.view _ inb).trans (h.read_unread X)

end Whole

set_option maxHeartbeats 2000000 in
/-- One trip of the loop over pairs of chunks. -/
theorem trip (c : Dev nD) (i : grid0.Coords) (arg2 : Memref sig .tc .vmem S1x4x256x128 .bf16) (harg2 : arg2.IsWhole) (arg3 : Memref sig .tc .vmem S1x4x4096x128 .bf16) (harg3 : arg3.IsWhole) (arg4 : Memref sig .tc .vmem S1x4x4096x128 .bf16) (harg4 : arg4.IsWhole) (arg5 : Memref sig .tc .vmem S1x8x256x256 .f32) (harg5 : arg5.IsWhole) (arg6 : Memref sig .tc .vmem S1x4096x256 .bf16) (harg6 : arg6.IsWhole) (arg7 : Memref sig .tc .vmem S1x144x4096 .bf16) (harg7 : arg7.IsWhole) (arg8 : Memref sig .tc .vmem S1x4x256x128 .f32) (harg8 : arg8.IsWhole) (arg9 : Memref sig .tc .vmem S1x8x256x128 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S144x2048 .f32) (harg13 : arg13.IsWhole) (v162 : FVec F S2048x256 .bf16) (v179 : BitVec 32) (cst_98 : F .f32) (x4 : Vec F S1x4096x256 .bf16) (x5 : Vec F S1x144x4096 .bf16)
    (bd : Option ℕ) (E : Set ℕ) (k : Fin (k0_t1_loop i).trips) (a : BitVec 32) (S : St F) :
    (iprop(owns (c : Thread nD τ) arg6 fullShare x4 ∗ owns (c : Thread nD τ) arg7 fullShare x5 ∗ owns (c : Thread nD τ) arg10 fullShare (S).sa ∗ (∃ d, owns (c : Thread nD τ) arg11 fullShare d) ∗ owns (c : Thread nD τ) arg12 fullShare (S).mx ∗ owns (c : Thread nD τ) arg13 fullShare (S).acc) : sProp 𝕄) ⊢ wp frame (wpE (defs₀ (F := F)) 𝒱₀ (c : Thread nD τ) bd) E (k0_t1_body i arg2 harg2 arg3 harg3 arg4 harg4 arg5 harg5 arg6 harg6 arg7 harg7 arg8 harg8 arg9 harg9 arg10 harg10 arg11 harg11 arg12 harg12 arg13 harg13 v162 v179 cst_98 k a)
      (fun _ => iprop(owns (c : Thread nD τ) arg6 fullShare x4 ∗ owns (c : Thread nD τ) arg7 fullShare x5 ∗ owns (c : Thread nD τ) arg10 fullShare (stepT i v162 x4 x5 k S).sa ∗ (∃ d, owns (c : Thread nD τ) arg11 fullShare d) ∗ owns (c : Thread nD τ) arg12 fullShare (stepT i v162 x4 x5 k S).mx ∗ owns (c : Thread nD τ) arg13 fullShare (stepT i v162 x4 x5 k S).acc)) := by
  unfold k0_t1_body; simp only [k0_part1_eq_skeleton, k0_part2_eq_skeleton]
  unfold owns
  iintro ⟨⟨%f4, %hf4, H4⟩, ⟨%f5, %hf5, H5⟩, ⟨%fs0, %hs0, HS0⟩, ⟨%ds1, %fs1, -, HS1⟩, ⟨%fs2, %hs2, HS2⟩, ⟨%fs3, %hs3, HS3⟩⟩
  obtain rfl := harg6.eq_unread hf4; obtain rfl := harg7.eq_unread hf5; obtain rfl := harg10.eq_unread hs0; obtain rfl := harg12.eq_unread hs2; obtain rfl := harg13.eq_unread hs3
  sl_exec
  sl_step
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    sl_unfold_run_names
    rw [View.read_writes_full]
    simp only [cov_whole, at_whole]
    try simp only [View.readAt_eq_ld, Memref.IsWhole.read_unread]
    rfl
  isplitl [HS1]
  · iexists _, _; isplitr; swap; · iexact HS1
    ipureintro; rfl
  isplitl [HS2]
  · iexists _; isplitr; swap; · iexact HS2
    ipureintro
    sl_unfold_run_names
    rw [View.read_writes_full]
    simp only [cov_whole, at_whole]
    try simp only [View.readAt_eq_ld, Memref.IsWhole.read_unread]
    rfl
  iexists _; isplitr; swap; · iexact HS3
  ipureintro
  sl_unfold_run_names
  rw [View.read_writes_full]
  simp only [cov_whole, at_whole]
  try simp only [View.readAt_eq_ld, Memref.IsWhole.read_unread]
  rfl

end Cert.KernelIdeal.Attn

end
-- ==== Proof.Attn.RunA.lean ====
module

public import proofs.«01_k».proof.Proof.Attn.Loop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- Between two trips. -/
def linvA (c : Dev nD) (i : grid0.Coords) (arg6 : Memref sig .tc .vmem S1x4096x256 .bf16) (arg7 : Memref sig .tc .vmem S1x144x4096 .bf16) (arg10 arg11 : Memref sig .tc .vmem S512x2048 .f32) (arg12 : Memref sig .tc .vmem S1x2048 .f32) (arg13 : Memref sig .tc .vmem S144x2048 .f32)
    (q : FVec F S2048x256 .bf16) (x4 : Vec F S1x4096x256 .bf16) (x5 : Vec F S1x144x4096 .bf16) (k : ℕ) (_ : BitVec 32) : sProp 𝕄 :=
  iprop(owns (c : Thread nD τ) arg6 fullShare x4 ∗ owns (c : Thread nD τ) arg7 fullShare x5 ∗ owns (c : Thread nD τ) arg10 fullShare (stAt i q x4 x5 k).sa ∗ (∃ d, owns (c : Thread nD τ) arg11 fullShare d) ∗ owns (c : Thread nD τ) arg12 fullShare (stAt i q x4 x5 k).mx ∗ owns (c : Thread nD τ) arg13 fullShare (stAt i q x4 x5 k).acc)

set_option maxHeartbeats 4000000 in
/-- The body's run where the number of whole chunks before the diagonal is even. -/
theorem runA (c : Dev nD) (i : grid0.Coords) (arg2 : Memref sig .tc .vmem S1x4x256x128 .bf16) (harg2 : arg2.IsWhole) (arg3 : Memref sig .tc .vmem S1x4x4096x128 .bf16) (harg3 : arg3.IsWhole) (arg4 : Memref sig .tc .vmem S1x4x4096x128 .bf16) (harg4 : arg4.IsWhole) (arg5 : Memref sig .tc .vmem S1x8x256x256 .f32) (harg5 : arg5.IsWhole) (arg6 : Memref sig .tc .vmem S1x4096x256 .bf16) (harg6 : arg6.IsWhole) (arg7 : Memref sig .tc .vmem S1x144x4096 .bf16) (harg7 : arg7.IsWhole) (arg8 : Memref sig .tc .vmem S1x4x256x128 .f32) (harg8 : arg8.IsWhole) (arg9 : Memref sig .tc .vmem S1x8x256x128 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S144x2048 .f32) (harg13 : arg13.IsWhole) (hc0 : ¬ k0_cond1 i = 1#1) (hc1 : k0_cond2 i = 1#1) (htr : (k0_t2_loop i).trips = 0)
    (x0 : Vec F S1x4x256x128 .bf16) (x1 : Vec F S1x4x4096x128 .bf16) (x2 : Vec F S1x4x4096x128 .bf16) (x3 : Vec F S1x8x256x256 .f32) (x4 : Vec F S1x4096x256 .bf16) (x5 : Vec F S1x144x4096 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (outOf (finA i x5 hc1 (stAt i (k0_pay67 x3) x4 x5 (k0_t1_loop i).trips))) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) 𝒱₀ c none) E (cc0_prompt_attn i arg2 harg2 arg3 harg3 arg4 harg4 arg5 harg5 arg6 harg6 arg7 harg7 arg8 harg8 arg9 harg9 arg10 harg10 arg11 harg11 arg12 harg12 arg13 harg13) K := by
  have hi : (i 1).val ≤ 16 := le_of_lt (i 1).isLt
  simp only [cc0_prompt_attn_eq_skeleton]; unfold cc0_prompt_attn_skel
  simp only [k0_part15_eq_skeleton]; unfold k0_part15_skel
  simp only [k0_part8_eq_skeleton, k0_part9_eq_skeleton, k0_part10_eq_skeleton, k0_part11_eq_skeleton, k0_part12_eq_skeleton, k0_part13_eq_skeleton, k0_part14_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  iapply (wp_call_spec 𝒱₀ (c : Thread nD τ) none E (spec c arg3 arg4 _ _) (i 1).val (fun u hu => nomatch hu)
    (spec_le c arg3 arg4 _ _ E i harg3 harg4 _ _ _ _ _ _ (i 1).val hi _ _ _ _ _))
  rw [spec_apply]; unfold held
  isplitl [H1 H2]
  · isplitl [H1]; · iexact H1
    iexact H2
  iintro %r ⟨H1, H2⟩
  sl_exec (disch := first | sl_exact hc0 | sl_exact hc1)
  sl_for (linvA c i arg6 arg7 arg10 arg11 arg12 arg13 (k0_pay67 x3) x4 x5) $$ [H4 H5 HS0 HS1 HS2 HS3]
  case region =>
    intro k a
    unfold linvA
    rw [stAt_succ]
    sl_unfold_run_names
    simp only [at_whole]
    exact trip c i arg2 harg2 arg3 harg3 arg4 harg4 arg5 harg5 arg6 harg6 arg7 harg7 arg8 harg8 arg9 harg9 arg10 harg10 arg11 harg11 arg12 harg12 arg13 harg13 _ _ _ x4 x5 none E k a _
  · unfold linvA owns
    isplitl [H4]
    · iexists _; isplitr; · ipureintro; exact harg6.read_unread _
      iexact H4
    isplitl [H5]
    · iexists _; isplitr; · ipureintro; exact harg7.read_unread _
      iexact H5
    isplitl [HS0]
    · iexists _; isplitr; swap; · iexact HS0
      ipureintro
      sl_unfold_run_names
      rw [View.read_writes_full]
      simp only [cov_whole, at_whole]
      try simp only [View.readAt_eq_ld, Memref.IsWhole.read_unread]
      rfl
    isplitl [HS1]
    · iexists _, _; isplitr; swap; · iexact HS1
      ipureintro; rfl
    isplitl [HS2]
    · iexists _; isplitr; swap; · iexact HS2
      ipureintro
      sl_unfold_run_names
      rw [View.read_writes_full]
      rfl
    iexists _; isplitr; swap; · iexact HS3
    ipureintro
    sl_unfold_run_names
    rw [View.read_writes_full]
    rfl
  unfold linvA owns
  iintro %y ⟨⟨%f4', %hf4', H4⟩, ⟨%f5', %hf5', H5⟩, ⟨%gs0, %hs0, HS0⟩, ⟨%es1, %gs1, -, HS1⟩, ⟨%gs2, %hs2, HS2⟩, ⟨%gs3, %hs3, HS3⟩⟩
  obtain rfl := harg6.eq_unread hf4'; obtain rfl := harg7.eq_unread hf5'; obtain rfl := harg10.eq_unread hs0; obtain rfl := harg12.eq_unread hs2; obtain rfl := harg13.eq_unread hs3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _; isplitr; swap; · iexact H7
    ipureintro
    sl_unfold_run_names
    simp only [cov_whole, at_whole]
    try simp only [View.readAt_eq_ld, Memref.IsWhole.read_unread]
    exact View.read_writes_of_cover _ _ _ _ _ (tiles_cover _)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Attn

end
-- ==== Proof.Attn.RunB.lean ====
module

public import proofs.«01_k».proof.Proof.Attn.Loop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- Between two trips. -/
def linvB (c : Dev nD) (i : grid0.Coords) (arg6 : Memref sig .tc .vmem S1x4096x256 .bf16) (arg7 : Memref sig .tc .vmem S1x144x4096 .bf16) (arg10 arg11 : Memref sig .tc .vmem S512x2048 .f32) (arg12 : Memref sig .tc .vmem S1x2048 .f32) (arg13 : Memref sig .tc .vmem S144x2048 .f32)
    (q : FVec F S2048x256 .bf16) (x4 : Vec F S1x4096x256 .bf16) (x5 : Vec F S1x144x4096 .bf16) (k : ℕ) (_ : BitVec 32) : sProp 𝕄 :=
  iprop(owns (c : Thread nD τ) arg6 fullShare x4 ∗ owns (c : Thread nD τ) arg7 fullShare x5 ∗ owns (c : Thread nD τ) arg10 fullShare (stAt i q x4 x5 k).sa ∗ (∃ d, owns (c : Thread nD τ) arg11 fullShare d) ∗ owns (c : Thread nD τ) arg12 fullShare (stAt i q x4 x5 k).mx ∗ owns (c : Thread nD τ) arg13 fullShare (stAt i q x4 x5 k).acc)

set_option maxHeartbeats 4000000 in
/-- The body's run where the number of whole chunks before the diagonal is odd. -/
theorem runB (c : Dev nD) (i : grid0.Coords) (arg2 : Memref sig .tc .vmem S1x4x256x128 .bf16) (harg2 : arg2.IsWhole) (arg3 : Memref sig .tc .vmem S1x4x4096x128 .bf16) (harg3 : arg3.IsWhole) (arg4 : Memref sig .tc .vmem S1x4x4096x128 .bf16) (harg4 : arg4.IsWhole) (arg5 : Memref sig .tc .vmem S1x8x256x256 .f32) (harg5 : arg5.IsWhole) (arg6 : Memref sig .tc .vmem S1x4096x256 .bf16) (harg6 : arg6.IsWhole) (arg7 : Memref sig .tc .vmem S1x144x4096 .bf16) (harg7 : arg7.IsWhole) (arg8 : Memref sig .tc .vmem S1x4x256x128 .f32) (harg8 : arg8.IsWhole) (arg9 : Memref sig .tc .vmem S1x8x256x128 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S1x2048 .f32) (harg12 : arg12.IsWhole) (arg13 : Memref sig .tc .vmem S144x2048 .f32) (harg13 : arg13.IsWhole) (hc0 : k0_cond1 i = 1#1) (hc1 : ¬ k0_cond2 i = 1#1) (htr : (k0_t2_loop i).trips = 0)
    (x0 : Vec F S1x4x256x128 .bf16) (x1 : Vec F S1x4x4096x128 .bf16) (x2 : Vec F S1x4x4096x128 .bf16) (x3 : Vec F S1x8x256x256 .f32) (x4 : Vec F S1x4096x256 .bf16) (x5 : Vec F S1x144x4096 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (outOf (finB i (k0_pay67 x3) x4 x5 hc0 (stAt i (k0_pay67 x3) x4 x5 (k0_t1_loop i).trips))) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) 𝒱₀ c none) E (cc0_prompt_attn i arg2 harg2 arg3 harg3 arg4 harg4 arg5 harg5 arg6 harg6 arg7 harg7 arg8 harg8 arg9 harg9 arg10 harg10 arg11 harg11 arg12 harg12 arg13 harg13) K := by
  have hi : (i 1).val ≤ 16 := le_of_lt (i 1).isLt
  simp only [cc0_prompt_attn_eq_skeleton]; unfold cc0_prompt_attn_skel
  simp only [k0_part15_eq_skeleton]; unfold k0_part15_skel
  simp only [k0_part8_eq_skeleton, k0_part9_eq_skeleton, k0_part10_eq_skeleton, k0_part11_eq_skeleton, k0_part12_eq_skeleton, k0_part13_eq_skeleton, k0_part14_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  iapply (wp_call_spec 𝒱₀ (c : Thread nD τ) none E (spec c arg3 arg4 _ _) (i 1).val (fun u hu => nomatch hu)
    (spec_le c arg3 arg4 _ _ E i harg3 harg4 _ _ _ _ _ _ (i 1).val hi _ _ _ _ _))
  rw [spec_apply]; unfold held
  isplitl [H1 H2]
  · isplitl [H1]; · iexact H1
    iexact H2
  iintro %r ⟨H1, H2⟩
  sl_exec (disch := first | sl_exact hc0 | sl_exact hc1)
  sl_for (linvB c i arg6 arg7 arg10 arg11 arg12 arg13 (k0_pay67 x3) x4 x5) $$ [H4 H5 HS0 HS1 HS2 HS3]
  case region =>
    intro k a
    unfold linvB
    rw [stAt_succ]
    sl_unfold_run_names
    simp only [at_whole]
    exact trip c i arg2 harg2 arg3 harg3 arg4 harg4 arg5 harg5 arg6 harg6 arg7 harg7 arg8 harg8 arg9 harg9 arg10 harg10 arg11 harg11 arg12 harg12 arg13 harg13 _ _ _ x4 x5 none E k a _
  · unfold linvB owns
    isplitl [H4]
    · iexists _; isplitr; · ipureintro; exact harg6.read_unread _
      iexact H4
    isplitl [H5]
    · iexists _; isplitr; · ipureintro; exact harg7.read_unread _
      iexact H5
    isplitl [HS0]
    · iexists _; isplitr; swap; · iexact HS0
      ipureintro
      sl_unfold_run_names
      rw [View.read_writes_full]
      simp only [cov_whole, at_whole]
      try simp only [View.readAt_eq_ld, Memref.IsWhole.read_unread]
      rfl
    isplitl [HS1]
    · iexists _, _; isplitr; swap; · iexact HS1
      ipureintro; rfl
    isplitl [HS2]
    · iexists _; isplitr; swap; · iexact HS2
      ipureintro
      sl_unfold_run_names
      rw [View.read_writes_full]
      rfl
    iexists _; isplitr; swap; · iexact HS3
    ipureintro
    sl_unfold_run_names
    rw [View.read_writes_full]
    rfl
  unfold linvB owns
  iintro %y ⟨⟨%f4', %hf4', H4⟩, ⟨%f5', %hf5', H5⟩, ⟨%gs0, %hs0, HS0⟩, ⟨%es1, %gs1, -, HS1⟩, ⟨%gs2, %hs2, HS2⟩, ⟨%gs3, %hs3, HS3⟩⟩
  obtain rfl := harg6.eq_unread hf4'; obtain rfl := harg7.eq_unread hf5'; obtain rfl := harg10.eq_unread hs0; obtain rfl := harg12.eq_unread hs2; obtain rfl := harg13.eq_unread hs3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _; isplitr; swap; · iexact H7
    ipureintro
    sl_unfold_run_names
    simp only [cov_whole, at_whole]
    try simp only [View.readAt_eq_ld, Memref.IsWhole.read_unread]
    exact View.read_writes_of_cover _ _ _ _ _ (tiles_cover _)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Attn

end
-- ==== Proof.Attn.Frame.lean ====
module

public import proofs.«01_k».proof.Proof.Attn.RunA
public import proofs.«01_k».proof.Proof.Attn.RunB
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No trip is left for the loop's second half. -/
theorem rest_trips : ∀ t : Fin (cfg0 (F := F)).N, (k0_t2_loop (grid0.coords t)).trips = 0 :=
  (by decide +kernel : ∀ t : Fin grid0.N, (k0_t2_loop (grid0.coords t)).trips = 0)

theorem even_of (t : Fin (cfg0 (F := F)).N) (h : ¬ (t.val % 4 = 2 ∨ t.val % 4 = 3)) : t.val % 4 = 0 ∨ t.val % 4 = 1 := by omega

/-- The sums the body ends with at a grid point. -/
def accAt (c : Dev nD) (t : Fin (cfg0 (F := F)).N) : Vec F S144x2048 .f32 :=
  if h : (t.val % 4 = 2 ∨ t.val % 4 = 3) then finB (grid0.coords t) (k0_pay67 (iblk m c 3 t)) (iblk m c 4 t) (iblk m c 5 t) ((hodd t).mpr h) (stAt (grid0.coords t) (k0_pay67 (iblk m c 3 t)) (iblk m c 4 t) (iblk m c 5 t) (k0_t1_loop (grid0.coords t)).trips)
  else finA (grid0.coords t) (iblk m c 5 t) ((heven t).mpr (even_of t h)) (stAt (grid0.coords t) (k0_pay67 (iblk m c 3 t)) (iblk m c 4 t) (iblk m c 5 t) (k0_t1_loop (grid0.coords t)).trips)

/-- A buffer of the other output. -/
abbrev VO6 : View sig .tc .vmem S1x4x256x128 .f32 := (Memref.whole cc0_stg6_0 : Memref sig .tc .vmem S1x4x256x128 .f32).view

set_option maxHeartbeats 1000000 in
/-- The body's run at a grid point, whichever branch it takes. -/
theorem body_at (c : Dev nD) (t : Fin (cfg0 (F := F)).N) (E : Set ℕ) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ (∃ d, owns (c : Thread nD τ) (ms6 t) fullShare d) ∗ (∃ d, owns (c : Thread nD τ) (ms7 t) fullShare d) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ (∃ d, owns (c : Thread nD τ) (ms6 t) fullShare d) ∗ owns (c : Thread nD τ) (ms7 t) fullShare (outOf (accAt m c t)) ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) -∗ K ⟨⟩))
      ⊢ wp frame (wpE (defs₀ (F := F)) 𝒱₀ c none) E (bodyAt0 t) K := by
  by_cases h : (t.val % 4 = 2 ∨ t.val % 4 = 3)
  · rw [show accAt m c t = _ from dif_pos h]
    exact runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) ((hodd t).mpr h) (fun h' => by have := (heven t).mp h'; omega) (rest_trips t) (iblk m c 0 t) (iblk m c 1 t) (iblk m c 2 t) (iblk m c 3 t) (iblk m c 4 t) (iblk m c 5 t) E K
  · rw [show accAt m c t = _ from dif_neg h]
    exact runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM0 (Memref.isWhole_whole _) scM1 (Memref.isWhole_whole _) scM2 (Memref.isWhole_whole _) scM3 (Memref.isWhole_whole _) (fun h' => h ((hodd t).mp h')) ((heven t).mpr (even_of t h)) (rest_trips t) (iblk m c 0 t) (iblk m c 1 t) (iblk m c 2 t) (iblk m c 3 t) (iblk m c 4 t) (iblk m c 5 t) E K

/-- The pipeline's data: inputs at their blocks, the latent output at what the body makes of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => VO6.read (Elt F) VO6.junk
    | ⟨7, _⟩ => outOf (accAt m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

section
attribute [local irreducible] outOf accAt
theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = iblk m c 5 t := rfl
theorem after_6 (c : Dev nD) (t : Fin (cfg0 (F := F)).N) : (dats m 0 c).after 6 t = VO6.read (Elt F) VO6.junk := rfl
theorem after_7 (c : Dev nD) (t : Fin (cfg0 (F := F)).N) : (dats m 0 c).after 7 t = outOf (accAt m c t) := rfl
end

theorem before_0 (c : Dev nD) (t : Fin (cfg0 (F := F)).N) (d) : (dats m 0 c).before 0 t d = iblk m c 0 t := before_of0 m (dats m 0 c) (A_eq m c 0) (after_0 m c) t d
theorem before_1 (c : Dev nD) (t : Fin (cfg0 (F := F)).N) (d) : (dats m 0 c).before 1 t d = iblk m c 1 t := before_of1 m (dats m 0 c) (A_eq m c 1) (after_1 m c) t d
theorem before_2 (c : Dev nD) (t : Fin (cfg0 (F := F)).N) (d) : (dats m 0 c).before 2 t d = iblk m c 2 t := before_of2 m (dats m 0 c) (A_eq m c 2) (after_2 m c) t d
theorem before_3 (c : Dev nD) (t : Fin (cfg0 (F := F)).N) (d) : (dats m 0 c).before 3 t d = iblk m c 3 t := before_of3 m (dats m 0 c) (A_eq m c 3) (after_3 m c) t d
theorem before_4 (c : Dev nD) (t : Fin (cfg0 (F := F)).N) (d) : (dats m 0 c).before 4 t d = iblk m c 4 t := before_of4 m (dats m 0 c) (A_eq m c 4) (after_4 m c) t d
theorem before_5 (c : Dev nD) (t : Fin (cfg0 (F := F)).N) (d) : (dats m 0 c).before 5 t d = iblk m c 5 t := before_of5 m (dats m 0 c) (A_eq m c 5) (after_5 m c) t d

/-- Only the other output's contents are left unnamed. -/
def fgt (w : Fin (cfg0 (F := F)).W) : Bool := match w with
  | ⟨6, _⟩ => true
  | _ => false

def bodyPre (c : Dev nD) (t : Fin (cfg0 (F := F)).N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ X, owns (c : Thread nD τ) (ms6 t) fullShare X) ∗ (∃ d, owns (c : Thread nD τ) (ms7 t) fullShare ((dats m 0 c).before 7 t d)))

def bodyPost (c : Dev nD) (t : Fin (cfg0 (F := F)).N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ (∃ X, owns (c : Thread nD τ) (ms6 t) fullShare X) ∗ owns (c : Thread nD τ) (ms7 t) fullShare ((dats m 0 c).after 7 t))

set_option maxHeartbeats 2400000 in
/-- The body at a grid point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_7]
  rw [show (dats m 0 c).Φ t.castSucc = Pipeline.ΦA spec0 c from rfl, PhiA_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6, ⟨%d7, H7⟩⟩
  iapply (body_at m c t Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ fgt := fun t => by
  rw [bigSep_W0, bigSep_W0, body_row]
  exact triple_restated (sound_body m c t) rfl .rfl fun _ => .rfl

set_option backward.isDefEq.respectTransparency.types false in
/-- The launch. -/
theorem run_quiescent : θ_run defs (onTc (τ := τ) (main (F := F))) (s₀ m ρ)
    (fun r => RDat.FramePost (cfg0 (F := F)) (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- Every run ends with the arguments as they were and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hh => ⟨fun c => (fun h => ⟨((h c).2 main_arg0 (Pipeline.mem_restRefs_of main_arg0 (by decide) (show ∀ w : Fin 8, (spec0 w).arr.view.ref ≠ main_arg0 by decide))).trans (V_main_arg0 m c),
      ((h c).2 main_arg1 (Pipeline.mem_restRefs_of main_arg1 (by decide) (show ∀ w : Fin 8, (spec0 w).arr.view.ref ≠ main_arg1 by decide))).trans (V_main_arg1 m c),
      ((h c).2 main_arg2 (Pipeline.mem_restRefs_of main_arg2 (by decide) (show ∀ w : Fin 8, (spec0 w).arr.view.ref ≠ main_arg2 by decide))).trans (V_main_arg2 m c),
      ((h c).2 main_arg3 (Pipeline.mem_restRefs_of main_arg3 (by decide) (show ∀ w : Fin 8, (spec0 w).arr.view.ref ≠ main_arg3 by decide))).trans (V_main_arg3 m c),
      ((h c).2 main_arg4 (Pipeline.mem_restRefs_of main_arg4 (by decide) (show ∀ w : Fin 8, (spec0 w).arr.view.ref ≠ main_arg4 by decide))).trans (V_main_arg4 m c),
      ((h c).2 main_arg5 (Pipeline.mem_restRefs_of main_arg5 (by decide) (show ∀ w : Fin 8, (spec0 w).arr.view.ref ≠ main_arg5 by decide))).trans (V_main_arg5 m c),
      ((h c).2 main_arg6 (Pipeline.mem_restRefs_of main_arg6 (by decide) (show ∀ w : Fin 8, (spec0 w).arr.view.ref ≠ main_arg6 by decide))).trans (V_main_arg6 m c)⟩) hh.1, hh.2⟩) (run_quiescent m ρ)

end Cert.KernelIdeal.Attn

end
-- ==== Proof.Attn.Online.lean ====
/- Softmax taken chunk by chunk, as extended reals: the running maximum and the running sums of weighted values, what one
   more chunk makes of them, and that at the end their quotient is the softmax-weighted sum. -/
module

public import Idealize.ShloMosaic.PureOps
public import Idealize.ShloMosaic.PureOps.Ideal
public import Idealize.ShloMosaic.Lib.ValueIdx

@[expose] public section

noncomputable section

open scoped BigOperators

namespace Cert.Online

open Idealize.ShloMosaic

/-- The maximum of the first `n` scores. -/
def mxN (s : ℕ → EReal) (n : ℕ) : EReal := (Finset.range n).sup s

/-- The sum of the first `n` values, each weighted by 2 to its score less the maximum. -/
def accN (s c : ℕ → EReal) (n : ℕ) : EReal := ∑ k ∈ Finset.range n, c k * Ideal.exp2 (s k - mxN s n)

theorem mxN_zero (s : ℕ → EReal) : mxN s 0 = ⊥ := by simp [mxN]

theorem accN_zero (s c : ℕ → EReal) : accN s c 0 = 0 := by simp [accN]

theorem mxN_add (s : ℕ → EReal) (n L : ℕ) :
    mxN s (n + L) = max (mxN s n) ((Finset.range L).sup fun r => s (n + r)) := by
  unfold mxN
  apply le_antisymm
  · refine Finset.sup_le fun k hk => ?_
    rw [Finset.mem_range] at hk
    by_cases h : k < n
    · exact le_max_of_le_left (Finset.le_sup (f := s) (Finset.mem_range.2 h))
    · refine le_max_of_le_right ?_
      have := Finset.le_sup (f := fun r => s (n + r)) (Finset.mem_range.2 (show k - n < L by omega))
      simpa [show n + (k - n) = k by omega] using this
  · refine max_le (Finset.sup_mono ?_) (Finset.sup_le fun r hr => ?_)
    · exact Finset.range_mono (Nat.le_add_right n L)
    · rw [Finset.mem_range] at hr
      exact Finset.le_sup (f := s) (Finset.mem_range.2 (by omega))

theorem mxN_ne_top {s : ℕ → EReal} (hs : ∀ k, s k ≠ ⊤) (n : ℕ) : mxN s n ≠ ⊤ := by
  refine ne_of_lt ((Finset.sup_lt_iff (by simp)).2 fun k _ => lt_top_iff_ne_top.2 (hs k))

theorem le_mxN (s : ℕ → EReal) {k n : ℕ} (h : k < n) : s k ≤ mxN s n :=
  Finset.le_sup (f := s) (Finset.mem_range.2 h)

theorem mxN_mono (s : ℕ → EReal) {n n' : ℕ} (h : n ≤ n') : mxN s n ≤ mxN s n' := Finset.sup_mono (Finset.range_mono h)

theorem exp2_nonneg (x : EReal) : 0 ≤ Ideal.exp2 x := by
  induction x with
  | bot => simp
  | top => simp
  | coe r =>
    rw [Ideal.exp2_coe]
    exact EReal.coe_nonneg.2 (Real.rpow_nonneg (by norm_num) r)

theorem exp2_ne_top {x : EReal} (h : x ≠ ⊤) : Ideal.exp2 x ≠ ⊤ := by
  induction x with
  | bot => simp
  | top => exact absurd rfl h
  | coe r => rw [Ideal.exp2_coe]; exact EReal.coe_ne_top _

theorem exp2_shift {a m M : EReal} (h1 : a ≤ m) (h2 : m ≤ M) (hM : M ≠ ⊤) :
    Ideal.exp2 (m - M) * Ideal.exp2 (a - m) = Ideal.exp2 (a - M) := by
  have hm : m ≠ ⊤ := ne_of_lt (lt_of_le_of_lt h2 (lt_top_iff_ne_top.2 hM))
  induction a with
  | bot => simp
  | top => exact absurd (top_le_iff.1 h1) hm
  | coe a =>
    induction m with
    | bot => exact absurd h1 (by simp)
    | top => exact absurd rfl hm
    | coe m =>
      induction M with
      | bot => exact absurd h2 (by simp)
      | top => exact absurd rfl hM
      | coe M =>
        rw [← EReal.coe_sub, ← EReal.coe_sub, ← EReal.coe_sub, Ideal.exp2_coe, Ideal.exp2_coe, Ideal.exp2_coe, ← EReal.coe_mul]
        congr 1
        show (2 : ℝ) ^ (m - M) * (2 : ℝ) ^ (a - m) = (2 : ℝ) ^ (a - M)
        rw [← Real.rpow_add (by norm_num)]
        congr 1; ring

theorem mul_sum_of_nonneg {x : EReal} (h0 : 0 ≤ x) (ht : x ≠ ⊤) {ι : Type*} (S : Finset ι) (f : ι → EReal) :
    x * ∑ k ∈ S, f k = ∑ k ∈ S, x * f k := by
  classical
  induction S using Finset.induction_on with
  | empty => simp
  | insert a S ha ih => rw [Finset.sum_insert ha, Finset.sum_insert ha, EReal.left_distrib_of_nonneg_of_ne_top h0 ht, ih]

theorem sub_ne_top {m M : EReal} (h : m ≤ M) (hM : M ≠ ⊤) : m - M ≠ ⊤ := by
  induction m with
  | bot => simp
  | top => exact absurd (top_le_iff.1 h) hM
  | coe m =>
    induction M with
    | bot => exact absurd h (by simp)
    | top => exact absurd rfl hM
    | coe M => rw [← EReal.coe_sub]; exact EReal.coe_ne_top _

/-- One more chunk: the sums so far, rescaled to the new maximum, and the chunk's own. -/
theorem accN_add {s : ℕ → EReal} (c : ℕ → EReal) (hs : ∀ k, s k ≠ ⊤) (n L : ℕ) :
    accN s c (n + L)
      = Ideal.exp2 (mxN s n - mxN s (n + L)) * accN s c n
        + ∑ r ∈ Finset.range L, c (n + r) * Ideal.exp2 (s (n + r) - mxN s (n + L)) := by
  have hM := mxN_ne_top hs (n + L)
  have hle := mxN_mono s (Nat.le_add_right n L)
  have hsub : mxN s n - mxN s (n + L) ≠ ⊤ := sub_ne_top hle hM
  unfold accN
  rw [Finset.sum_range_add, mul_sum_of_nonneg (exp2_nonneg _) (exp2_ne_top hsub)]
  congr 1
  refine Finset.sum_congr rfl fun k hk => ?_
  rw [← exp2_shift (le_mxN s (Finset.mem_range.1 hk)) hle hM]
  exact mul_left_comm _ _ _

theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The maximum of scores that are real up to `q` and least after it. -/
theorem mxN_eq (d : ℕ → ℝ) {q k0 n : ℕ} (h0 : k0 ≤ q) (hmax : ∀ k, k ≤ q → d k ≤ d k0) (hq : q < n) {c : ℝ} (hc : 0 < c)
    (s : ℕ → EReal) (hs : ∀ k, s k = if k ≤ q then ((c * d k : ℝ) : EReal) else ⊥) : mxN s n = ((c * d k0 : ℝ) : EReal) := by
  apply le_antisymm
  · refine Finset.sup_le fun k _ => ?_
    rw [hs]
    split
    · rename_i h
      exact EReal.coe_le_coe_iff.2 (mul_le_mul_of_nonneg_left (hmax k h) hc.le)
    · exact bot_le
  · have := le_mxN s (lt_of_le_of_lt h0 hq)
    rwa [hs, if_pos h0] at this

/-- The quotient of the running sums is the softmax-weighted sum of the values. -/
theorem softmax_eq (d v : ℕ → ℝ) {q N : ℕ} (hq : q < N) (hN : N ≤ 4096) {c1 c2 : ℝ} (h2 : 0 < c2) (h1 : c1 = c2 * Real.log 2)
    (s t : ℕ → EReal) (hs : ∀ k, s k = if k ≤ q then ((c2 * d k : ℝ) : EReal) else ⊥)
    (ht : ∀ k, t k = if k ≤ q then ((c1 * d k : ℝ) : EReal) else ⊥) :
    Ideal.div (accN s (fun k => (v k : EReal)) N) (accN s (fun _ => 1) N)
      = ∑ k ∈ Finset.range 4096, Ideal.div (Ideal.exp (t k - mxN t 4096))
          (∑ k' ∈ Finset.range 4096, Ideal.exp (t k' - mxN t 4096)) * (v k : EReal) := by
  have hl2 : 0 < Real.log 2 := Real.log_pos (by norm_num)
  have hc1 : 0 < c1 := by rw [h1]; exact mul_pos h2 hl2
  obtain ⟨k0, hk0, hmax⟩ := Finset.exists_max_image (Finset.range (q + 1)) d ⟨0, by simp⟩
  have hk0' : k0 ≤ q := by rw [Finset.mem_range] at hk0; omega
  have hmax' : ∀ k, k ≤ q → d k ≤ d k0 := fun k hk => hmax k (Finset.mem_range.2 (by omega))
  have hM := mxN_eq d hk0' hmax' hq h2 s hs
  have hT := mxN_eq d hk0' hmax' (lt_of_lt_of_le hq hN) hc1 t ht
  let E : ℕ → ℝ := fun k => if k ≤ q then Real.exp (c1 * (d k - d k0)) else 0
  have hE : ∀ k, Ideal.exp2 (s k - mxN s N) = (E k : EReal) := fun k => by
    rw [hM, hs]
    show _ = ((if k ≤ q then Real.exp (c1 * (d k - d k0)) else 0 : ℝ) : EReal)
    split
    · rw [← EReal.coe_sub, Ideal.exp2_coe]
      congr 1
      show (2 : ℝ) ^ (c2 * d k - c2 * d k0) = _
      rw [Real.rpow_def_of_pos (by norm_num), h1]
      congr 1; ring
    · simp
  have hE' : ∀ k, Ideal.exp (t k - mxN t 4096) = (E k : EReal) := fun k => by
    rw [hT, ht]
    show _ = ((if k ≤ q then Real.exp (c1 * (d k - d k0)) else 0 : ℝ) : EReal)
    split
    · rw [← EReal.coe_sub, Ideal.exp_coe]
      congr 2; ring
    · simp
  have hE0 : ∀ k, q < k → E k = 0 := fun k hk => if_neg (by omega)
  have hext : ∀ f : ℕ → ℝ, (∀ k, q < k → f k = 0) → ∑ k ∈ Finset.range N, f k = ∑ k ∈ Finset.range 4096, f k := fun f hf => by
    refine Finset.sum_subset (Finset.range_mono hN) fun k _ hk => hf k ?_
    rw [Finset.mem_range] at hk; omega
  have hL : (∑ k ∈ Finset.range 4096, E k) ≠ 0 := by
    refine ne_of_gt (Finset.sum_pos' (fun k _ => ?_) ⟨k0, Finset.mem_range.2 (by omega), ?_⟩)
    · show 0 ≤ (if k ≤ q then Real.exp (c1 * (d k - d k0)) else 0 : ℝ)
      split
      · exact (Real.exp_pos _).le
      · exact le_rfl
    · show 0 < (if k0 ≤ q then Real.exp (c1 * (d k0 - d k0)) else 0 : ℝ)
      rw [if_pos hk0']; exact Real.exp_pos _
  unfold accN
  simp only [hE, hE', one_mul, ← EReal.coe_mul, ← coe_sum]
  rw [hext E hE0, hext (fun k => v k * E k) (fun k hk => by rw [hE0 k hk, mul_zero]), Ideal.div_coe hL, ← EReal.coe_mul]
  simp only [Ideal.div_coe hL, ← EReal.coe_mul, ← coe_sum]
  congr 1
  rw [Finset.sum_mul]
  refine Finset.sum_congr rfl fun k _ => ?_
  ring

end Cert.Online

end
-- ==== Proof.Attn.Read.lean ====
/- The kernel's vector steps read at one entry, over the extended reals. -/
module

public import proofs.«01_k».proof.Proof.Attn.Model
public import proofs.«01_k».proof.Proof.Attn.Online
public import Idealize.ShloMosaic.Lib.MatmulPlain
public import Idealize.ShloMosaic.Lib.Pipeline.Value
public import Idealize.ShloMosaic.Lib.ValueIdx
public import Idealize.ShloMosaic.PureOps.Ideal.Laws

@[expose] public section

set_option maxRecDepth 16384

noncomputable section

open scoped BigOperators

namespace Cert.KernelIdeal.Attn

open Cert.KernelIdeal Cert.KernelIdeal.Gen Cert.Online
open Idealize.ShloMosaic Idealize.ShloMosaic.ValueIdx

/-- A chunk's scores: the keys times the queries. -/
theorem pay4_apply (q : FVec Ideal S2048x256 .bf16) (k : Vec Ideal S1x512x256 .bf16) (r : Fin 512) (j : Fin 2048) :
    k0_pay4 (F := Ideal) q k (ix2 r j) = ∑ c : Fin 256, k (ix3 0 r c) * q (ix2 j c) := by
  unfold k0_pay4
  rw [shapeCast_self]
  show FloatOps.matmul (DotDims.transposedRhs 512 256 2048) none _ q (constant (F := Ideal) S512x2048 .f32 0x00000000#32) (ix2 r j) = _
  rw [Ideal.matmul_transposedRhs_apply, constant_apply, Ideal.ofBits_zero_f32, zero_add]
  refine Finset.sum_congr rfl fun c _ => ?_
  congr 1
  exact (shapeCast_dropUnit_apply ![512, 256] k _ (ix2 r c)).trans (congrArg k (funext fun a => match a with | ⟨0, _⟩ => rfl | ⟨1, _⟩ => rfl | ⟨2, _⟩ => rfl))

theorem pay8_eq (q : FVec Ideal S2048x256 .bf16) (k : Vec Ideal S1x512x256 .bf16) : k0_pay8 (F := Ideal) q k = k0_pay4 q k := rfl
theorem pay22_eq (q : FVec Ideal S2048x256 .bf16) (k : Vec Ideal S1x512x256 .bf16) : k0_pay22 (F := Ideal) q k = k0_pay4 q k := rfl
theorem pay70_eq (q : FVec Ideal S2048x256 .bf16) (k : Vec Ideal S1x512x256 .bf16) : k0_pay70 (F := Ideal) q k = k0_pay4 q k := rfl

/-- The maximum after a chunk. -/
theorem pay5_apply (s : Vec Ideal S512x2048 .f32) (m : Vec Ideal S1x2048 .f32) (j : Fin 2048) :
    k0_pay5 (F := Ideal) s m (ix2 0 j) = max (m (ix2 0 j)) (Finset.univ.sup fun r : Fin 512 => s (ix2 r j)) := by
  unfold k0_pay5
  refine congrArg (max (m (ix2 0 j))) ?_
  refine (shapeCast_addUnit_apply ![2048] _ _ (ix2 0 j)).trans ?_
  refine (Ideal.multiReduction_maximumf_single _ _ _ _ _ _).trans ?_
  have hb : FloatOps.ofBits (F := Ideal) .f32 0xFF800000#32 = (⊥ : EReal) := by
    show Ideal.ofBits .f32 0xFF800000#32 = ⊥
    simp [Ideal.ofBits, Ideal.ieee]
  rw [hb]
  show Finset.univ.sup _ = Finset.univ.sup _
  refine Finset.sup_congr rfl fun r _ => congrArg s (funext fun a => Fin.ext ?_)
  match a with
  | ⟨0, _⟩ => rfl
  | ⟨1, _⟩ => rfl

theorem pay9_eq (s : Vec Ideal S512x2048 .f32) (m : Vec Ideal S1x2048 .f32) : k0_pay9 (F := Ideal) s m = k0_pay5 s m := rfl
theorem pay23_eq (s : Vec Ideal S512x2048 .f32) (m : Vec Ideal S1x2048 .f32) : k0_pay23 (F := Ideal) s m = k0_pay5 s m := rfl
theorem pay7_eq (m : FVec Ideal S1x2048 .f32) : k0_pay7 (F := Ideal) m = m := shapeCast_self _ _
theorem pay72_eq (m : FVec Ideal S1x2048 .f32) : k0_pay72 (F := Ideal) m = m := shapeCast_self _ _
theorem pay25_eq (m : FVec Ideal S1x2048 .f32) : k0_pay25 (F := Ideal) m = m := shapeCast_self _ _

/-- The sums after a chunk. -/
theorem pay6_apply (s : Vec Ideal S512x2048 .f32) (m : Vec Ideal S1x2048 .f32) (a : Vec Ideal S144x2048 .f32) (c : Vec Ideal S1x144x512 .bf16)
    (i : Fin 144) (j : Fin 2048) :
    k0_pay6 (F := Ideal) s m a c (ix2 i j)
      = Ideal.exp2 (m (ix2 0 j) - k0_pay5 (F := Ideal) s m (ix2 0 j)) * a (ix2 i j)
        + ∑ r : Fin 512, c (ix3 0 i r) * Ideal.exp2 (s (ix2 r j) - k0_pay5 (F := Ideal) s m (ix2 0 j)) := by
  unfold k0_pay6
  rw [shapeCast_self, addf_apply, mulf_apply]
  congr 1
  · congr 1
    refine (broadcastTo_apply _ _ (ix2 i j) (ix2 0 j) fun a => ?_).trans rfl
    match a with
    | ⟨0, _⟩ => rfl
    | ⟨1, _⟩ => rfl
  · show FloatOps.matmul (DotDims.plain 144 512 2048) none _ _ (constant (F := Ideal) S144x2048 .f32 0x00000000#32) (ix2 i j) = _
    rw [Ideal.matmul_plain_apply, constant_apply, Ideal.ofBits_zero_f32, zero_add]
    refine Finset.sum_congr rfl fun r _ => ?_
    congr 1
    · exact (shapeCast_dropUnit_apply ![144, 512] c _ (ix2 i r)).trans (congrArg c (funext fun a => match a with | ⟨0, _⟩ => rfl | ⟨1, _⟩ => rfl | ⟨2, _⟩ => rfl))
    · rw [truncf_apply]
      show Ideal.exp2 (s (ix2 r j) - _) = _
      congr 2
      refine (broadcastTo_apply _ _ (ix2 r j) (ix2 0 j) fun a => ?_)
      match a with
      | ⟨0, _⟩ => rfl
      | ⟨1, _⟩ => rfl

theorem pay71_eq (s : Vec Ideal S512x2048 .f32) (m : Vec Ideal S1x2048 .f32) (a : Vec Ideal S144x2048 .f32) (c : Vec Ideal S1x144x512 .bf16) :
    k0_pay71 (F := Ideal) (k0_pay10 s m a) (k0_pay11 c) (k0_pay12 s m) = k0_pay6 s m a c := rfl
theorem pay24_eq (s : Vec Ideal S512x2048 .f32) (m : Vec Ideal S1x2048 .f32) (a : Vec Ideal S144x2048 .f32) (c : Vec Ideal S1x144x512 .bf16) :
    k0_pay24 (F := Ideal) s m a c = k0_pay6 s m a c := rfl
theorem pay75_eq (w n : BitVec 32) (s : Vec Ideal S512x2048 .f32) (m : Vec Ideal S1x2048 .f32) (a : Vec Ideal S144x2048 .f32) (c : Vec Ideal S1x144x512 .bf16) :
    k0_pay75 (F := Ideal) (k0_pay28 w n s m) (k0_pay29 w n s m a) c = k0_pay6 (k0_pay26 w n s) m a c := rfl
theorem pay77_eq (w n : BitVec 32) (s : Vec Ideal S512x2048 .f32) (m : Vec Ideal S1x2048 .f32) (a : Vec Ideal S144x2048 .f32) (c : Vec Ideal S1x144x512 .bf16) :
    k0_pay77 (F := Ideal) (k0_pay32 w n s m) (k0_pay33 w n s m a) (k0_pay34 c) = k0_pay6 (k0_pay26 w n s) m a c := rfl

theorem named_mask : Named.named (F := Ideal) κ "mask" (φ := .f32) 0xF149F2CA#32 = (⊥ : EReal) := IdealRules.named_const.ideal_named_scalar _ _ _ _ rfl
theorem named_scale : Named.named (F := Ideal) κ "exp2_scale" (φ := .f32) 0x3E16C740#32 = (((Real.sqrt 96)⁻¹ * (Real.log 2)⁻¹ : ℝ) : EReal) :=
  IdealRules.named_const.ideal_named_scalar _ _ _ _ rfl

/-- The queries with the scale in: row `h * 256 + r` is head `h`'s query `r`. -/
theorem pay67_apply (x : Vec Ideal S1x8x256x256 .f32) (h : Fin 8) (r : Fin 256) (j : Fin 2048) (hj : j.val = h.val * 256 + r.val) (c : Fin 256) :
    k0_pay67 (F := Ideal) x (ix2 j c) = x (ix4 0 h r c) * (((Real.sqrt 96)⁻¹ * (Real.log 2)⁻¹ : ℝ) : EReal) := by
  unfold k0_pay67
  refine (shapeCast_apply _ _ (ix2 j c) (ix3 h r c) ?_).trans ?_
  · rw [Shape.rowMajor_val_three, Shape.rowMajor_val_two]
    show (h.val * 256 + r.val) * 256 + c.val = j.val * 256 + c.val
    rw [hj]
  · rw [truncf_apply, mulf_apply, broadcast_apply, named_scale]
    congr 1
    exact (shapeCast_dropUnit_apply ![8, 256, 256] x _ (ix3 h r c)).trans
      (congrArg x (funext fun a => match a with | ⟨0, _⟩ => rfl | ⟨1, _⟩ => rfl | ⟨2, _⟩ => rfl | ⟨3, _⟩ => rfl))

theorem pay68_apply (j : Fin 2048) : k0_pay68 (F := Ideal) (ix2 0 j) = ⊥ := by
  unfold k0_pay68
  rw [shapeCast_self, broadcast_apply, named_mask]

theorem pay69_apply (i : Fin 144) (j : Fin 2048) : k0_pay69 (F := Ideal) (FloatOps.ofBits .f32 0x00000000#32) (ix2 i j) = 0 := by
  unfold k0_pay69
  rw [shapeCast_self, broadcast_apply]
  exact Ideal.ofBits_zero_f32

/-- A small word read signed. -/
theorem toInt_ofNat32 {a : ℕ} (h : a < 2 ^ 31) : (BitVec.ofNat 32 a).toInt = (a : ℤ) := by
  rw [BitVec.toInt_eq_toNat_of_lt]
  · rw [BitVec.toNat_ofNat, Nat.mod_eq_of_lt (by omega)]
  · rw [BitVec.toNat_ofNat, Nat.mod_eq_of_lt (by omega)]; omega

theorem sle_ofNat {a b : ℕ} (ha : a < 2 ^ 31) (hb : b < 2 ^ 31) : (BitVec.ofNat 32 a).sle (BitVec.ofNat 32 b) = decide (a ≤ b) := by
  show decide ((BitVec.ofNat 32 a).toInt ≤ (BitVec.ofNat 32 b).toInt) = _
  rw [toInt_ofNat32 ha, toInt_ofNat32 hb]
  simp

/-- A column's query row within the block: the remainder by 256, as the kernel computes it. -/
def rowWord (v : BitVec 32) : BitVec 32 :=
  let d : BitVec 32 := Scalar.select (Scalar.cmpi .eq 256#32 0#32) 1#32 256#32
  let x : BitVec 32 := IntOp.remsi .vector v d
  Scalar.select (IntOp.andi (IntOp.xori (IntOp.cmpi .slt x 0#32) (Scalar.cmpi .slt d 0#32)) (IntOp.cmpi .ne x 0#32)) (IntOp.addi x d) x

theorem rowWord_eq (j : Fin 2048) : rowWord (BitVec.ofNat 32 j.val) = BitVec.ofNat 32 (j.val % 256) := by
  have hd : Scalar.select (Scalar.cmpi .eq 256#32 0#32) 1#32 256#32 = 256#32 := by decide
  have hx : IntOp.remsi .vector (BitVec.ofNat 32 j.val) 256#32 = BitVec.ofNat 32 (j.val % 256) := by
    unfold IntOp.remsi
    rw [if_neg (by unfold IntOp.SDivCorner; simp)]
    have hj := j.isLt
    apply BitVec.eq_of_toInt_eq
    rw [BitVec.toInt_srem, toInt_ofNat32 (a := j.val) (by omega), toInt_ofNat32 (a := j.val % 256) (by omega)]
    show Int.tmod (j.val : ℤ) 256 = _
    rw [Int.tmod_eq_emod_of_nonneg (by omega)]
    omega
  have hlt : IntOp.cmpi .slt (BitVec.ofNat 32 (j.val % 256)) 0#32 = 0#1 := by
    have : (BitVec.ofNat 32 (j.val % 256)).slt 0#32 = false := by
      show decide ((BitVec.ofNat 32 (j.val % 256)).toInt < (0#32).toInt) = false
      rw [toInt_ofNat32 (by omega)]
      simp
      omega
    unfold IntOp.cmpi
    simp only [this]; rfl
  have hs : Scalar.cmpi .slt 256#32 0#32 = 0#1 := by decide
  unfold rowWord
  simp only [hd, hx, hlt, hs]
  unfold IntOp.andi IntOp.xori
  simp [Scalar.select]

/-- The diagonal chunk's scores: keys after the query are masked. -/
theorem pay26_apply {w n : ℕ} (hw : w ≤ 4096) (hn : n ≤ 8) (s : Vec Ideal S512x2048 .f32) (r : Fin 512) (j : Fin 2048) :
    k0_pay26 (F := Ideal) (BitVec.ofNat 32 w) (BitVec.ofNat 32 n) s (ix2 r j) = if n * 512 + r.val ≤ w + j.val % 256 then s (ix2 r j) else ⊥ := by
  have e : k0_pay26 (F := Ideal) (BitVec.ofNat 32 w) (BitVec.ofNat 32 n) s (ix2 r j)
      = Scalar.select (IntOp.cmpi .sle (IntOp.addi (Scalar.muli (BitVec.ofNat 32 n) 512#32) (iota .tc S512x2048 32 [0] iota_S512x2048_d0_w32 (ix2 r j)))
          (IntOp.addi (BitVec.ofNat 32 w) (rowWord (iota .tc S512x2048 32 [1] iota_S512x2048_d1_w32 (ix2 r j))))) (s (ix2 r j)) (Named.named (F := Ideal) κ "mask" (φ := .f32) 0xF149F2CA#32) := by
    unfold k0_pay26
    rw [select_apply, broadcast_apply]
    congr 2
  rw [e, iota_single_apply, iota_single_apply, named_mask]
  show Scalar.select (IntOp.cmpi .sle (BitVec.ofNat 32 n * 512#32 + BitVec.ofNat 32 r.val) (BitVec.ofNat 32 w + rowWord (BitVec.ofNat 32 j.val))) _ _ = _
  rw [rowWord_eq, show (512#32 : BitVec 32) = BitVec.ofNat 32 512 from rfl, ← BitVec.ofNat_mul, ← BitVec.ofNat_add, ← BitVec.ofNat_add]
  have hr := r.isLt
  have : IntOp.cmpi .sle (BitVec.ofNat 32 (n * 512 + r.val)) (BitVec.ofNat 32 (w + j.val % 256)) = BitVec.ofBool (decide (n * 512 + r.val ≤ w + j.val % 256)) := by
    unfold IntOp.cmpi
    rw [← sle_ofNat (by omega) (by omega)]
  rw [this]
  by_cases h : n * 512 + r.val ≤ w + j.val % 256
  · rw [if_pos h, decide_eq_true h]; rfl
  · rw [if_neg h, decide_eq_false h]; rfl

theorem pay30_eq (w n : BitVec 32) (s : Vec Ideal S512x2048 .f32) : k0_pay30 (F := Ideal) w n s = k0_pay26 w n s := rfl

end Cert.KernelIdeal.Attn

end
-- ==== Proof.Attn.State.lean ====
/- The kernel's running maximum and running sums, in closed form after every chunk. -/
module

public import proofs.«01_k».proof.Proof.Attn.Read

@[expose] public section

set_option maxRecDepth 16384

noncomputable section

open scoped BigOperators

namespace Cert.KernelIdeal.Attn

open Cert.KernelIdeal Cert.KernelIdeal.Gen Cert.Online
open Idealize.ShloMosaic Idealize.ShloMosaic.ValueIdx

/-! ### Where the chunks lie -/

theorem trips_eq : ∀ i : grid0.Coords, (k0_t1_loop i).trips = (i 1).val / 4 := by decide +kernel
theorem off9_one : ∀ (i : grid0.Coords) (k : Fin (k0_t1_loop i).trips), k0_off9 i k 1#32 = ![0, (2 * k.val + 1) * 512, 0] := by decide +kernel
theorem off9_two : ∀ (i : grid0.Coords) (k : Fin (k0_t1_loop i).trips), k0_off9 i k 2#32 = ![0, (2 * k.val + 2) * 512, 0] := by decide +kernel
theorem off10_eq : ∀ (i : grid0.Coords) (k : Fin (k0_t1_loop i).trips), k0_off10 i k = ![0, 0, (2 * k.val) * 512] := by decide +kernel
theorem off11_eq : ∀ (i : grid0.Coords) (k : Fin (k0_t1_loop i).trips), k0_off11 i k = ![0, 0, (2 * k.val + 1) * 512] := by decide +kernel
theorem off15_eq : ∀ i : grid0.Coords, k0_off15 i = ![0, ((i 1).val / 2) * 512, 0] := by decide +kernel
theorem off16_eq : ∀ i : grid0.Coords, k0_cond1 i = 1#1 → k0_off16 i = ![0, 0, ((i 1).val / 2 - 1) * 512] := by decide +kernel
theorem off17_eq : ∀ i : grid0.Coords, k0_off17 i = ![0, 0, ((i 1).val / 2) * 512] := by decide +kernel
theorem off18_eq : ∀ i : grid0.Coords, k0_off18 i = ![0, 0, ((i 1).val / 2) * 512] := by decide +kernel
theorem cond1_odd : ∀ i : grid0.Coords, k0_cond1 i = 1#1 → (i 1).val / 2 = 2 * ((i 1).val / 4) + 1 := by decide +kernel
theorem cond2_even : ∀ i : grid0.Coords, k0_cond2 i = 1#1 → (i 1).val / 2 = 2 * ((i 1).val / 4) := by decide +kernel
theorem wOff_eq : ∀ i : grid0.Coords, wOff i = BitVec.ofNat 32 ((i 1).val * 256) := by decide +kernel
theorem wNf_eq : ∀ i : grid0.Coords, wNf i = BitVec.ofNat 32 ((i 1).val / 2) := by decide +kernel

/-! ### The scores and the values by key -/

/-- A column's unmasked score at a key. -/
def sU (q : FVec Ideal S2048x256 .bf16) (x4 : Vec Ideal S1x4096x256 .bf16) (j : Fin 2048) (k : ℕ) : EReal :=
  if h : k < 4096 then ∑ c : Fin 256, x4 (ix3 0 ⟨k, h⟩ c) * q (ix2 j c) else ⊥

/-- A row's value at a key. -/
def cV (x5 : Vec Ideal S1x144x4096 .bf16) (i : Fin 144) (k : ℕ) : EReal := if h : k < 4096 then x5 (ix3 0 i ⟨k, h⟩) else 0

theorem ld_keys (x4 : Vec Ideal S1x4096x256 .bf16) (off : Fin 3 → ℕ) (inb) (b : ℕ) (ho : off = ![0, b, 0]) (hb : b + 512 ≤ 4096) (r : Fin 512) (c : Fin 256) :
    View.ld x4 (Rect.unit (s := S1x4096x256) off S1x512x256.size inb) (ix3 0 r c) = x4 (ix3 0 ⟨b + r.val, by omega⟩ c) := by
  subst ho
  refine congrArg x4 (funext fun a => Fin.ext ?_)
  match a with
  | ⟨0, _⟩ => rfl
  | ⟨1, _⟩ => show b + 1 * r.val = b + r.val; omega
  | ⟨2, _⟩ => show 0 + 1 * c.val = c.val; omega

theorem ld_vals (x5 : Vec Ideal S1x144x4096 .bf16) (off : Fin 3 → ℕ) (inb) (b : ℕ) (ho : off = ![0, 0, b]) (hb : b + 512 ≤ 4096) (i : Fin 144) (r : Fin 512) :
    View.ld x5 (Rect.unit (s := S1x144x4096) off S1x144x512.size inb) (ix3 0 i r) = cV x5 i (b + r.val) := by
  subst ho
  unfold cV
  rw [dif_pos (by omega)]
  refine congrArg x5 (funext fun a => Fin.ext ?_)
  match a with
  | ⟨0, _⟩ => rfl
  | ⟨1, _⟩ => show 0 + 1 * i.val = i.val; omega
  | ⟨2, _⟩ => show b + 1 * r.val = b + r.val; omega

/-- A chunk's scores are the scores at its keys. -/
theorem chunk_scores (q : FVec Ideal S2048x256 .bf16) (x4 : Vec Ideal S1x4096x256 .bf16) (off : Fin 3 → ℕ) (inb) (b : ℕ) (ho : off = ![0, b, 0]) (hb : b + 512 ≤ 4096)
    (r : Fin 512) (j : Fin 2048) :
    k0_pay4 (F := Ideal) q (View.ld x4 (Rect.unit (s := S1x4096x256) off S1x512x256.size inb)) (ix2 r j) = sU q x4 j (b + r.val) := by
  rw [pay4_apply]
  unfold sU
  rw [dif_pos (by omega)]
  exact Finset.sum_congr rfl fun c _ => congrArg (· * q (ix2 j c)) (ld_keys x4 off inb b ho hb r c)

/-! ### One chunk -/

theorem chunk_mx {s : ℕ → EReal} {n : ℕ} {j : Fin 2048} (sc : Vec Ideal S512x2048 .f32) (m : Vec Ideal S1x2048 .f32)
    (h : ∀ r : Fin 512, sc (ix2 r j) = s (n + r.val)) (hm : m (ix2 0 j) = mxN s n) : k0_pay5 (F := Ideal) sc m (ix2 0 j) = mxN s (n + 512) := by
  rw [pay5_apply, hm, mxN_add]
  congr 1
  rw [Finset.sup_congr rfl fun r _ => h r]
  apply le_antisymm
  · exact Finset.sup_le fun r _ => Finset.le_sup (f := fun r => s (n + r)) (Finset.mem_range.2 r.isLt)
  · exact Finset.sup_le fun r hr => Finset.le_sup (f := fun r : Fin 512 => s (n + r.val)) (Finset.mem_univ (⟨r, Finset.mem_range.1 hr⟩ : Fin 512))

theorem chunk_acc {s c : ℕ → EReal} (hs : ∀ k, s k ≠ ⊤) {n : ℕ} {i : Fin 144} {j : Fin 2048} (sc : Vec Ideal S512x2048 .f32) (m : Vec Ideal S1x2048 .f32)
    (a : Vec Ideal S144x2048 .f32) (cb : Vec Ideal S1x144x512 .bf16)
    (h : ∀ r : Fin 512, sc (ix2 r j) = s (n + r.val)) (hm : m (ix2 0 j) = mxN s n) (ha : a (ix2 i j) = accN s c n)
    (hc : ∀ r : Fin 512, cb (ix3 0 i r) = c (n + r.val)) : k0_pay6 (F := Ideal) sc m a cb (ix2 i j) = accN s c (n + 512) := by
  rw [pay6_apply, chunk_mx sc m h hm, hm, ha, accN_add c hs n 512]
  congr 1
  rw [Finset.sum_range]
  exact Finset.sum_congr rfl fun r _ => by rw [h r, hc r]

/-! ### The loop -/

section Loop

variable (i : grid0.Coords) (q : FVec Ideal S2048x256 .bf16) (x4 : Vec Ideal S1x4096x256 .bf16) (x5 : Vec Ideal S1x144x4096 .bf16)

/-- What the state says of one column and one row, `n` chunks in. -/
structure Inv (s : ℕ → EReal) (d : Fin 144) (j : Fin 2048) (n : ℕ) (S : St Ideal) : Prop where
  sa : ∀ r : Fin 512, S.sa (ix2 r j) = sU q x4 j (n * 512 + r.val)
  mx : S.mx (ix2 0 j) = mxN s (n * 512)
  acc : S.acc (ix2 d j) = accN s (cV x5 d) (n * 512)

theorem inv_zero (s : ℕ → EReal) (d : Fin 144) (j : Fin 2048) : Inv q x4 x5 s d j 0 (st0 q x4) where
  sa r := by
    show k0_pay70 (F := Ideal) q _ (ix2 r j) = _
    rw [pay70_eq]
    exact chunk_scores q x4 _ _ (0 * 512) rfl (by omega) r j
  mx := by
    show k0_pay68 (F := Ideal) (ix2 0 j) = _
    rw [pay68_apply, Nat.zero_mul, mxN_zero]
  acc := by
    show k0_pay69 (F := Ideal) (FloatOps.ofBits .f32 0x00000000#32) (ix2 d j) = _
    rw [pay69_apply, Nat.zero_mul, accN_zero]

variable {s : ℕ → EReal} (hs : ∀ k, s k ≠ ⊤)

include hs in
theorem inv_step {d : Fin 144} {j : Fin 2048} (hfull : ∀ k, k < (i 1).val / 2 * 512 → sU q x4 j k = s k) (k : Fin (k0_t1_loop i).trips) (S : St Ideal)
    (h : Inv q x4 x5 s d j (2 * k.val) S) : Inv q x4 x5 s d j (2 * (k.val + 1)) (stepT i q x4 x5 k S) := by
  have hk : k.val < (i 1).val / 4 := (trips_eq i) ▸ k.isLt
  have h16 : (i 1).val < 16 := (i 1).isLt
  have e1 : ∀ r : Fin 512, S.sa (ix2 r j) = s (2 * k.val * 512 + r.val) := fun r => (h.sa r).trans (hfull _ (by omega))
  have mid : midMx S (ix2 0 j) = mxN s (2 * k.val * 512 + 512) := by
    unfold midMx
    rw [pay7_eq]
    exact chunk_mx _ _ e1 h.mx
  have midA : midAcc i x5 k S (ix2 d j) = accN s (cV x5 d) (2 * k.val * 512 + 512) := by
    unfold midAcc
    exact chunk_acc hs _ _ _ _ e1 h.mx h.acc fun r => ld_vals x5 _ _ (2 * k.val * 512) (off10_eq i k) (by omega) d r
  have n1 : 2 * k.val * 512 + 512 = (2 * k.val + 1) * 512 := by ring
  have n2 : (2 * k.val + 1) * 512 + 512 = 2 * (k.val + 1) * 512 := by ring
  rw [n1] at mid midA
  have e2 : ∀ r : Fin 512, sbOf i q x4 k (ix2 r j) = s ((2 * k.val + 1) * 512 + r.val) := fun r => by
    unfold sbOf
    exact (chunk_scores q x4 _ _ ((2 * k.val + 1) * 512) (off9_one i k) (by omega) r j).trans (hfull _ (by omega))
  refine ⟨fun r => ?_, ?_, ?_⟩
  · show k0_pay8 (F := Ideal) q _ (ix2 r j) = _
    rw [pay8_eq]
    exact chunk_scores q x4 _ _ (2 * (k.val + 1) * 512) ((off9_two i k).trans (by rw [show 2 * k.val + 2 = 2 * (k.val + 1) by ring])) (by omega) r j
  · show k0_pay72 (F := Ideal) (k0_pay9 (sbOf i q x4 k) (midMx S)) (ix2 0 j) = _
    rw [pay72_eq, pay9_eq, ← n2]
    exact chunk_mx _ _ e2 mid
  · show k0_pay71 (F := Ideal) (k0_pay10 (sbOf i q x4 k) (midMx S) (midAcc i x5 k S)) (k0_pay11 _) (k0_pay12 (sbOf i q x4 k) (midMx S)) (ix2 d j) = _
    rw [pay71_eq, ← n2]
    exact chunk_acc hs _ _ _ _ e2 mid midA fun r => ld_vals x5 _ _ ((2 * k.val + 1) * 512) (off11_eq i k) (by omega) d r

include hs in
theorem inv_at {d : Fin 144} {j : Fin 2048} (hfull : ∀ k, k < (i 1).val / 2 * 512 → sU q x4 j k = s k) :
    ∀ n, n ≤ (k0_t1_loop i).trips → Inv q x4 x5 s d j (2 * n) (stAt i q x4 x5 n)
  | 0, _ => inv_zero q x4 x5 s d j
  | n + 1, hn => by
    have := inv_step i q x4 x5 hs (d := d) (j := j) hfull ⟨n, hn⟩ _ (inv_at hfull n (by omega))
    rw [← stAt_succ i q x4 x5 ⟨n, hn⟩] at this
    exact this

include hs in
/-- The sums at the end, the whole chunks even in number. -/
theorem finA_apply {d : Fin 144} {j : Fin 2048} (hfull : ∀ k, k < (i 1).val / 2 * 512 → sU q x4 j k = s k)
    (hdiag : ∀ r : Fin 512, (if (i 1).val / 2 * 512 + r.val ≤ (i 1).val * 256 + j.val % 256 then sU q x4 j ((i 1).val / 2 * 512 + r.val) else ⊥) = s ((i 1).val / 2 * 512 + r.val))
    (h2 : k0_cond2 i = 1#1) :
    finA i x5 h2 (stAt i q x4 x5 (k0_t1_loop i).trips) (ix2 d j) = accN s (cV x5 d) (((i 1).val / 2 + 1) * 512) := by
  have h16 : (i 1).val < 16 := (i 1).isLt
  have h := inv_at i q x4 x5 hs (d := d) (j := j) hfull _ le_rfl
  rw [show 2 * (k0_t1_loop i).trips = (i 1).val / 2 by rw [trips_eq, cond2_even i h2]] at h
  unfold finA
  rw [pay77_eq, wOff_eq, wNf_eq, Nat.add_mul, Nat.one_mul]
  refine chunk_acc hs _ _ _ _ (fun r => ?_) h.mx h.acc fun r => ld_vals x5 _ _ ((i 1).val / 2 * 512) (off18_eq i) (by omega) d r
  rw [pay26_apply (by omega) (by omega), h.sa r]
  exact hdiag r

include hs in
/-- The sums at the end, the whole chunks odd in number. -/
theorem finB_apply {d : Fin 144} {j : Fin 2048} (hfull : ∀ k, k < (i 1).val / 2 * 512 → sU q x4 j k = s k)
    (hdiag : ∀ r : Fin 512, (if (i 1).val / 2 * 512 + r.val ≤ (i 1).val * 256 + j.val % 256 then sU q x4 j ((i 1).val / 2 * 512 + r.val) else ⊥) = s ((i 1).val / 2 * 512 + r.val))
    (h1 : k0_cond1 i = 1#1) :
    finB i q x4 x5 h1 (stAt i q x4 x5 (k0_t1_loop i).trips) (ix2 d j) = accN s (cV x5 d) (((i 1).val / 2 + 1) * 512) := by
  have h16 : (i 1).val < 16 := (i 1).isLt
  have hodd := cond1_odd i h1
  have h := inv_at i q x4 x5 hs (d := d) (j := j) hfull _ le_rfl
  rw [show 2 * (k0_t1_loop i).trips = (i 1).val / 2 - 1 by rw [trips_eq]; omega] at h
  have n1 : ((i 1).val / 2 - 1) * 512 + 512 = (i 1).val / 2 * 512 := by omega
  have e1 : ∀ r : Fin 512, (stAt i q x4 x5 (k0_t1_loop i).trips).sa (ix2 r j) = s (((i 1).val / 2 - 1) * 512 + r.val) :=
    fun r => (h.sa r).trans (hfull _ (by omega))
  have mid : preMx (stAt i q x4 x5 (k0_t1_loop i).trips) (ix2 0 j) = mxN s ((i 1).val / 2 * 512) := by
    unfold preMx
    rw [pay25_eq, pay23_eq, ← n1]
    exact chunk_mx _ _ e1 h.mx
  have midA : preAcc i x5 h1 (stAt i q x4 x5 (k0_t1_loop i).trips) (ix2 d j) = accN s (cV x5 d) ((i 1).val / 2 * 512) := by
    unfold preAcc
    rw [pay24_eq, ← n1]
    exact chunk_acc hs _ _ _ _ e1 h.mx h.acc fun r => ld_vals x5 _ _ (((i 1).val / 2 - 1) * 512) (off16_eq i h1) (by omega) d r
  unfold finB
  rw [pay75_eq, wOff_eq, wNf_eq, Nat.add_mul, Nat.one_mul]
  refine chunk_acc hs _ _ _ _ (fun r => ?_) mid midA fun r => ld_vals x5 _ _ ((i 1).val / 2 * 512) (off17_eq i) (by omega) d r
  rw [pay26_apply (by omega) (by omega)]
  unfold lastSb
  rw [pay22_eq]
  rw [chunk_scores q x4 _ _ ((i 1).val / 2 * 512) (off15_eq i) (by omega) r j]
  exact hdiag r

end Loop

end Cert.KernelIdeal.Attn

end
-- ==== Proof.Attn.Out.lean ====
/- The latent output's block, read at one entry: the head's quotient. -/
module

public import proofs.«01_k».proof.Proof.Attn.State
public import Idealize.ShloMosaic.Lib.Writes

@[expose] public section

set_option maxRecDepth 16384

noncomputable section

open scoped BigOperators

namespace Cert.KernelIdeal.Attn

open Cert.KernelIdeal Cert.KernelIdeal.Gen Cert.Online
open Idealize.ShloMosaic Idealize.ShloMosaic.ValueIdx

/-- The sums divided by the weights' sum. -/
theorem pay79_apply (acc : Vec Ideal S144x2048 .f32) (d : Fin 128) (j : Fin 2048) :
    k0_pay79 (F := Ideal) acc (ix2 d j) = Ideal.div (acc (ix2 ⟨d.val, by omega⟩ j)) (acc (ix2 128 j)) := by
  unfold k0_pay79
  show Ideal.div _ _ = _
  congr 1
  · refine extractStridedSlice_apply _ _ _ (ix2 d j) _ fun a => ?_
    match a with
    | ⟨0, _⟩ => show d.val = 0 + d.val; omega
    | ⟨1, _⟩ => show j.val = 0 + j.val; omega
  · refine (broadcastTo_apply _ _ (ix2 d j) (ix2 0 j) fun a => ?_).trans ?_
    · match a with
      | ⟨0, _⟩ => rfl
      | ⟨1, _⟩ => rfl
    · refine extractStridedSlice_apply _ _ _ (ix2 0 j) _ fun a => ?_
      match a with
      | ⟨0, _⟩ => rfl
      | ⟨1, _⟩ => show j.val = 0 + j.val; omega

/-- A head's tile, cut out and turned. -/
theorem tile_apply (x : FVec Ideal S128x2048 .f32) (o : ℕ) (h1 : S128x2048.Slices ![0, o] S128x256) (h2) (h3) (ho : o + 256 ≤ 2048) (r : Fin 256) (d : Fin 128) :
    shapeCast S1x1x256x128 (transpose S256x128 [1, 0] (extractStridedSlice S128x256 ![0, o] x h1) h2 : FVec Ideal S256x128 .f32) h3 (ix4 0 0 r d)
      = x (ix2 d ⟨o + r.val, by omega⟩) := by
  refine (shapeCast_apply _ _ (ix4 0 0 r d) (ix2 r d) ?_).trans ?_
  · rw [Shape.rowMajor_val_four, Shape.rowMajor_val_two]
    show r.val * 128 + d.val = ((0 * 1 + 0) * 256 + r.val) * 128 + d.val
    omega
  · refine (transpose_apply _ _ _ (ix2 r d) (ix2 d r) fun a => ?_).trans ?_
    · match a with
      | ⟨0, _⟩ => rfl
      | ⟨1, _⟩ => rfl
    · refine extractStridedSlice_apply _ _ _ (ix2 d r) _ fun a => ?_
      match a with
      | ⟨0, _⟩ => show d.val = 0 + d.val; omega
      | ⟨1, _⟩ => rfl

/-- The block the sums make. -/
def GA (acc : Vec Ideal S144x2048 .f32) (y : S1x8x256x128.Idx) : EReal :=
  Ideal.div (acc (ix2 ⟨(y 3).val, by have : (y 3).val < 128 := (y 3).isLt; omega⟩ ⟨(y 1).val * 256 + (y 2).val, by
    have h1 : (y 1).val < 8 := (y 1).isLt
    have h2 : (y 2).val < 256 := (y 2).isLt
    omega⟩)) (acc (ix2 128 ⟨(y 1).val * 256 + (y 2).val, by
    have h1 : (y 1).val < 8 := (y 1).isLt
    have h2 : (y 2).val < 256 := (y 2).isLt
    omega⟩))

theorem tile_GA (acc : Vec Ideal S144x2048 .f32) (w : Vec Ideal S1x1x256x128 .f32) (h : ℕ) (hh : h < 8) (inb : ∀ a, (![0, h, 0, 0] : Fin 4 → ℕ) a + S1x1x256x128.size a ≤ S1x8x256x128.size a)
    (hw : ∀ (r : Fin 256) (d : Fin 128), w (ix4 0 0 r d) = k0_pay79 (F := Ideal) acc (ix2 d ⟨h * 256 + r.val, by omega⟩)) (x : S1x1x256x128.Idx) :
    w x = GA acc ((Rect.unit (s := S1x8x256x128) ![0, h, 0, 0] S1x1x256x128.size inb).emb x) := by
  have e : x = ix4 0 0 (x 2) (x 3) := funext fun a => match a with
    | ⟨0, _⟩ => Subsingleton.elim (α := Fin 1) _ _
    | ⟨1, _⟩ => Subsingleton.elim (α := Fin 1) _ _
    | ⟨2, _⟩ => rfl
    | ⟨3, _⟩ => rfl
  rw [e]
  refine (hw (x 2) (x 3)).trans ((pay79_apply acc (x 3) _).trans ?_)
  unfold GA
  have e0 : (⟨h * 256 + (x 2).val, by have : (x 2).val < 256 := (x 2).isLt; omega⟩ : Fin 2048)
      = ⟨(h + 1 * 0) * 256 + (0 + 1 * (x 2).val), by have : (x 2).val < 256 := (x 2).isLt; omega⟩ := Fin.ext (by show h * 256 + (x 2).val = (h + 1 * 0) * 256 + (0 + 1 * (x 2).val); omega)
  have e1 : (⟨(x 3).val, by have : (x 3).val < 128 := (x 3).isLt; omega⟩ : Fin 144) = ⟨0 + 1 * (x 3).val, by have : (x 3).val < 128 := (x 3).isLt; omega⟩ := Fin.ext (by show (x 3).val = 0 + 1 * (x 3).val; omega)
  refine congrArg₂ Ideal.div (congrArg acc ?_) (congrArg acc ?_)
  · exact congrArg₂ (fun a b => ix2 (n0 := 144) (n1 := 2048) a b) e1 e0
  · exact congrArg (fun b => ix2 (n0 := 144) (n1 := 2048) 128 b) e0

/-- The output's block at one entry. -/
theorem outOf_apply (acc : Vec Ideal S144x2048 .f32) (y : S1x8x256x128.Idx) : outOf (F := Ideal) acc y = GA acc y := by
  unfold outOf
  refine View.read_writes_apply_of_pieces _ _ (GA acc) _ (fun p hp => ?_) y (tiles_cover acc y)
  unfold tiles at hp
  simp only [List.mem_cons, List.not_mem_nil, or_false] at hp
  rcases hp with rfl | rfl | rfl | rfl | rfl | rfl | rfl | rfl
  · exact tile_GA acc _ 7 (by omega) inb_S1x8x256x128_S1x1x256x128_0_7_0_0 fun r d => tile_apply (k0_pay79 (F := Ideal) acc) 1792 slices_S128x2048_o0_1792_S128x256 transposes_S128x256_p1_0_S256x128 shapeCasts_S256x128_S1x1x256x128 (by omega) r d
  · exact tile_GA acc _ 6 (by omega) inb_S1x8x256x128_S1x1x256x128_0_6_0_0 fun r d => tile_apply (k0_pay79 (F := Ideal) acc) 1536 slices_S128x2048_o0_1536_S128x256 transposes_S128x256_p1_0_S256x128 shapeCasts_S256x128_S1x1x256x128 (by omega) r d
  · exact tile_GA acc _ 5 (by omega) inb_S1x8x256x128_S1x1x256x128_0_5_0_0 fun r d => tile_apply (k0_pay79 (F := Ideal) acc) 1280 slices_S128x2048_o0_1280_S128x256 transposes_S128x256_p1_0_S256x128 shapeCasts_S256x128_S1x1x256x128 (by omega) r d
  · exact tile_GA acc _ 4 (by omega) inb_S1x8x256x128_S1x1x256x128_0_4_0_0 fun r d => tile_apply (k0_pay79 (F := Ideal) acc) 1024 slices_S128x2048_o0_1024_S128x256 transposes_S128x256_p1_0_S256x128 shapeCasts_S256x128_S1x1x256x128 (by omega) r d
  · exact tile_GA acc _ 3 (by omega) inb_S1x8x256x128_S1x1x256x128_0_3_0_0 fun r d => tile_apply (k0_pay79 (F := Ideal) acc) 768 slices_S128x2048_o0_768_S128x256 transposes_S128x256_p1_0_S256x128 shapeCasts_S256x128_S1x1x256x128 (by omega) r d
  · exact tile_GA acc _ 2 (by omega) inb_S1x8x256x128_S1x1x256x128_0_2_0_0 fun r d => tile_apply (k0_pay79 (F := Ideal) acc) 512 slices_S128x2048_o0_512_S128x256 transposes_S128x256_p1_0_S256x128 shapeCasts_S256x128_S1x1x256x128 (by omega) r d
  · exact tile_GA acc _ 1 (by omega) inb_S1x8x256x128_S1x1x256x128_0_1_0_0 fun r d => tile_apply (k0_pay79 (F := Ideal) acc) 256 slices_S128x2048_o0_256_S128x256 transposes_S128x256_p1_0_S256x128 shapeCasts_S256x128_S1x1x256x128 (by omega) r d
  · exact tile_GA acc _ 0 (by omega) inb_S1x8x256x128_S1x1x256x128_0_0_0_0 fun r d => tile_apply (k0_pay79 (F := Ideal) acc) 0 slices_S128x2048_o0_0_S128x256 transposes_S128x256_p1_0_S256x128 shapeCasts_S256x128_S1x1x256x128 (by omega) r d

end Cert.KernelIdeal.Attn

end
-- ==== Proof.Attn.Prep.lean ====
/- What the host hands the kernel: the joined queries, keys and values, read at one entry. -/
module

public import proofs.«01_k».proof.Proof.Attn.Frame
public import proofs.«01_k».proof.Proof.Attn.Out
public import Idealize.ShloMosaic.Lib.StableHlo.Run
public import Idealize.ShloMosaic.Lib.Pipeline.ValueKit.Geometry

@[expose] public section

set_option maxRecDepth 16384

noncomputable section

open scoped BigOperators

namespace Cert.KernelIdeal.Attn

open Cert.KernelIdeal Cert.KernelIdeal.Gen Cert.Online
open Idealize.ShloMosaic Idealize.ShloMosaic.TcCoe Idealize.ShloMosaic.ValueIdx Idealize.ShloMosaic.StableHlo

section Host

variable (V0 : Valuation τ sig (Elt Ideal))

set_option maxHeartbeats 4000000 in
theorem host_v2 : after hostOps0 V0 (Proc.devRef .tc main_v2)
    = transpose S4x8x4096x256 [0, 2, 1, 3] (concatenate S4x4096x8x256 3 [⟨S4x4096x8x128, V0 (Proc.devRef .tc main_arg3)⟩, ⟨S4x4096x8x32, V0 (Proc.devRef .tc main_arg4)⟩,
        ⟨S4x4096x8x96, broadcastInDim S4x4096x8x96 ![] bcast_S_S4x4096x8x96 (constant (F := Ideal) S_ .f32 0x00000000#32)⟩]
        concatenates_S4x4096x8x128_S4x4096x8x32_S4x4096x8x96_S4x4096x8x256_d3) transposes_S4x4096x8x256_S4x8x4096x256_0_2_1_3 := by
  simp only [hostOps0]
  after_results
  rfl

set_option maxHeartbeats 4000000 in
theorem host_v5 : after hostOps0 V0 (Proc.devRef .tc main_v5)
    = (truncf .bf16 · bitsLt_bf16_f32 : FVec Ideal S4x4096x256 .f32 → _) (concatenate S4x4096x256 2 [⟨S4x4096x128, V0 (Proc.devRef .tc main_arg5)⟩, ⟨S4x4096x32, V0 (Proc.devRef .tc main_arg6)⟩,
        ⟨S4x4096x96, broadcastInDim S4x4096x96 ![] bcast_S_S4x4096x96 (constant (F := Ideal) S_ .f32 0x00000000#32)⟩]
        concatenates_S4x4096x128_S4x4096x32_S4x4096x96_S4x4096x256_d2) := by
  simp only [hostOps0]
  after_results
  rfl

set_option maxHeartbeats 4000000 in
theorem host_v9 : after hostOps0 V0 (Proc.devRef .tc main_v9)
    = (truncf .bf16 · bitsLt_bf16_f32 : FVec Ideal S4x144x4096 .f32 → _) (concatenate S4x144x4096 1 [⟨S4x128x4096, transpose S4x128x4096 [0, 2, 1] (V0 (Proc.devRef .tc main_arg5)) transposes_S4x4096x128_S4x128x4096_0_2_1⟩,
        ⟨S4x16x4096, broadcastInDim S4x16x4096 ![] bcast_S_S4x16x4096 (constant (F := Ideal) S_ .f32 0x3F800000#32)⟩]
        concatenates_S4x128x4096_S4x16x4096_S4x144x4096_d1) := by
  simp only [hostOps0]
  after_results

end Host

theorem zero32 : FloatOps.ofBits (F := Ideal) .f32 0x00000000#32 = (0 : EReal) := Ideal.ofBits_zero_f32
theorem one32 : FloatOps.ofBits (F := Ideal) .f32 0x3F800000#32 = (1 : EReal) := by
  show Ideal.ofBits .f32 0x3F800000#32 = 1
  simp [Ideal.ofBits, Ideal.ieee, -EReal.coe_mul]
  norm_num

/-- The joined queries at an entry. -/
def qc (a3 : S4x4096x8x128.Idx → EReal) (a4 : S4x4096x8x32.Idx → EReal) (b : Fin 4) (h : Fin 8) (q : Fin 4096) (c : Fin 256) : EReal :=
  if h1 : c.val < 128 then a3 (ix4 b q h ⟨c.val, h1⟩) else if h2 : c.val - 128 < 32 then a4 (ix4 b q h ⟨c.val - 128, h2⟩) else 0

/-- The joined keys at an entry. -/
def kc (a5 : S4x4096x128.Idx → EReal) (a6 : S4x4096x32.Idx → EReal) (b : Fin 4) (k : Fin 4096) (c : Fin 256) : EReal :=
  if h1 : c.val < 128 then a5 (ix3 b k ⟨c.val, h1⟩) else if h2 : c.val - 128 < 32 then a6 (ix3 b k ⟨c.val - 128, h2⟩) else 0

/-- The values with the ones below, at an entry. -/
def vc (a5 : S4x4096x128.Idx → EReal) (b : Fin 4) (d : Fin 144) (k : Fin 4096) : EReal :=
  if h1 : d.val < 128 then a5 (ix3 b k ⟨d.val, h1⟩) else 1

variable (V0 : Valuation τ sig (Elt Ideal))

theorem v2_apply (b : Fin 4) (h : Fin 8) (q : Fin 4096) (c : Fin 256) :
    (after hostOps0 V0 (Proc.devRef .tc main_v2) : S4x8x4096x256.Idx → EReal) (ix4 b h q c)
      = qc (V0 (Proc.devRef .tc main_arg3)) (V0 (Proc.devRef .tc main_arg4)) b h q c := by
  rw [host_v2]
  refine (transpose_apply _ _ _ (ix4 b h q c) (ix4 b q h c) fun a => ?_).trans ?_
  · match a with
    | ⟨0, _⟩ => rfl
    | ⟨1, _⟩ => rfl
    | ⟨2, _⟩ => rfl
    | ⟨3, _⟩ => rfl
  unfold qc
  by_cases h1 : c.val < 128
  · rw [dif_pos h1]
    refine concatenate_apply_piece (t := S4x4096x8x256) 3 _ _ (ix4 b q h c) 0 (by show 0 < 3; omega) S4x4096x8x128 _ rfl rfl 0 rfl (ix4 b q h ⟨c.val, h1⟩) (fun a ha => ?_) ?_
    · match a with
      | ⟨0, _⟩ => rfl
      | ⟨1, _⟩ => rfl
      | ⟨2, _⟩ => rfl
      | ⟨3, _⟩ => exact absurd rfl ha
    · show 0 + c.val = c.val; omega
  · rw [dif_neg h1]
    by_cases h2 : c.val - 128 < 32
    · rw [dif_pos h2]
      refine concatenate_apply_piece (t := S4x4096x8x256) 3 _ _ (ix4 b q h c) 1 (by show 1 < 3; omega) S4x4096x8x32 _ rfl rfl 128 rfl (ix4 b q h ⟨c.val - 128, h2⟩) (fun a ha => ?_) ?_
      · match a with
        | ⟨0, _⟩ => rfl
        | ⟨1, _⟩ => rfl
        | ⟨2, _⟩ => rfl
        | ⟨3, _⟩ => exact absurd rfl ha
      · show 128 + (c.val - 128) = c.val; omega
    · rw [dif_neg h2]
      refine (concatenate_apply_piece (t := S4x4096x8x256) 3 _ _ (ix4 b q h c) 2 (by show 2 < 3; omega) S4x4096x8x96 _ rfl rfl 160 rfl (ix4 b q h ⟨c.val - 160, by omega⟩) (fun a ha => ?_) ?_).trans ?_
      · match a with
        | ⟨0, _⟩ => rfl
        | ⟨1, _⟩ => rfl
        | ⟨2, _⟩ => rfl
        | ⟨3, _⟩ => exact absurd rfl ha
      · show 160 + (c.val - 160) = c.val; omega
      · exact zero32

theorem v5_apply (b : Fin 4) (k : Fin 4096) (c : Fin 256) :
    (after hostOps0 V0 (Proc.devRef .tc main_v5) : S4x4096x256.Idx → EReal) (ix3 b k c)
      = kc (V0 (Proc.devRef .tc main_arg5)) (V0 (Proc.devRef .tc main_arg6)) b k c := by
  rw [host_v5]
  beta_reduce
  rw [truncf_apply]
  unfold kc
  by_cases h1 : c.val < 128
  · rw [dif_pos h1]
    refine concatenate_apply_piece (t := S4x4096x256) 2 _ _ (ix3 b k c) 0 (by show 0 < 3; omega) S4x4096x128 _ rfl rfl 0 rfl (ix3 b k ⟨c.val, h1⟩) (fun a ha => ?_) ?_
    · match a with
      | ⟨0, _⟩ => rfl
      | ⟨1, _⟩ => rfl
      | ⟨2, _⟩ => exact absurd rfl ha
    · show 0 + c.val = c.val; omega
  · rw [dif_neg h1]
    by_cases h2 : c.val - 128 < 32
    · rw [dif_pos h2]
      refine concatenate_apply_piece (t := S4x4096x256) 2 _ _ (ix3 b k c) 1 (by show 1 < 3; omega) S4x4096x32 _ rfl rfl 128 rfl (ix3 b k ⟨c.val - 128, h2⟩) (fun a ha => ?_) ?_
      · match a with
        | ⟨0, _⟩ => rfl
        | ⟨1, _⟩ => rfl
        | ⟨2, _⟩ => exact absurd rfl ha
      · show 128 + (c.val - 128) = c.val; omega
    · rw [dif_neg h2]
      refine (concatenate_apply_piece (t := S4x4096x256) 2 _ _ (ix3 b k c) 2 (by show 2 < 3; omega) S4x4096x96 _ rfl rfl 160 rfl (ix3 b k ⟨c.val - 160, by omega⟩) (fun a ha => ?_) ?_).trans ?_
      · match a with
        | ⟨0, _⟩ => rfl
        | ⟨1, _⟩ => rfl
        | ⟨2, _⟩ => exact absurd rfl ha
      · show 160 + (c.val - 160) = c.val; omega
      · exact zero32

theorem v9_apply (b : Fin 4) (d : Fin 144) (k : Fin 4096) :
    (after hostOps0 V0 (Proc.devRef .tc main_v9) : S4x144x4096.Idx → EReal) (ix3 b d k) = vc (V0 (Proc.devRef .tc main_arg5)) b d k := by
  rw [host_v9]
  beta_reduce
  rw [truncf_apply]
  unfold vc
  by_cases h1 : d.val < 128
  · rw [dif_pos h1]
    refine (concatenate_apply_piece (t := S4x144x4096) 1 _ _ (ix3 b d k) 0 (by show 0 < 2; omega) S4x128x4096 _ rfl rfl 0 rfl (ix3 b ⟨d.val, h1⟩ k) (fun a ha => ?_) ?_).trans ?_
    · match a with
      | ⟨0, _⟩ => rfl
      | ⟨1, _⟩ => exact absurd rfl ha
      | ⟨2, _⟩ => rfl
    · show 0 + d.val = d.val; omega
    · refine transpose_apply _ _ _ (ix3 b ⟨d.val, h1⟩ k) (ix3 b k ⟨d.val, h1⟩) fun a => ?_
      match a with
      | ⟨0, _⟩ => rfl
      | ⟨1, _⟩ => rfl
      | ⟨2, _⟩ => rfl
  · rw [dif_neg h1]
    refine (concatenate_apply_piece (t := S4x144x4096) 1 _ _ (ix3 b d k) 1 (by show 1 < 2; omega) S4x16x4096 _ rfl rfl 128 rfl (ix3 b ⟨d.val - 128, by omega⟩ k) (fun a ha => ?_) ?_).trans ?_
    · match a with
      | ⟨0, _⟩ => rfl
      | ⟨1, _⟩ => exact absurd rfl ha
      | ⟨2, _⟩ => rfl
    · show 128 + (d.val - 128) = d.val; omega
    · exact one32

/-! ### The blocks -/

theorem index3 : ∀ i : grid0.Coords, cc0_transform_3 i = ![(i 0).val, 0, (i 1).val, 0] := by decide +kernel
theorem index4 : ∀ i : grid0.Coords, cc0_transform_4 i = ![(i 0).val, 0, 0] := by decide +kernel
theorem index5 : ∀ i : grid0.Coords, cc0_transform_5 i = ![(i 0).val, 0, 0] := by decide +kernel
theorem index7 : ∀ i : grid0.Coords, cc0_transform_7 i = ![(i 0).val, 0, (i 1).val, 0] := by decide +kernel

variable (m : (ℓ : Loc nD τ sig) → Buf (Elt Ideal) ℓ)

theorem iblk3_apply (c : Dev nD) (t : Fin (cfg0 (F := Ideal)).N) (h : Fin 8) (r : Fin 256) (e : Fin 256) :
    (iblk m c 3 t : S1x8x256x256.Idx → EReal) (ix4 0 h r e)
      = (V m c main_v2 : S4x8x4096x256.Idx → EReal) (ix4 (grid0.coords t 0) h ⟨(grid0.coords t 1).val * 256 + r.val, by
          have : (grid0.coords t 1).val < 16 := (grid0.coords t 1).isLt
          omega⟩ e) := by
  refine congrArg (V m c main_v2 : S4x8x4096x256.Idx → EReal) (funext fun a => Fin.ext ?_)
  refine (Pipeline.Window.rect_emb_val win0_3 t _ a).trans ?_
  rw [show win0_3.index t = _ from index3 (grid0.coords t)]
  match a with
  | ⟨0, _⟩ => show (grid0.coords t 0).val * 1 + 0 = (grid0.coords t 0).val; omega
  | ⟨1, _⟩ => show 0 * 8 + h.val = h.val; omega
  | ⟨2, _⟩ => rfl
  | ⟨3, _⟩ => show 0 * 256 + e.val = e.val; omega

theorem iblk4_apply (c : Dev nD) (t : Fin (cfg0 (F := Ideal)).N) (k : Fin 4096) (e : Fin 256) :
    (iblk m c 4 t : S1x4096x256.Idx → EReal) (ix3 0 k e) = (V m c main_v5 : S4x4096x256.Idx → EReal) (ix3 (grid0.coords t 0) k e) := by
  refine congrArg (V m c main_v5 : S4x4096x256.Idx → EReal) (funext fun a => Fin.ext ?_)
  refine (Pipeline.Window.rect_emb_val win0_4 t _ a).trans ?_
  rw [show win0_4.index t = _ from index4 (grid0.coords t)]
  match a with
  | ⟨0, _⟩ => show (grid0.coords t 0).val * 1 + 0 = (grid0.coords t 0).val; omega
  | ⟨1, _⟩ => show 0 * 4096 + k.val = k.val; omega
  | ⟨2, _⟩ => show 0 * 256 + e.val = e.val; omega

theorem iblk5_apply (c : Dev nD) (t : Fin (cfg0 (F := Ideal)).N) (d : Fin 144) (k : Fin 4096) :
    (iblk m c 5 t : S1x144x4096.Idx → EReal) (ix3 0 d k) = (V m c main_v9 : S4x144x4096.Idx → EReal) (ix3 (grid0.coords t 0) d k) := by
  refine congrArg (V m c main_v9 : S4x144x4096.Idx → EReal) (funext fun a => Fin.ext ?_)
  refine (Pipeline.Window.rect_emb_val win0_5 t _ a).trans ?_
  rw [show win0_5.index t = _ from index5 (grid0.coords t)]
  match a with
  | ⟨0, _⟩ => show (grid0.coords t 0).val * 1 + 0 = (grid0.coords t 0).val; omega
  | ⟨1, _⟩ => show 0 * 144 + d.val = d.val; omega
  | ⟨2, _⟩ => show 0 * 4096 + k.val = k.val; omega

theorem covers7 : ((cfg0 (F := Ideal)).win 7).Covers := (by decide +kernel : win0_7.Covers)

end Cert.KernelIdeal.Attn

end
-- ==== Proof.Attn.Spec.lean ====
/- What the attention's output is, over the reals: each query's scores against every key up to its own, their softmax, and the
   weighted sum of the latent vectors. -/
module

public import proofs.«01_k».proof.Proof.Attn.Online

@[expose] public section

noncomputable section

open scoped BigOperators

namespace Cert.Latent

open Idealize.ShloMosaic Cert.Online

/-- A real array with its key index read as a natural number, zero outside. -/
def atN {n : ℕ} (A : Fin 4096 → Fin n → ℝ) (k : ℕ) (c : Fin n) : ℝ := if h : k < 4096 then A ⟨k, h⟩ c else 0

/-- A query's products with key `k`: its latent part and its rotary part. -/
def dR (A3 : Fin 128 → ℝ) (A4 : Fin 32 → ℝ) (A5 : Fin 4096 → Fin 128 → ℝ) (A6 : Fin 4096 → Fin 32 → ℝ) (k : ℕ) : ℝ :=
  ∑ c : Fin 128, atN A5 k c * A3 c + ∑ c : Fin 32, atN A6 k c * A4 c

/-- The masked scores of query `q`, from its products `d`. -/
def sc (d : ℕ → ℝ) (q k : ℕ) : EReal := if k ≤ q then (((√96)⁻¹ * d k : ℝ) : EReal) else ⊥

/-- The softmax of the masked scores against the values `v`. -/
def out (d v : ℕ → ℝ) (q : ℕ) : EReal :=
  ∑ k ∈ Finset.range 4096, Ideal.div (Ideal.exp (sc d q k - mxN (sc d q) 4096))
    (∑ k' ∈ Finset.range 4096, Ideal.exp (sc d q k' - mxN (sc d q) 4096)) * (v k : EReal)

/-- The output at every entry. -/
def olat (A3 : Fin 4 → Fin 4096 → Fin 8 → Fin 128 → ℝ) (A4 : Fin 4 → Fin 4096 → Fin 8 → Fin 32 → ℝ)
    (A5 : Fin 4 → Fin 4096 → Fin 128 → ℝ) (A6 : Fin 4 → Fin 4096 → Fin 32 → ℝ)
    (b : Fin 4) (h : Fin 8) (q : Fin 4096) (d : Fin 128) : EReal :=
  out (dR (A3 b q h) (A4 b q h) (A5 b) (A6 b)) (fun k => atN (A5 b) k d) q.val

/-- The scores the kernel takes, in base 2. -/
def sk (d : ℕ → ℝ) (q k : ℕ) : EReal := if k ≤ q then (((√96)⁻¹ * (Real.log 2)⁻¹ * d k : ℝ) : EReal) else ⊥

theorem sk_ne_top (d : ℕ → ℝ) (q k : ℕ) : sk d q k ≠ ⊤ := by
  unfold sk
  split
  · exact EReal.coe_ne_top _
  · exact bot_ne_top

theorem out_eq (d v : ℕ → ℝ) {q N : ℕ} (hq : q < N) (hN : N ≤ 4096) :
    Ideal.div (accN (sk d q) (fun k => (v k : EReal)) N) (accN (sk d q) (fun _ => 1) N) = out d v q := by
  have hl : (0 : ℝ) < Real.log 2 := Real.log_pos (by norm_num)
  have h9 : (0 : ℝ) < √96 := Real.sqrt_pos.2 (by norm_num)
  exact softmax_eq d v hq hN (c1 := (√96)⁻¹) (c2 := (√96)⁻¹ * (Real.log 2)⁻¹) (by positivity)
    (by rw [mul_assoc, inv_mul_cancel₀ hl.ne', mul_one]) (sk d q) (sc d q) (fun _ => rfl) (fun _ => rfl)

theorem accN_congr (s : ℕ → EReal) {c c' : ℕ → EReal} {N : ℕ} (h : ∀ k, k < N → c k = c' k) : accN s c N = accN s c' N :=
  Finset.sum_congr rfl fun k hk => by rw [h k (Finset.mem_range.1 hk)]

end Cert.Latent

end
-- ==== Proof.Attn.Value.lean ====
/- The latent attention's output array after the call: the real attention, when the arguments are real. -/
module

public import proofs.«01_k».proof.Proof.Attn.State
public import proofs.«01_k».proof.Proof.Attn.Prep
public import proofs.«01_k».proof.Proof.Attn.Spec

@[expose] public section

set_option maxRecDepth 16384

noncomputable section

open scoped BigOperators

namespace Cert.KernelIdeal.Attn

open Cert.KernelIdeal Cert.KernelIdeal.Gen Cert.Online Cert.Latent
open Idealize.ShloMosaic Idealize.ShloMosaic.ValueIdx Idealize.ShloMosaic.StableHlo

/-- The joined real queries. -/
def qR (A3 : Fin 128 → ℝ) (A4 : Fin 32 → ℝ) (c : Fin 256) : ℝ :=
  if h1 : c.val < 128 then A3 ⟨c.val, h1⟩ else if h2 : c.val - 128 < 32 then A4 ⟨c.val - 128, h2⟩ else 0

/-- The products over the joined columns, split. -/
theorem sum_joined (A3 : Fin 128 → ℝ) (A4 : Fin 32 → ℝ) (B3 : Fin 128 → ℝ) (B4 : Fin 32 → ℝ) :
    ∑ c : Fin 256, qR B3 B4 c * qR A3 A4 c = ∑ c : Fin 128, B3 c * A3 c + ∑ c : Fin 32, B4 c * A4 c := by
  rw [show (∑ c : Fin 256, qR B3 B4 c * qR A3 A4 c) = ∑ c : Fin (128 + (32 + 96)), qR B3 B4 c * qR A3 A4 c from rfl,
    Fin.sum_univ_add, Fin.sum_univ_add]
  have e1 : ∀ c : Fin 128, qR B3 B4 (Fin.castAdd (32 + 96) c) * qR A3 A4 (Fin.castAdd (32 + 96) c) = B3 c * A3 c := fun c => by
    have hc : (Fin.castAdd (32 + 96) c : Fin (128 + (32 + 96))).val < 128 := c.isLt
    unfold qR
    rw [dif_pos hc, dif_pos hc]
    rfl
  have e2 : ∀ c : Fin 32, qR B3 B4 (Fin.natAdd 128 (Fin.castAdd 96 c)) * qR A3 A4 (Fin.natAdd 128 (Fin.castAdd 96 c)) = B4 c * A4 c := fun c => by
    have hv : (Fin.natAdd 128 (Fin.castAdd 96 c) : Fin (128 + (32 + 96))).val = 128 + c.val := rfl
    have h1 : ¬ (Fin.natAdd 128 (Fin.castAdd 96 c) : Fin (128 + (32 + 96))).val < 128 := by rw [hv]; omega
    have h2 : (Fin.natAdd 128 (Fin.castAdd 96 c) : Fin (128 + (32 + 96))).val - 128 < 32 := by rw [hv]; omega
    unfold qR
    rw [dif_neg h1, dif_pos h2, dif_neg h1, dif_pos h2]
    have e : (⟨(Fin.natAdd 128 (Fin.castAdd 96 c) : Fin (128 + (32 + 96))).val - 128, h2⟩ : Fin 32) = c := Fin.ext (by show _ - 128 = _; rw [hv]; omega)
    exact congrArg₂ (· * ·) (congrArg B4 e) (congrArg A4 e)
  have e3 : ∀ c : Fin 96, qR B3 B4 (Fin.natAdd 128 (Fin.natAdd 32 c)) * qR A3 A4 (Fin.natAdd 128 (Fin.natAdd 32 c)) = 0 := fun c => by
    have hv : (Fin.natAdd 128 (Fin.natAdd 32 c) : Fin (128 + (32 + 96))).val = 128 + (32 + c.val) := rfl
    have h1 : ¬ (Fin.natAdd 128 (Fin.natAdd 32 c) : Fin (128 + (32 + 96))).val < 128 := by rw [hv]; omega
    have h2 : ¬ (Fin.natAdd 128 (Fin.natAdd 32 c) : Fin (128 + (32 + 96))).val - 128 < 32 := by rw [hv]; omega
    unfold qR
    rw [dif_neg h1, dif_neg h2, zero_mul]
  rw [Finset.sum_congr rfl fun c _ => e1 c, Finset.sum_congr rfl fun c _ => e2 c, Finset.sum_congr rfl fun c _ => e3 c]
  simp

variable (m : (ℓ : Loc nD τ sig) → Buf (Elt Ideal) ℓ) (c : Dev nD)
variable (A3 : Fin 4 → Fin 4096 → Fin 8 → Fin 128 → ℝ) (A4 : Fin 4 → Fin 4096 → Fin 8 → Fin 32 → ℝ)
variable (A5 : Fin 4 → Fin 4096 → Fin 128 → ℝ) (A6 : Fin 4 → Fin 4096 → Fin 32 → ℝ)

/-- The four arrays hold these reals. -/
structure RealArgs : Prop where
  h3 : ∀ b q h e, (m ((c.tc : Thread nD τ).loc main_arg3) : S4x4096x8x128.Idx → EReal) (ix4 b q h e) = (A3 b q h e : EReal)
  h4 : ∀ b q h e, (m ((c.tc : Thread nD τ).loc main_arg4) : S4x4096x8x32.Idx → EReal) (ix4 b q h e) = (A4 b q h e : EReal)
  h5 : ∀ b k e, (m ((c.tc : Thread nD τ).loc main_arg5) : S4x4096x128.Idx → EReal) (ix3 b k e) = (A5 b k e : EReal)
  h6 : ∀ b k e, (m ((c.tc : Thread nD τ).loc main_arg6) : S4x4096x32.Idx → EReal) (ix3 b k e) = (A6 b k e : EReal)

variable {m c A3 A4 A5 A6} (H : RealArgs m c A3 A4 A5 A6)

include H

theorem qc_real (b : Fin 4) (h : Fin 8) (q : Fin 4096) (e : Fin 256) :
    qc (m ((c.tc : Thread nD τ).loc main_arg3)) (m ((c.tc : Thread nD τ).loc main_arg4)) b h q e = (qR (A3 b q h) (A4 b q h) e : EReal) := by
  unfold qc qR
  split
  · exact H.h3 _ _ _ _
  · split
    · exact H.h4 _ _ _ _
    · rfl

theorem kc_real (b : Fin 4) (k : Fin 4096) (e : Fin 256) :
    kc (m ((c.tc : Thread nD τ).loc main_arg5)) (m ((c.tc : Thread nD τ).loc main_arg6)) b k e = (qR (A5 b k) (A6 b k) e : EReal) := by
  unfold kc qR
  split
  · exact H.h5 _ _ _
  · split
    · exact H.h6 _ _ _
    · rfl

theorem vc_real (b : Fin 4) (d : Fin 144) (k : Fin 4096) (hd : d.val < 128) :
    vc (m ((c.tc : Thread nD τ).loc main_arg5)) b d k = (A5 b k ⟨d.val, hd⟩ : EReal) := by
  unfold vc
  rw [dif_pos hd]
  exact H.h5 _ _ _

/-- A column's score against a key, before the mask. -/
theorem score_real (t : Fin (cfg0 (F := Ideal)).N) (h : Fin 8) (r : Fin 256) (q : Fin 4096) (hq : q.val = (grid0.coords t 1).val * 256 + r.val)
    (j : Fin 2048) (hj : j.val = h.val * 256 + r.val) (k : ℕ) (hk : k < 4096) :
    sU (k0_pay67 (F := Ideal) (iblk m c 3 t)) (iblk m c 4 t) j k
      = (((√96)⁻¹ * (Real.log 2)⁻¹ * dR (A3 (grid0.coords t 0) q h) (A4 (grid0.coords t 0) q h) (A5 (grid0.coords t 0)) (A6 (grid0.coords t 0)) k : ℝ) : EReal) := by
  unfold sU
  rw [dif_pos hk]
  have e : ∀ x : Fin 256, HMul.hMul (α := EReal) (β := EReal) (γ := EReal) ((iblk m c 4 t : S1x4096x256.Idx → EReal) (ix3 0 ⟨k, hk⟩ x)) (k0_pay67 (F := Ideal) (iblk m c 3 t) (ix2 j x))
      = ((qR (A5 (grid0.coords t 0) ⟨k, hk⟩) (A6 (grid0.coords t 0) ⟨k, hk⟩) x
          * (qR (A3 (grid0.coords t 0) q h) (A4 (grid0.coords t 0) q h) x * ((√96)⁻¹ * (Real.log 2)⁻¹)) : ℝ) : EReal) := fun x => by
    rw [EReal.coe_mul, EReal.coe_mul]
    refine congrArg₂ (· * ·) ?_ ((pay67_apply (iblk m c 3 t) h r j hj x).trans (congrArg (· * _) ?_))
    · exact (iblk4_apply m c t ⟨k, hk⟩ x).trans ((v5_apply (fun b => m (c, b)) (grid0.coords t 0) ⟨k, hk⟩ x).trans (kc_real H _ _ _))
    · refine (iblk3_apply m c t h r x).trans ((v2_apply (fun b => m (c, b)) (grid0.coords t 0) h _ x).trans ((qc_real H _ _ _ _).trans ?_))
      rw [show (⟨(grid0.coords t 1).val * 256 + r.val, _⟩ : Fin 4096) = q from Fin.ext hq.symm]
  refine (Finset.sum_congr rfl fun x _ => e x).trans ((coe_sum _ _).symm.trans ?_)
  refine congrArg _ ?_
  unfold dR atN
  simp only [dif_pos hk]
  rw [← sum_joined, Finset.mul_sum]
  exact Finset.sum_congr rfl fun x _ => by ring

/-- The accumulator after a grid point's loop, at a latent row or the row of ones. -/
theorem acc_real (t : Fin (cfg0 (F := Ideal)).N) (h : Fin 8) (r : Fin 256) (q : Fin 4096) (hq : q.val = (grid0.coords t 1).val * 256 + r.val)
    (j : Fin 2048) (hj : j.val = h.val * 256 + r.val) (d : Fin 144) :
    accAt m c t (ix2 d j)
      = accN (sk (dR (A3 (grid0.coords t 0) q h) (A4 (grid0.coords t 0) q h) (A5 (grid0.coords t 0)) (A6 (grid0.coords t 0))) q.val)
          (cV (iblk m c 5 t) d) (((grid0.coords t 1).val / 2 + 1) * 512) := by
  have hi : (grid0.coords t 1).val < 16 := (grid0.coords t 1).isLt
  have hjr : j.val % 256 = r.val := by rw [hj]; omega
  have hfull : ∀ k, k < (grid0.coords t 1).val / 2 * 512 →
      sU (k0_pay67 (F := Ideal) (iblk m c 3 t)) (iblk m c 4 t) j k
        = sk (dR (A3 (grid0.coords t 0) q h) (A4 (grid0.coords t 0) q h) (A5 (grid0.coords t 0)) (A6 (grid0.coords t 0))) q.val k := fun k hk => by
    rw [score_real H t h r q hq j hj k (by omega)]
    unfold sk
    rw [if_pos (by omega)]
  have hdiag : ∀ x : Fin 512, (if (grid0.coords t 1).val / 2 * 512 + x.val ≤ (grid0.coords t 1).val * 256 + j.val % 256 then
        sU (k0_pay67 (F := Ideal) (iblk m c 3 t)) (iblk m c 4 t) j ((grid0.coords t 1).val / 2 * 512 + x.val) else ⊥)
      = sk (dR (A3 (grid0.coords t 0) q h) (A4 (grid0.coords t 0) q h) (A5 (grid0.coords t 0)) (A6 (grid0.coords t 0))) q.val
          ((grid0.coords t 1).val / 2 * 512 + x.val) := fun x => by
    rw [score_real H t h r q hq j hj _ (by omega), hjr, ← hq]
    rfl
  unfold accAt
  split
  · exact finB_apply _ _ _ _ (sk_ne_top _ _) hfull hdiag _
  · exact finA_apply _ _ _ _ (sk_ne_top _ _) hfull hdiag _

/-- The output's block at an entry. -/
theorem block_real (t : Fin (cfg0 (F := Ideal)).N) (y : S1x8x256x128.Idx) (q : Fin 4096) (hq : q.val = (grid0.coords t 1).val * 256 + (y 2).val) :
    outOf (F := Ideal) (accAt m c t) y = olat A3 A4 A5 A6 (grid0.coords t 0) (y 1) q (y 3) := by
  have hi : (grid0.coords t 1).val < 16 := (grid0.coords t 1).isLt
  have h1 : (y 1).val < 8 := (y 1).isLt
  have h2 : (y 2).val < 256 := (y 2).isLt
  have h3 : (y 3).val < 128 := (y 3).isLt
  refine (outOf_apply (accAt m c t) y).trans ?_
  unfold GA olat
  rw [← out_eq _ _ (N := ((grid0.coords t 1).val / 2 + 1) * 512) (by omega) (by omega)]
  have cv : ∀ (d : Fin 144) (k : ℕ) (hk : k < 4096), cV (iblk m c 5 t) d k = vc (m ((c.tc : Thread nD τ).loc main_arg5)) (grid0.coords t 0) d ⟨k, hk⟩ := fun d k hk => by
    unfold cV
    rw [dif_pos hk]
    exact (iblk5_apply m c t d ⟨k, hk⟩).trans (v9_apply (fun b => m (c, b)) _ _ _)
  refine congrArg₂ Ideal.div ?_ ?_
  · refine (acc_real H t (y 1) (y 2) q hq _ rfl _).trans (accN_congr _ fun k hk => ?_)
    have hk' : k < 4096 := by omega
    refine (cv _ k hk').trans ((vc_real H _ _ _ h3).trans ?_)
    unfold atN
    rw [dif_pos hk']
    rfl
  · refine (acc_real H t (y 1) (y 2) q hq _ rfl _).trans (accN_congr _ fun k hk => ?_)
    have hk' : k < 4096 := by omega
    exact (cv _ k hk').trans (dif_neg (by decide))

omit H in
theorem emb7 (t : Fin (cfg0 (F := Ideal)).N) (y : S1x8x256x128.Idx) :
    (((cfg0 (F := Ideal)).win 7).blk t).view.emb y
      = (ix4 (grid0.coords t 0) (y 1) ⟨(grid0.coords t 1).val * 256 + (y 2).val, by
          have : (grid0.coords t 1).val < 16 := (grid0.coords t 1).isLt
          have : (y 2).val < 256 := (y 2).isLt
          omega⟩ (y 3) : S4x8x4096x128.Idx) := by
  refine funext fun a => Fin.ext ?_
  refine (Pipeline.Window.rect_emb_val win0_7 t _ a).trans ?_
  rw [show win0_7.index t = _ from index7 (grid0.coords t)]
  match a with
  | ⟨0, _⟩ =>
      have : (y 0).val < 1 := (y 0).isLt
      show (grid0.coords t 0).val * 1 + (y 0).val = (grid0.coords t 0).val; omega
  | ⟨1, _⟩ => show 0 * 8 + (y 1).val = (y 1).val; omega
  | ⟨2, _⟩ => rfl
  | ⟨3, _⟩ => show 0 * 128 + (y 3).val = (y 3).val; omega

omit H in
/-- The output as one array. -/
def olatArr (A3 : Fin 4 → Fin 4096 → Fin 8 → Fin 128 → ℝ) (A4 : Fin 4 → Fin 4096 → Fin 8 → Fin 32 → ℝ)
    (A5 : Fin 4 → Fin 4096 → Fin 128 → ℝ) (A6 : Fin 4 → Fin 4096 → Fin 32 → ℝ) : S4x8x4096x128.Idx → EReal :=
  fun i => olat A3 A4 A5 A6 (i 0) (i 1) (i 2) (i 3)

theorem point_real (t : Fin (cfg0 (F := Ideal)).N) (y : S1x8x256x128.Idx) :
    outOf (F := Ideal) (accAt m c t) y = olatArr A3 A4 A5 A6 ((((cfg0 (F := Ideal)).win 7).blk t).view.emb y) := by
  rw [emb7]
  exact block_real H t y _ rfl

theorem after_real (t : Fin (cfg0 (F := Ideal)).N) (y : S1x8x256x128.Idx) :
    ((dats (F := Ideal) m 0 c).after 7 t : S1x8x256x128.Idx → EReal) y = olatArr A3 A4 A5 A6 ((((cfg0 (F := Ideal)).win 7).blk t).view.emb y) := by
  refine (congrFun (after_7 m c t) y).trans (point_real H t y)

/-- The output array after the call. -/
theorem array_real : (dats (F := Ideal) m 0 c).arrAt 7 (cfg0 (F := Ideal)).N = olatArr A3 A4 A5 A6 :=
  (dats (F := Ideal) m 0 c).arrAt_eq_of_covers 7 (olatArr A3 A4 A5 A6) covers7 fun t _ y => after_real H t y

end Cert.KernelIdeal.Attn

end
-- ==== Proof.AttnRef.Scores.lean ====
/- The reference's scores: the products, scaled and masked, over the reals. -/
module

public import proofs.«01_k».proof.Proof.Gen.ReferenceIdeal.Read
public import proofs.«01_k».proof.Proof.Attn.Spec
public import Idealize.ShloMosaic.Lib.StableHlo.Run
public import Idealize.ShloMosaic.Lib.Pipeline.ValueKit.Geometry

@[expose] public section

set_option maxRecDepth 16384

noncomputable section

open scoped BigOperators

namespace Cert.ReferenceIdeal.Attn

open Cert.ReferenceIdeal Cert.ReferenceIdeal.Gen Cert.Online Cert.Latent
open Idealize.ShloMosaic Idealize.ShloMosaic.TcCoe Idealize.ShloMosaic.ValueIdx Idealize.ShloMosaic.StableHlo

/-! ### The two products -/

theorem lhs_dotC_0 (i : S4x4096x4096x8.Idx) (q : dot_S4x4096x128_S4x4096x8x128_S4x4096x4096x8_2_3_1_12_0_0.contr.Idx) : (dot_S4x4096x128_S4x4096x8x128_S4x4096x4096x8_2_3_1_12_0_0.lhsIdx i q 0).val = (i 0).val := by
  unfold DotDims.lhsIdx
  rw [dif_pos (show (0 : Fin S4x4096x128.rank) ∈ dot_S4x4096x128_S4x4096x8x128_S4x4096x4096x8_2_3_1_12_0_0.lhsBatch by decide)]
  rfl
theorem lhs_dotC_1 (i : S4x4096x4096x8.Idx) (q : dot_S4x4096x128_S4x4096x8x128_S4x4096x4096x8_2_3_1_12_0_0.contr.Idx) : (dot_S4x4096x128_S4x4096x8x128_S4x4096x4096x8_2_3_1_12_0_0.lhsIdx i q 1).val = (i 1).val := by
  unfold DotDims.lhsIdx
  rw [dif_neg (show ¬(1 : Fin S4x4096x128.rank) ∈ dot_S4x4096x128_S4x4096x8x128_S4x4096x4096x8_2_3_1_12_0_0.lhsBatch by decide), dif_pos (show (1 : Fin S4x4096x128.rank) ∈ dot_S4x4096x128_S4x4096x8x128_S4x4096x4096x8_2_3_1_12_0_0.lhsNonContracting by decide)]
  rfl
theorem lhs_dotC_2 (i : S4x4096x4096x8.Idx) (q : dot_S4x4096x128_S4x4096x8x128_S4x4096x4096x8_2_3_1_12_0_0.contr.Idx) :
    (dot_S4x4096x128_S4x4096x8x128_S4x4096x4096x8_2_3_1_12_0_0.lhsIdx i q 2).val = (q ⟨0, by decide⟩).val := dot_S4x4096x128_S4x4096x8x128_S4x4096x4096x8_2_3_1_12_0_0.lhsIdx_val_of_single rfl i q
theorem rhs_dotC_0 (i : S4x4096x4096x8.Idx) (q : dot_S4x4096x128_S4x4096x8x128_S4x4096x4096x8_2_3_1_12_0_0.contr.Idx) : (dot_S4x4096x128_S4x4096x8x128_S4x4096x4096x8_2_3_1_12_0_0.rhsIdx i q 0).val = (i 0).val := by
  unfold DotDims.rhsIdx
  rw [dif_pos (show (0 : Fin S4x4096x8x128.rank) ∈ dot_S4x4096x128_S4x4096x8x128_S4x4096x4096x8_2_3_1_12_0_0.rhsBatch by decide)]
  rfl
theorem rhs_dotC_1 (i : S4x4096x4096x8.Idx) (q : dot_S4x4096x128_S4x4096x8x128_S4x4096x4096x8_2_3_1_12_0_0.contr.Idx) : (dot_S4x4096x128_S4x4096x8x128_S4x4096x4096x8_2_3_1_12_0_0.rhsIdx i q 1).val = (i 2).val := by
  unfold DotDims.rhsIdx
  rw [dif_neg (show ¬(1 : Fin S4x4096x8x128.rank) ∈ dot_S4x4096x128_S4x4096x8x128_S4x4096x4096x8_2_3_1_12_0_0.rhsBatch by decide), dif_pos (show (1 : Fin S4x4096x8x128.rank) ∈ dot_S4x4096x128_S4x4096x8x128_S4x4096x4096x8_2_3_1_12_0_0.rhsNonContracting by decide)]
  rfl
theorem rhs_dotC_2 (i : S4x4096x4096x8.Idx) (q : dot_S4x4096x128_S4x4096x8x128_S4x4096x4096x8_2_3_1_12_0_0.contr.Idx) : (dot_S4x4096x128_S4x4096x8x128_S4x4096x4096x8_2_3_1_12_0_0.rhsIdx i q 2).val = (i 3).val := by
  unfold DotDims.rhsIdx
  rw [dif_neg (show ¬(2 : Fin S4x4096x8x128.rank) ∈ dot_S4x4096x128_S4x4096x8x128_S4x4096x4096x8_2_3_1_12_0_0.rhsBatch by decide), dif_pos (show (2 : Fin S4x4096x8x128.rank) ∈ dot_S4x4096x128_S4x4096x8x128_S4x4096x4096x8_2_3_1_12_0_0.rhsNonContracting by decide)]
  rfl
theorem rhs_dotC_3 (i : S4x4096x4096x8.Idx) (q : dot_S4x4096x128_S4x4096x8x128_S4x4096x4096x8_2_3_1_12_0_0.contr.Idx) :
    (dot_S4x4096x128_S4x4096x8x128_S4x4096x4096x8_2_3_1_12_0_0.rhsIdx i q 3).val = (q ⟨0, by decide⟩).val := dot_S4x4096x128_S4x4096x8x128_S4x4096x4096x8_2_3_1_12_0_0.rhsIdx_val_of_single rfl i q

theorem dotC_apply (l : FVec Ideal S4x4096x128 .f32) (r : FVec Ideal S4x4096x8x128 .f32) (b : Fin 4) (k q : Fin 4096) (h : Fin 8) :
    Host.dotGeneral dot_S4x4096x128_S4x4096x8x128_S4x4096x4096x8_2_3_1_12_0_0 none l r (ix4 b k q h) = ∑ e : Fin 128, HMul.hMul (α := EReal) (β := EReal) (γ := EReal) (l (ix3 b k e)) (r (ix4 b q h e)) := by
  simp only [Host.dotGeneral]
  rw [Ideal.dotGeneral_apply, ← Equiv.sum_comp (ValueIdx.contrEquiv1 dot_S4x4096x128_S4x4096x8x128_S4x4096x4096x8_2_3_1_12_0_0 128 rfl rfl).symm]
  refine Finset.sum_congr rfl fun e _ => ?_
  have hk := ValueIdx.contrEquiv1_symm_val dot_S4x4096x128_S4x4096x8x128_S4x4096x4096x8_2_3_1_12_0_0 128 rfl rfl e
  refine congrArg₂ (HMul.hMul (α := EReal) (β := EReal) (γ := EReal)) (congrArg l (funext fun a => Fin.ext ?_)) (congrArg r (funext fun a => Fin.ext ?_))
  · match a with
    | ⟨0, _⟩ => exact lhs_dotC_0 _ _
    | ⟨1, _⟩ => exact lhs_dotC_1 _ _
    | ⟨2, _⟩ => exact (lhs_dotC_2 _ _).trans hk
  · match a with
    | ⟨0, _⟩ => exact rhs_dotC_0 _ _
    | ⟨1, _⟩ => exact rhs_dotC_1 _ _
    | ⟨2, _⟩ => exact rhs_dotC_2 _ _
    | ⟨3, _⟩ => exact (rhs_dotC_3 _ _).trans hk

theorem lhs_dotP_0 (i : S4x4096x4096x8.Idx) (q : dot_S4x4096x32_S4x4096x8x32_S4x4096x4096x8_2_3_1_12_0_0.contr.Idx) : (dot_S4x4096x32_S4x4096x8x32_S4x4096x4096x8_2_3_1_12_0_0.lhsIdx i q 0).val = (i 0).val := by
  unfold DotDims.lhsIdx
  rw [dif_pos (show (0 : Fin S4x4096x32.rank) ∈ dot_S4x4096x32_S4x4096x8x32_S4x4096x4096x8_2_3_1_12_0_0.lhsBatch by decide)]
  rfl
theorem lhs_dotP_1 (i : S4x4096x4096x8.Idx) (q : dot_S4x4096x32_S4x4096x8x32_S4x4096x4096x8_2_3_1_12_0_0.contr.Idx) : (dot_S4x4096x32_S4x4096x8x32_S4x4096x4096x8_2_3_1_12_0_0.lhsIdx i q 1).val = (i 1).val := by
  unfold DotDims.lhsIdx
  rw [dif_neg (show ¬(1 : Fin S4x4096x32.rank) ∈ dot_S4x4096x32_S4x4096x8x32_S4x4096x4096x8_2_3_1_12_0_0.lhsBatch by decide), dif_pos (show (1 : Fin S4x4096x32.rank) ∈ dot_S4x4096x32_S4x4096x8x32_S4x4096x4096x8_2_3_1_12_0_0.lhsNonContracting by decide)]
  rfl
theorem lhs_dotP_2 (i : S4x4096x4096x8.Idx) (q : dot_S4x4096x32_S4x4096x8x32_S4x4096x4096x8_2_3_1_12_0_0.contr.Idx) :
    (dot_S4x4096x32_S4x4096x8x32_S4x4096x4096x8_2_3_1_12_0_0.lhsIdx i q 2).val = (q ⟨0, by decide⟩).val := dot_S4x4096x32_S4x4096x8x32_S4x4096x4096x8_2_3_1_12_0_0.lhsIdx_val_of_single rfl i q
theorem rhs_dotP_0 (i : S4x4096x4096x8.Idx) (q : dot_S4x4096x32_S4x4096x8x32_S4x4096x4096x8_2_3_1_12_0_0.contr.Idx) : (dot_S4x4096x32_S4x4096x8x32_S4x4096x4096x8_2_3_1_12_0_0.rhsIdx i q 0).val = (i 0).val := by
  unfold DotDims.rhsIdx
  rw [dif_pos (show (0 : Fin S4x4096x8x32.rank) ∈ dot_S4x4096x32_S4x4096x8x32_S4x4096x4096x8_2_3_1_12_0_0.rhsBatch by decide)]
  rfl
theorem rhs_dotP_1 (i : S4x4096x4096x8.Idx) (q : dot_S4x4096x32_S4x4096x8x32_S4x4096x4096x8_2_3_1_12_0_0.contr.Idx) : (dot_S4x4096x32_S4x4096x8x32_S4x4096x4096x8_2_3_1_12_0_0.rhsIdx i q 1).val = (i 2).val := by
  unfold DotDims.rhsIdx
  rw [dif_neg (show ¬(1 : Fin S4x4096x8x32.rank) ∈ dot_S4x4096x32_S4x4096x8x32_S4x4096x4096x8_2_3_1_12_0_0.rhsBatch by decide), dif_pos (show (1 : Fin S4x4096x8x32.rank) ∈ dot_S4x4096x32_S4x4096x8x32_S4x4096x4096x8_2_3_1_12_0_0.rhsNonContracting by decide)]
  rfl
theorem rhs_dotP_2 (i : S4x4096x4096x8.Idx) (q : dot_S4x4096x32_S4x4096x8x32_S4x4096x4096x8_2_3_1_12_0_0.contr.Idx) : (dot_S4x4096x32_S4x4096x8x32_S4x4096x4096x8_2_3_1_12_0_0.rhsIdx i q 2).val = (i 3).val := by
  unfold DotDims.rhsIdx
  rw [dif_neg (show ¬(2 : Fin S4x4096x8x32.rank) ∈ dot_S4x4096x32_S4x4096x8x32_S4x4096x4096x8_2_3_1_12_0_0.rhsBatch by decide), dif_pos (show (2 : Fin S4x4096x8x32.rank) ∈ dot_S4x4096x32_S4x4096x8x32_S4x4096x4096x8_2_3_1_12_0_0.rhsNonContracting by decide)]
  rfl
theorem rhs_dotP_3 (i : S4x4096x4096x8.Idx) (q : dot_S4x4096x32_S4x4096x8x32_S4x4096x4096x8_2_3_1_12_0_0.contr.Idx) :
    (dot_S4x4096x32_S4x4096x8x32_S4x4096x4096x8_2_3_1_12_0_0.rhsIdx i q 3).val = (q ⟨0, by decide⟩).val := dot_S4x4096x32_S4x4096x8x32_S4x4096x4096x8_2_3_1_12_0_0.rhsIdx_val_of_single rfl i q

theorem dotP_apply (l : FVec Ideal S4x4096x32 .f32) (r : FVec Ideal S4x4096x8x32 .f32) (b : Fin 4) (k q : Fin 4096) (h : Fin 8) :
    Host.dotGeneral dot_S4x4096x32_S4x4096x8x32_S4x4096x4096x8_2_3_1_12_0_0 none l r (ix4 b k q h) = ∑ e : Fin 32, HMul.hMul (α := EReal) (β := EReal) (γ := EReal) (l (ix3 b k e)) (r (ix4 b q h e)) := by
  simp only [Host.dotGeneral]
  rw [Ideal.dotGeneral_apply, ← Equiv.sum_comp (ValueIdx.contrEquiv1 dot_S4x4096x32_S4x4096x8x32_S4x4096x4096x8_2_3_1_12_0_0 32 rfl rfl).symm]
  refine Finset.sum_congr rfl fun e _ => ?_
  have hk := ValueIdx.contrEquiv1_symm_val dot_S4x4096x32_S4x4096x8x32_S4x4096x4096x8_2_3_1_12_0_0 32 rfl rfl e
  refine congrArg₂ (HMul.hMul (α := EReal) (β := EReal) (γ := EReal)) (congrArg l (funext fun a => Fin.ext ?_)) (congrArg r (funext fun a => Fin.ext ?_))
  · match a with
    | ⟨0, _⟩ => exact lhs_dotP_0 _ _
    | ⟨1, _⟩ => exact lhs_dotP_1 _ _
    | ⟨2, _⟩ => exact (lhs_dotP_2 _ _).trans hk
  · match a with
    | ⟨0, _⟩ => exact rhs_dotP_0 _ _
    | ⟨1, _⟩ => exact rhs_dotP_1 _ _
    | ⟨2, _⟩ => exact rhs_dotP_2 _ _
    | ⟨3, _⟩ => exact (rhs_dotP_3 _ _).trans hk

/-! ### The sum of the products before the mask -/

theorem host_v4 (V0 : Valuation τ sig (Elt Ideal)) : after hostOps0 V0 (Proc.devRef .tc main_v4)
    = (addf (F := Ideal) (φ := .f32) (s := S4x8x4096x4096)
        (transpose S4x8x4096x4096 [0, 3, 2, 1] (Host.dotGeneral (F := Ideal) (φ₁ := .f32) (φ₂ := .f32) dot_S4x4096x128_S4x4096x8x128_S4x4096x4096x8_2_3_1_12_0_0 none (V0 (Proc.devRef .tc main_arg5)) (V0 (Proc.devRef .tc main_arg3))) transposes_S4x4096x4096x8_S4x8x4096x4096_0_3_2_1)
        (transpose S4x8x4096x4096 [0, 3, 2, 1] (Host.dotGeneral (F := Ideal) (φ₁ := .f32) (φ₂ := .f32) dot_S4x4096x32_S4x4096x8x32_S4x4096x4096x8_2_3_1_12_0_0 none (V0 (Proc.devRef .tc main_arg6)) (V0 (Proc.devRef .tc main_arg4))) transposes_S4x4096x4096x8_S4x8x4096x4096_0_3_2_1)) := by
  simp only [hostOps0]
  after_results

variable (m : (ℓ : Loc nD τ sig) → Buf (Elt Ideal) ℓ) (c : Dev nD)
variable (A3 : Fin 4 → Fin 4096 → Fin 8 → Fin 128 → ℝ) (A4 : Fin 4 → Fin 4096 → Fin 8 → Fin 32 → ℝ)
variable (A5 : Fin 4 → Fin 4096 → Fin 128 → ℝ) (A6 : Fin 4 → Fin 4096 → Fin 32 → ℝ)

/-- The four arrays hold these reals. -/
structure RealArgs : Prop where
  h3 : ∀ b q h e, (m ((c.tc : Thread nD τ).loc main_arg3) : S4x4096x8x128.Idx → EReal) (ix4 b q h e) = (A3 b q h e : EReal)
  h4 : ∀ b q h e, (m ((c.tc : Thread nD τ).loc main_arg4) : S4x4096x8x32.Idx → EReal) (ix4 b q h e) = (A4 b q h e : EReal)
  h5 : ∀ b k e, (m ((c.tc : Thread nD τ).loc main_arg5) : S4x4096x128.Idx → EReal) (ix3 b k e) = (A5 b k e : EReal)
  h6 : ∀ b k e, (m ((c.tc : Thread nD τ).loc main_arg6) : S4x4096x32.Idx → EReal) (ix3 b k e) = (A6 b k e : EReal)

variable {m c A3 A4 A5 A6} (H : RealArgs m c A3 A4 A5 A6)

include H

theorem score_real (b : Fin 4) (h : Fin 8) (q k : Fin 4096) :
    (V m c main_v4 : S4x8x4096x4096.Idx → EReal) (ix4 b h q k) = (dR (A3 b q h) (A4 b q h) (A5 b) (A6 b) k.val : EReal) := by
  refine (congrFun (host_v4 (fun b => m (c, b))) (ix4 b h q k)).trans ?_
  unfold dR
  rw [EReal.coe_add, coe_sum, coe_sum]
  refine congrArg₂ (HAdd.hAdd (α := EReal) (β := EReal) (γ := EReal)) ?_ ?_
  · refine (transpose_apply _ _ _ (ix4 b h q k) (ix4 b k q h) fun a => ?_).trans ((dotC_apply _ _ b k q h).trans (Finset.sum_congr rfl fun e _ => ?_))
    · match a with
      | ⟨0, _⟩ => rfl
      | ⟨1, _⟩ => rfl
      | ⟨2, _⟩ => rfl
      | ⟨3, _⟩ => rfl
    · rw [EReal.coe_mul]
      unfold atN
      rw [dif_pos k.isLt]
      exact congrArg₂ (HMul.hMul (α := EReal) (β := EReal) (γ := EReal)) (H.h5 b k e) (H.h3 b q h e)
  · refine (transpose_apply _ _ _ (ix4 b h q k) (ix4 b k q h) fun a => ?_).trans ((dotP_apply _ _ b k q h).trans (Finset.sum_congr rfl fun e _ => ?_))
    · match a with
      | ⟨0, _⟩ => rfl
      | ⟨1, _⟩ => rfl
      | ⟨2, _⟩ => rfl
      | ⟨3, _⟩ => rfl
    · rw [EReal.coe_mul]
      unfold atN
      rw [dif_pos k.isLt]
      exact congrArg₂ (HMul.hMul (α := EReal) (β := EReal) (γ := EReal)) (H.h6 b k e) (H.h4 b q h e)

/-! ### Scale and mask -/

omit H in
theorem named_mask : Named.named (F := Ideal) κ "mask" (φ := .f32) 0xF149F2CA#32 = (⊥ : EReal) := IdealRules.named_const.ideal_named_scalar _ _ _ _ rfl
omit H in
theorem named_scale : Named.named (F := Ideal) κ "scale" (φ := .f32) 0x3DD105EC#32 = (((√96)⁻¹ : ℝ) : EReal) :=
  IdealRules.named_const.ideal_named_scalar _ _ _ _ rfl

omit H in
theorem sle_ofNat {a b : ℕ} (ha : a < 4096) (hb : b < 4096) :
    IntOp.cmpi .sle (BitVec.ofNat 32 a) (BitVec.ofNat 32 b) = BitVec.ofBool (decide (a ≤ b)) := by
  have t : ∀ n : ℕ, n < 4096 → (BitVec.ofNat 32 n).toInt = n := fun n hn => by
    rw [BitVec.toInt_ofNat', Int.bmod_def]
    norm_num
    omega
  unfold IntOp.cmpi
  show BitVec.ofBool (decide ((BitVec.ofNat 32 a).toInt ≤ (BitVec.ofNat 32 b).toInt)) = _
  rw [t a ha, t b hb]
  simp

omit H in
theorem pay1_apply (x : Vec Ideal S4x8x4096x4096 .f32) (b : Fin 4) (h : Fin 8) (q k : Fin 4096) :
    k0_pay1 (F := Ideal) x (ix4 b h q k) = if k.val ≤ q.val then HMul.hMul (α := EReal) (β := EReal) (γ := EReal) (x (ix4 b h q k)) (((√96)⁻¹ : ℝ) : EReal) else ⊥ := by
  have e : k0_pay1 (F := Ideal) x (ix4 b h q k)
      = Scalar.select (IntOp.cmpi .sle (iota .tc S4x8x4096x4096 32 [3] iota_S4x8x4096x4096_d3_w32 (ix4 b h q k)) (iota .tc S4x8x4096x4096 32 [2] iota_S4x8x4096x4096_d2_w32 (ix4 b h q k)))
          (HMul.hMul (α := EReal) (β := EReal) (γ := EReal) (x (ix4 b h q k)) (Named.named (F := Ideal) κ "scale" (φ := .f32) 0x3DD105EC#32)) (Named.named (F := Ideal) κ "mask" (φ := .f32) 0xF149F2CA#32) := by
    unfold k0_pay1
    rw [shapeCast_self]
    rfl
  rw [e, iota_single_apply, iota_single_apply, named_mask, named_scale]
  show Scalar.select (IntOp.cmpi .sle (BitVec.ofNat 32 k.val) (BitVec.ofNat 32 q.val)) _ _ = _
  rw [sle_ofNat k.isLt q.isLt]
  by_cases hkq : k.val ≤ q.val
  · rw [if_pos hkq, decide_eq_true hkq]; rfl
  · rw [if_neg hkq, decide_eq_false hkq]; rfl

omit H in
theorem out_apply (x : Vec Ideal S4x8x4096x4096 .f32) : out0_1 (F := Ideal) x = k0_pay1 x := by
  unfold out0_1
  have z : (![0, 0, 0, 0] : Fin 4 → Nat) = fun _ => 0 := funext fun a => by
    match a with
    | ⟨0, _⟩ => rfl
    | ⟨1, _⟩ => rfl
    | ⟨2, _⟩ => rfl
    | ⟨3, _⟩ => rfl
  rw [View.canon_unit_zero z, View.ld_unit_zero z]

/-- The masked scores as one array. -/
def scArr (A3 : Fin 4 → Fin 4096 → Fin 8 → Fin 128 → ℝ) (A4 : Fin 4 → Fin 4096 → Fin 8 → Fin 32 → ℝ)
    (A5 : Fin 4 → Fin 4096 → Fin 128 → ℝ) (A6 : Fin 4 → Fin 4096 → Fin 32 → ℝ) : S4x8x4096x4096.Idx → EReal :=
  fun i => sc (dR (A3 (i 0) (i 2) (i 1)) (A4 (i 0) (i 2) (i 1)) (A5 (i 0)) (A6 (i 0))) (i 2).val (i 3).val

omit H in
theorem emb0 (t : Fin cfg0.N) (y : S4x8x4096x4096.Idx) : ((cfg0.win 0).blk t).view.emb y = (y : S4x8x4096x4096.Idx) :=
  funext fun a => Fin.ext ((Pipeline.Window.rect_emb_val win0_0 t y a).trans (by
    match a with
    | ⟨0, _⟩ => show 0 * 4 + (y 0).val = (y 0).val; omega
    | ⟨1, _⟩ => show 0 * 8 + (y 1).val = (y 1).val; omega
    | ⟨2, _⟩ => show 0 * 4096 + (y 2).val = (y 2).val; omega
    | ⟨3, _⟩ => show 0 * 4096 + (y 3).val = (y 3).val; omega))

omit H in
theorem emb1 (t : Fin cfg0.N) (y : S4x8x4096x4096.Idx) : ((cfg0.win 1).blk t).view.emb y = (y : S4x8x4096x4096.Idx) :=
  funext fun a => Fin.ext ((Pipeline.Window.rect_emb_val win0_1 t y a).trans (by
    match a with
    | ⟨0, _⟩ => show 0 * 4 + (y 0).val = (y 0).val; omega
    | ⟨1, _⟩ => show 0 * 8 + (y 1).val = (y 1).val; omega
    | ⟨2, _⟩ => show 0 * 4096 + (y 2).val = (y 2).val; omega
    | ⟨3, _⟩ => show 0 * 4096 + (y 3).val = (y 3).val; omega))

omit H in
theorem covers1 : (cfg0.win 1).Covers := (by decide +kernel : win0_1.Covers)

theorem masked_real (t : Fin cfg0.N) (y : S4x8x4096x4096.Idx) :
    out0_1 (F := Ideal) (iblk m c 0 t) y = scArr A3 A4 A5 A6 y := by
  obtain ⟨b, h, q, k, rfl⟩ : ∃ b h q k, y = ix4 (n0 := 4) (n1 := 8) (n2 := 4096) (n3 := 4096) b h q k := ⟨y 0, y 1, y 2, y 3, funext fun a => by
    match a with
    | ⟨0, _⟩ => rfl
    | ⟨1, _⟩ => rfl
    | ⟨2, _⟩ => rfl
    | ⟨3, _⟩ => rfl⟩
  refine (congrFun (out_apply (iblk m c 0 t)) (ix4 b h q k)).trans ((pay1_apply (iblk m c 0 t) b h q k).trans ?_)
  have e : (iblk m c 0 t : S4x8x4096x4096.Idx → EReal) (ix4 b h q k) = (dR (A3 b q h) (A4 b q h) (A5 b) (A6 b) k.val : EReal) :=
    (congrArg (V m c main_v4 : S4x8x4096x4096.Idx → EReal) (emb0 t (ix4 b h q k))).trans (score_real H b h q k)
  show _ = if k.val ≤ q.val then (((√96)⁻¹ * dR (A3 b q h) (A4 b q h) (A5 b) (A6 b) k.val : ℝ) : EReal) else ⊥
  split
  · rw [EReal.coe_mul, mul_comm]
    exact congrArg (HMul.hMul (α := EReal) (β := EReal) (γ := EReal) _) e
  · rfl

theorem after_real (t : Fin cfg0.N) (y : S4x8x4096x4096.Idx) :
    ((dats (F := Ideal) m 0 c).after 1 t : S4x8x4096x4096.Idx → EReal) y = scArr A3 A4 A5 A6 (((cfg0.win 1).blk t).view.emb y) := by
  rw [emb1]
  exact (congrFun (after0_1 m c t) y).trans (masked_real H t y)

/-- The masked scores after the call. -/
theorem reg_real : Value.reg_main_v5 m c = scArr A3 A4 A5 A6 :=
  (dats (F := Ideal) m 0 c).arrAt_eq_of_covers 1 (scArr A3 A4 A5 A6) covers1 fun t _ y => after_real H t y

end Cert.ReferenceIdeal.Attn

end
-- ==== Proof.AttnRef.Out.lean ====
/- The reference's output: the softmax of the masked scores against the latent vectors. -/
module

public import proofs.«01_k».proof.Proof.AttnRef.Scores
public import Idealize.ShloMosaic.Lib.KernelVsHost

@[expose] public section

set_option maxRecDepth 16384

noncomputable section

open scoped BigOperators

namespace Cert.ReferenceIdeal.Attn

open Cert.ReferenceIdeal Cert.ReferenceIdeal.Gen Cert.ReferenceIdeal.Read Cert.Online Cert.Latent
open Idealize.ShloMosaic Idealize.ShloMosaic.TcCoe Idealize.ShloMosaic.ValueIdx Idealize.ShloMosaic.StableHlo

theorem mxN_fin (s : ℕ → EReal) (n : ℕ) : mxN s n = Finset.univ.sup fun k : Fin n => s k.val := by
  unfold mxN
  apply le_antisymm
  · exact Finset.sup_le fun k hk => Finset.le_sup (f := fun k : Fin n => s k.val) (Finset.mem_univ (⟨k, Finset.mem_range.1 hk⟩ : Fin n))
  · exact Finset.sup_le fun k _ => Finset.le_sup (f := s) (Finset.mem_range.2 k.isLt)

theorem bot32 : FloatOps.ofBits (F := Ideal) .f32 0xFF800000#32 = (⊥ : EReal) := by
  show Ideal.ofBits .f32 0xFF800000#32 = ⊥
  simp [Ideal.ofBits, Ideal.ieee]

theorem reduces3 : S4x8x4096x4096.Reduces [3] S4x8x4096 := by decide

/-- A row's maximum. -/
theorem v6_apply (r0 : (⟨S4x8x4096x4096, .f32⟩ : BufTy).Contents (Elt Ideal)) (b : Fin 4) (h : Fin 8) (q : Fin 4096) :
    val_main_v6 (F := Ideal) r0 (ix3 b h q) = Finset.univ.sup fun k : Fin 4096 => (r0 : S4x8x4096x4096.Idx → EReal) (ix4 b h q k) := by
  unfold val_main_v6 val_main_cst
  rw [hostReduce_maximumf_eq_multiReduction (F := Ideal) (φ := .f32) r0 0xFF800000#32 reducesTo_S4x8x4096x4096_S4x8x4096_d3 h_S_ reduces3 (Or.inl rfl) rfl]
  refine (Ideal.multiReduction_maximumf_single _ _ _ _ _ _).trans ?_
  rw [bot32]
  show Finset.univ.sup _ = Finset.univ.sup _
  refine Finset.sup_congr rfl fun k _ => congrArg r0 (funext fun a => Fin.ext ?_)
  match a with
  | ⟨0, _⟩ => rfl
  | ⟨1, _⟩ => rfl
  | ⟨2, _⟩ => rfl
  | ⟨3, _⟩ => rfl

variable (A3 : Fin 4 → Fin 4096 → Fin 8 → Fin 128 → ℝ) (A4 : Fin 4 → Fin 4096 → Fin 8 → Fin 32 → ℝ)
variable (A5 : Fin 4 → Fin 4096 → Fin 128 → ℝ) (A6 : Fin 4 → Fin 4096 → Fin 32 → ℝ)

/-- The scores of one query. -/
abbrev row (b : Fin 4) (h : Fin 8) (q : Fin 4096) : ℕ → EReal := sc (dR (A3 b q h) (A4 b q h) (A5 b) (A6 b)) q.val

theorem v8_real (b : Fin 4) (h : Fin 8) (q : Fin 4096) : val_main_v8 (F := Ideal) (scArr A3 A4 A5 A6) (ix3 b h q) = mxN (row A3 A4 A5 A6 b h q) 4096 := by
  rw [val_main_v8_apply, val_main_v7_apply, val_main_cst_0_apply, bot32, mxN_fin]
  refine (bot_sup_eq _).trans ((v6_apply _ b h q).trans ?_)
  rfl

theorem v12_real (b : Fin 4) (h : Fin 8) (q k : Fin 4096) :
    val_main_v12 (F := Ideal) (scArr A3 A4 A5 A6) (ix4 b h q k) = Ideal.exp (row A3 A4 A5 A6 b h q k.val - mxN (row A3 A4 A5 A6 b h q) 4096) := by
  rw [val_main_v12_apply, val_main_v11_apply, val_main_v10_apply, val_main_v9_apply]
  refine congrArg Ideal.exp (congrArg₂ (HSub.hSub (α := EReal) (β := EReal) (γ := EReal)) rfl ?_)
  refine Eq.trans (congrArg (val_main_v8 (F := Ideal) (scArr A3 A4 A5 A6)) (funext fun a => ?_)) (v8_real A3 A4 A5 A6 b h q)
  match a with
  | ⟨0, _⟩ => rfl
  | ⟨1, _⟩ => rfl
  | ⟨2, _⟩ => rfl

theorem v13_real (b : Fin 4) (h : Fin 8) (q : Fin 4096) :
    val_main_v13 (F := Ideal) (scArr A3 A4 A5 A6) (ix3 b h q)
      = ∑ k ∈ Finset.range 4096, Ideal.exp (row A3 A4 A5 A6 b h q k - mxN (row A3 A4 A5 A6 b h q) 4096) := by
  rw [val_main_v13_apply, val_main_cst_1_apply, Finset.sum_range, show FloatOps.ofBits (F := Ideal) .f32 0x00000000#32 = (0 : EReal) from Ideal.ofBits_zero_f32]
  refine (zero_add _).trans (Finset.sum_congr rfl fun k _ => ?_)
  refine Eq.trans (congrArg (val_main_v12 (F := Ideal) (scArr A3 A4 A5 A6)) (funext fun a => ?_)) (v12_real A3 A4 A5 A6 b h q k)
  match a with
  | ⟨0, _⟩ => rfl
  | ⟨1, _⟩ => rfl
  | ⟨2, _⟩ => rfl
  | ⟨3, _⟩ => rfl

theorem v16_real (b : Fin 4) (h : Fin 8) (q k : Fin 4096) :
    val_main_v16 (F := Ideal) (scArr A3 A4 A5 A6) (ix4 b h q k)
      = Ideal.div (Ideal.exp (row A3 A4 A5 A6 b h q k.val - mxN (row A3 A4 A5 A6 b h q) 4096))
          (∑ k ∈ Finset.range 4096, Ideal.exp (row A3 A4 A5 A6 b h q k - mxN (row A3 A4 A5 A6 b h q) 4096)) := by
  rw [val_main_v16_apply, val_main_v15_apply, val_main_v14_apply]
  refine congrArg₂ Ideal.div (v12_real A3 A4 A5 A6 b h q k) ?_
  refine Eq.trans (congrArg (val_main_v13 (F := Ideal) (scArr A3 A4 A5 A6)) (funext fun a => ?_)) (v13_real A3 A4 A5 A6 b h q)
  match a with
  | ⟨0, _⟩ => rfl
  | ⟨1, _⟩ => rfl
  | ⟨2, _⟩ => rfl

variable {A3 A4 A5 A6} {m : (ℓ : Loc nD τ sig) → Buf (Elt Ideal) ℓ} {c : Dev nD}

/-- The reference's result. -/
theorem v17_real (H : RealArgs m c A3 A4 A5 A6) (b : Fin 4) (h : Fin 8) (q : Fin 4096) (d : Fin 128) :
    val_main_v17 (F := Ideal) (m ((c.tc : Thread nD τ).loc main_arg5)) (Value.reg_main_v5 m c) (ix4 b h q d) = olat A3 A4 A5 A6 b h q d := by
  rw [reg_real H, val_main_v17_apply]
  unfold olat out
  rw [Finset.sum_range]
  refine Finset.sum_congr rfl fun k _ => congrArg₂ (HMul.hMul (α := EReal) (β := EReal) (γ := EReal)) ?_ ?_
  · refine Eq.trans (congrArg (val_main_v16 (F := Ideal) (scArr A3 A4 A5 A6)) (funext fun a => ?_)) (v16_real A3 A4 A5 A6 b h q k)
    match a with
    | ⟨0, _⟩ => rfl
    | ⟨1, _⟩ => rfl
    | ⟨2, _⟩ => rfl
    | ⟨3, _⟩ => rfl
  · refine Eq.trans (congrArg (m ((c.tc : Thread nD τ).loc main_arg5) : S4x4096x128.Idx → EReal) (funext fun a => ?_)) ((H.h5 b k d).trans ?_)
    · match a with
      | ⟨0, _⟩ => rfl
      | ⟨1, _⟩ => rfl
      | ⟨2, _⟩ => rfl
    · show _ = ((atN (A5 b) k.val d : ℝ) : EReal)
      unfold atN
      rw [dif_pos k.isLt]

end Cert.ReferenceIdeal.Attn

end
-- ==== Proof.Algebraic.lean ====
/- The attention's output equals the reference's, the arguments being finite. -/
module

public import proofs.«01_k».proof.Defs
public import proofs.«01_k».proof.Proof.Attn.Frame
public import proofs.«01_k».proof.Proof.Attn.Value
public import proofs.«01_k».proof.Proof.AttnRef.Out
public import proofs.«01_k».proof.Proof.Gen.Pre_finite

@[expose] public section

set_option maxRecDepth 16384

noncomputable section

namespace Cert.Latent

open Idealize.ShloMosaic Idealize.ShloMosaic.TcCoe Idealize.ShloMosaic.ValueIdx Idealize.SL.Sem

/-- A value whose absolute value is below infinity is a real. -/
theorem real_of_lt (x : EReal) (h : Ideal.cmp .olt (max x (-x)) (FloatOps.ofBits (F := Ideal) .f32 0x7F800000#32) = 1#1) : x = (x.toReal : EReal) := by
  have ht : FloatOps.ofBits (F := Ideal) .f32 0x7F800000#32 = (⊤ : EReal) := by
    show Ideal.ofBits .f32 0x7F800000#32 = ⊤
    simp [Ideal.ofBits, Ideal.ieee]
  rw [ht] at h
  have hlt : max x (-x) < ⊤ := by
    by_contra hn
    unfold Ideal.cmp at h
    simp [hn] at h
  have h1 : x < ⊤ := lt_of_le_of_lt (le_max_left _ _) hlt
  have h2 : -x < ⊤ := lt_of_le_of_lt (le_max_right _ _) hlt
  refine (EReal.coe_toReal h1.ne ?_).symm
  rintro rfl
  exact absurd h2 (by simp)

section

open Cert.KernelIdeal

variable (m : (ℓ : Loc nD τ sig) → Buf (Elt Ideal) ℓ) (c : Dev nD)

def r3 (b : Fin 4) (q : Fin 4096) (h : Fin 8) (e : Fin 128) : ℝ := ((m ((c.tc : Thread nD τ).loc main_arg3) : S4x4096x8x128.Idx → EReal) (ix4 b q h e)).toReal
def r4 (b : Fin 4) (q : Fin 4096) (h : Fin 8) (e : Fin 32) : ℝ := ((m ((c.tc : Thread nD τ).loc main_arg4) : S4x4096x8x32.Idx → EReal) (ix4 b q h e)).toReal
def r5 (b : Fin 4) (k : Fin 4096) (e : Fin 128) : ℝ := ((m ((c.tc : Thread nD τ).loc main_arg5) : S4x4096x128.Idx → EReal) (ix3 b k e)).toReal
def r6 (b : Fin 4) (k : Fin 4096) (e : Fin 32) : ℝ := ((m ((c.tc : Thread nD τ).loc main_arg6) : S4x4096x32.Idx → EReal) (ix3 b k e)).toReal

variable {m} in
theorem real_args (H : Cert.Pre_KernelIdeal_finite (hPre_finite := Cert.Pre_finite.Gen.facts) m) : Cert.KernelIdeal.Attn.RealArgs m c (r3 m c) (r4 m c) (r5 m c) (r6 m c) where
  h3 b q h e := real_of_lt _ (congrFun (H c).1 (ix4 b q h e))
  h4 b q h e := real_of_lt _ (congrFun (H c).2.1 (ix4 b q h e))
  h5 b k e := real_of_lt _ (congrFun (H c).2.2.1 (ix3 b k e))
  h6 b k e := real_of_lt _ (congrFun (H c).2.2.2 (ix3 b k e))

/-- The kernel's run: the output array and the arguments. -/
theorem kernel_run (ρ : Dev nD → PrngReg) (H : Cert.Pre_KernelIdeal_finite (hPre_finite := Cert.Pre_finite.Gen.facts) m) :
    θ_run (defs (F := Ideal)) (onTc (τ := τ) (main (F := Ideal))) ⟨m, fun _ => 0, ρ⟩ (fun r => ∀ c : Dev nD,
      r.2.mem ((c.tc : Thread nD τ).loc main_v21_1) = Cert.KernelIdeal.Attn.olatArr (r3 m c) (r4 m c) (r5 m c) (r6 m c)) :=
  (θ_run _ _ _).mono (fun r h c => by
    have h7 := (h.1 c).1 7
    have h7' := ((Cert.KernelIdeal.Attn.dats (F := Ideal) m 0 c).toRForget_arrAt_iff (w := 7) (fgt := Cert.KernelIdeal.Attn.fgt) rfl _ _).1 h7
    exact h7'.trans (Cert.KernelIdeal.Attn.array_real (real_args c H))) (Cert.KernelIdeal.Attn.run_quiescent m ρ)

end

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' H hm
  refine ⟨fun c => Cert.KernelIdeal.Attn.olatArr (r3 m c) (r4 m c) (r5 m c) (r6 m c), ?_, ?_⟩
  · exact (θ_run _ _ _).mono (fun r h c => ⟨h.1 c, h.2.1 c⟩) (θ_run_and (kernel_run m g H) (Cert.KernelIdeal.Attn.frame_any m g))
  · refine (θ_run _ _ _).mono (fun r h c => ⟨(h c).1.trans ?_, (h c).2⟩) (Cert.ReferenceIdeal.Value.run m' g')
    have K := real_args (m := m) c H
    have e := hm c
    have R : Cert.ReferenceIdeal.Attn.RealArgs m' c (r3 m c) (r4 m c) (r5 m c) (r6 m c) :=
      { h3 := fun b q h e' => (congrFun e.2.2.2.1 (ix4 b q h e')).trans (K.h3 b q h e')
        h4 := fun b q h e' => (congrFun e.2.2.2.2.1 (ix4 b q h e')).trans (K.h4 b q h e')
        h5 := fun b k e' => (congrFun e.2.2.2.2.2.1 (ix3 b k e')).trans (K.h5 b k e')
        h6 := fun b k e' => (congrFun e.2.2.2.2.2.2 (ix3 b k e')).trans (K.h6 b k e') }
    refine funext fun i => ?_
    obtain ⟨b, h, q, d, rfl⟩ : ∃ b h q d, i = ix4 (n0 := 4) (n1 := 8) (n2 := 4096) (n3 := 128) b h q d := ⟨i 0, i 1, i 2, i 3, funext fun a => by
      match a with
      | ⟨0, _⟩ => rfl
      | ⟨1, _⟩ => rfl
      | ⟨2, _⟩ => rfl
      | ⟨3, _⟩ => rfl⟩
    exact Cert.ReferenceIdeal.Attn.v17_real R b h q d

end Cert.Latent

end
-- ==== Proof.Ffn.Tile.lean ====
/- Rows of a layer: the norm, the gated half step, and the vector steps that compute them, read at one entry. -/
module

public import Idealize.ShloMosaic.Lib.MatmulPlain
public import Idealize.ShloMosaic.Lib.Pipeline.Value
public import Idealize.ShloMosaic.Lib.ValueIdx
public import Idealize.ShloMosaic.Lib.KernelVsHost
public import Idealize.ShloMosaic.PureOps.Ideal.Laws

@[expose] public section

set_option maxRecDepth 16384

noncomputable section

open scoped BigOperators

namespace Cert.Ffn

open Idealize.ShloMosaic Idealize.ShloMosaic.ValueIdx

/-- A row over its root mean square, times the gain. -/
def rmsRow {N : ℕ} (c : BitVec 32) (x g : Fin N → EReal) (j : Fin N) : EReal :=
  x j * Ideal.rsqrt (Ideal.div (∑ k, x k * x k) (Ideal.ofBits .f32 c) + Ideal.ofBits .f32 0x358637BD#32) * g j

/-- A row times a matrix. -/
def dotRow {K N : ℕ} (x : Fin K → EReal) (w : Fin K → Fin N → EReal) (j : Fin N) : EReal := ∑ k, x k * w k j

/-- The gated product of two projections. -/
def gateRow {K N : ℕ} (x : Fin K → EReal) (wg wu : Fin K → Fin N → EReal) (j : Fin N) : EReal :=
  dotRow x wg j * Ideal.logistic (dotRow x wg j) * dotRow x wu j

/-- The half step. -/
def ffnRow (x gpre : Fin 1024 → EReal) (wg wu : Fin 1024 → Fin 2816 → EReal) (wd : Fin 2816 → Fin 1024 → EReal) (gpost : Fin 1024 → EReal)
    (j : Fin 1024) : EReal :=
  x j + Ideal.ofBits .f32 0x3F000000#32 * rmsRow 0x44800000#32 (dotRow (gateRow (rmsRow 0x44800000#32 x gpre) wg wu) wd) gpost j

/-! ### In the kernel -/

theorem rms_apply {M N : ℕ} (c : BitVec 32) (v : FVec Ideal ⟨2, ![M, N]⟩ .f32) (g : FVec Ideal ⟨2, ![1, N]⟩ .f32)
    (hr : Shape.Reduces ⟨2, ![M, N]⟩ [1] ⟨1, ![M]⟩) (hφ) (hacc) (hc : Shape.ShapeCasts ⟨1, ![M]⟩ ⟨2, ![M, 1]⟩)
    (hb : Shape.Broadcasts ⟨2, ![M, 1]⟩ ⟨2, ![M, N]⟩) (hg : Shape.Broadcasts ⟨2, ![1, N]⟩ ⟨2, ![M, N]⟩) (hN : N ≠ 1) (hM : M ≠ 1) (i : Fin M) (j : Fin N) :
    mulf (mulf v (broadcastTo ⟨2, ![M, N]⟩ (rsqrt (addf (divf (shapeCast ⟨2, ![M, 1]⟩ (multiReduction .add [1] ⟨1, ![M]⟩ (mulf v v) 0x00000000#32 hr hφ hacc) hc)
        (broadcast ⟨2, ![M, 1]⟩ (Scalar.ofBits (F := Ideal) .f32 c))) (broadcast ⟨2, ![M, 1]⟩ (Scalar.ofBits (F := Ideal) .f32 0x358637BD#32)))) hb))
      (broadcastTo ⟨2, ![M, N]⟩ g hg) (ix2 i j)
      = rmsRow c (fun k => v (ix2 i k)) (fun k => g (ix2 0 k)) j := by
  rw [mulf_apply, mulf_apply]
  unfold rmsRow
  refine congrArg₂ (· * ·) (congrArg (v (ix2 i j) * ·) ?_) ?_
  · refine (broadcastTo_apply _ hb (ix2 i j) (ix2 i 0) fun a => ?_).trans ?_
    · match a with
      | ⟨0, _⟩ => show i.val = if M = 1 then 0 else i.val; rw [if_neg hM]
      | ⟨1, _⟩ => rfl
    · refine congrArg (fun s => Ideal.rsqrt (Ideal.div s _ + _)) ?_
      refine (shapeCast_apply _ hc (ix2 i 0) (ix1 i) ?_).trans ?_
      · rw [Shape.rowMajor_val_one, Shape.rowMajor_val_two]
        show i.val = i.val * 1 + 0
        omega
      · refine (Ideal.multiReduction_add_single _ _ hr _ _ _).trans ?_
        refine Finset.sum_congr rfl fun k _ => ?_
        have e : hr.lift (ix1 i) k = ix2 i k := funext fun a => Fin.ext (by
          match a with
          | ⟨0, _⟩ => rfl
          | ⟨1, _⟩ => rfl)
        rw [e]
        rfl
  · refine (broadcastTo_apply _ hg (ix2 i j) (ix2 0 j) fun a => ?_)
    match a with
    | ⟨0, _⟩ => rfl
    | ⟨1, _⟩ => show j.val = if N = 1 then 0 else j.val; rw [if_neg hN]

theorem dot_apply {M K N : ℕ} (x : FVec Ideal ⟨2, ![M, K]⟩ .bf16) (w : FVec Ideal ⟨2, ![K, N]⟩ .bf16) (i : Fin M) (j : Fin N) :
    FloatOps.matmul (DotDims.plain M K N) none x w (constant (F := Ideal) ⟨2, ![M, N]⟩ .f32 0x00000000#32) (ix2 i j)
      = dotRow (fun k => x (ix2 i k)) (fun k j => w (ix2 k j)) j := by
  rw [Ideal.matmul_plain_apply, constant_apply, Ideal.ofBits_zero_f32, zero_add]
  rfl

/-! ### In the reference -/

theorem hrms_apply {B T N : ℕ} (c : BitVec 32) (v : FVec Ideal ⟨3, ![B, T, N]⟩ .f32) (g : FVec Ideal ⟨1, ![N]⟩ .f32)
    (hr' : Shape.ReducesTo ⟨3, ![B, T, N]⟩ [2] ⟨2, ![B, T]⟩) (hr : Shape.Reduces ⟨3, ![B, T, N]⟩ [2] ⟨2, ![B, T]⟩) (h0 : 0 < (⟨0, ![]⟩ : Shape).numel)
    (b1 : Shape.BroadcastsInDim ⟨2, ![B, T]⟩ ⟨3, ![B, T, 1]⟩ ![0, 1]) (b2 : Shape.BroadcastsInDim ⟨0, ![]⟩ ⟨3, ![B, T, 1]⟩ ![])
    (b3 : Shape.BroadcastsInDim ⟨3, ![B, T, 1]⟩ ⟨3, ![B, T, N]⟩ ![0, 1, 2])
    (b4 : Shape.BroadcastsInDim ⟨1, ![N]⟩ ⟨3, ![1, 1, N]⟩ ![2]) (b5 : Shape.BroadcastsInDim ⟨3, ![1, 1, N]⟩ ⟨3, ![B, T, N]⟩ ![0, 1, 2])
    (hN : N ≠ 1) (hB : B ≠ 1) (hT : T ≠ 1) (b : Fin B) (t : Fin T) (j : Fin N) :
    mulf (mulf v (broadcastInDim ⟨3, ![B, T, N]⟩ ![0, 1, 2] b3 (Host.rsqrt (addf (Host.divf (broadcastInDim ⟨3, ![B, T, 1]⟩ ![0, 1] b1
        (Host.reduceAdd (mulf v v) (constant (F := Ideal) ⟨0, ![]⟩ .f32 0x00000000#32) hr' h0))
        (broadcastInDim ⟨3, ![B, T, 1]⟩ ![] b2 (constant (F := Ideal) ⟨0, ![]⟩ .f32 c)))
        (broadcastInDim ⟨3, ![B, T, 1]⟩ ![] b2 (constant (F := Ideal) ⟨0, ![]⟩ .f32 0x358637BD#32))))))
      (broadcastInDim ⟨3, ![B, T, N]⟩ ![0, 1, 2] b5 (broadcastInDim ⟨3, ![1, 1, N]⟩ ![2] b4 g)) (ix3 b t j)
      = rmsRow c (fun k => v (ix3 b t k)) (fun k => g (ix1 k)) j := by
  rw [mulf_apply, mulf_apply]
  unfold rmsRow
  refine congrArg₂ (· * ·) (congrArg (v (ix3 b t j) * ·) ?_) ?_
  · refine (broadcastInDim_apply _ b3 _ (ix3 b t j) (ix3 b t 0) fun a => ?_).trans ?_
    · match a with
      | ⟨0, _⟩ => show b.val = if B = 1 then 0 else b.val; rw [if_neg hB]
      | ⟨1, _⟩ => show t.val = if T = 1 then 0 else t.val; rw [if_neg hT]
      | ⟨2, _⟩ => rfl
    · refine congrArg (fun s => Ideal.rsqrt (Ideal.div s _ + _)) ?_
      refine (broadcastInDim_apply _ b1 _ (ix3 b t 0) (ix2 b t) fun a => ?_).trans ?_
      · match a with
        | ⟨0, _⟩ => show b.val = if B = 1 then 0 else b.val; rw [if_neg hB]
        | ⟨1, _⟩ => show t.val = if T = 1 then 0 else t.val; rw [if_neg hT]
      · simp only [Host.reduceAdd, Ideal.hostReduceAdd_def]
        rw [Ideal.hostReduceAdd_single hr' hr, constant_apply, Ideal.ofBits_zero_f32, zero_add]
        refine Finset.sum_congr rfl fun k _ => ?_
        have e : hr.lift (ix2 b t) k = ix3 b t k := funext fun a => Fin.ext (by
          match a with
          | ⟨0, _⟩ => rfl
          | ⟨1, _⟩ => rfl
          | ⟨2, _⟩ => rfl)
        rw [e]
        rfl
  · refine (broadcastInDim_apply _ b5 _ (ix3 b t j) (ix3 0 0 j) fun a => ?_).trans (broadcastInDim_apply _ b4 _ (ix3 0 0 j) (ix1 j) fun a => ?_)
    · match a with
      | ⟨0, _⟩ => rfl
      | ⟨1, _⟩ => rfl
      | ⟨2, _⟩ => show j.val = if N = 1 then 0 else j.val; rw [if_neg hN]
    · match a with
      | ⟨0, _⟩ => show j.val = if N = 1 then 0 else j.val; rw [if_neg hN]

end Cert.Ffn

end
-- ==== Proof.OutFfn.Tile.lean ====
/- The second kernel's vector steps read at one entry. -/
module

public import proofs.«01_k».proof.Proof.Gen.OutIdeal.Skeleton
public import proofs.«01_k».proof.Proof.Ffn.Tile

@[expose] public section

set_option maxRecDepth 16384

noncomputable section

open scoped BigOperators

namespace Cert.OutFfn

open Cert.Ffn Cert.OutIdeal Cert.OutIdeal.Gen
open Idealize.ShloMosaic Idealize.ShloMosaic.ValueIdx

theorem cat4 {α : Type} {M : ℕ} (v : Fin 4 → (⟨2, ![M, 128]⟩ : Shape).Idx → α) (h) (i : Fin M) (q : Fin 4) (r : Fin 128) (j : Fin 512) (hj : j.val = q.val * 128 + r.val) :
    concatenate ⟨2, ![M, 512]⟩ 1 [⟨⟨2, ![M, 128]⟩, v 0⟩, ⟨⟨2, ![M, 128]⟩, v 1⟩, ⟨⟨2, ![M, 128]⟩, v 2⟩, ⟨⟨2, ![M, 128]⟩, v 3⟩] h (ix2 i j) = v q (ix2 i r) := by
  match q, hj with
  | ⟨0, _⟩, hj =>
    refine concatenate_apply_piece (t := ⟨2, ![M, 512]⟩) 1 _ _ (ix2 i j) 0 (by show 0 < 4; omega) ⟨2, ![M, 128]⟩ _ rfl rfl 0 rfl (ix2 i r) (fun a ha => ?_) ?_
    · match a with
      | ⟨0, _⟩ => rfl
      | ⟨1, _⟩ => exact absurd rfl ha
    · exact (hj.trans rfl : j.val = 0 + r.val).symm
  | ⟨1, _⟩, hj =>
    refine concatenate_apply_piece (t := ⟨2, ![M, 512]⟩) 1 _ _ (ix2 i j) 1 (by show 1 < 4; omega) ⟨2, ![M, 128]⟩ _ rfl rfl 128 rfl (ix2 i r) (fun a ha => ?_) ?_
    · match a with
      | ⟨0, _⟩ => rfl
      | ⟨1, _⟩ => exact absurd rfl ha
    · exact (hj.trans rfl : j.val = 128 + r.val).symm
  | ⟨2, _⟩, hj =>
    refine concatenate_apply_piece (t := ⟨2, ![M, 512]⟩) 1 _ _ (ix2 i j) 2 (by show 2 < 4; omega) ⟨2, ![M, 128]⟩ _ rfl rfl 256 rfl (ix2 i r) (fun a ha => ?_) ?_
    · match a with
      | ⟨0, _⟩ => rfl
      | ⟨1, _⟩ => exact absurd rfl ha
    · exact (hj.trans rfl : j.val = 256 + r.val).symm
  | ⟨3, _⟩, hj =>
    refine concatenate_apply_piece (t := ⟨2, ![M, 512]⟩) 1 _ _ (ix2 i j) 3 (by show 3 < 4; omega) ⟨2, ![M, 128]⟩ _ rfl rfl 384 rfl (ix2 i r) (fun a ha => ?_) ?_
    · match a with
      | ⟨0, _⟩ => rfl
      | ⟨1, _⟩ => exact absurd rfl ha
    · exact (hj.trans rfl : j.val = 384 + r.val).symm

theorem cat8 {α : Type} {M : ℕ} (v : Fin 8 → (⟨2, ![M, 128]⟩ : Shape).Idx → α) (h) (i : Fin M) (q : Fin 8) (r : Fin 128) (j : Fin 1024) (hj : j.val = q.val * 128 + r.val) :
    concatenate ⟨2, ![M, 1024]⟩ 1 [⟨⟨2, ![M, 128]⟩, v 0⟩, ⟨⟨2, ![M, 128]⟩, v 1⟩, ⟨⟨2, ![M, 128]⟩, v 2⟩, ⟨⟨2, ![M, 128]⟩, v 3⟩, ⟨⟨2, ![M, 128]⟩, v 4⟩, ⟨⟨2, ![M, 128]⟩, v 5⟩, ⟨⟨2, ![M, 128]⟩, v 6⟩, ⟨⟨2, ![M, 128]⟩, v 7⟩] h (ix2 i j) = v q (ix2 i r) := by
  match q, hj with
  | ⟨0, _⟩, hj =>
    refine concatenate_apply_piece (t := ⟨2, ![M, 1024]⟩) 1 _ _ (ix2 i j) 0 (by show 0 < 8; omega) ⟨2, ![M, 128]⟩ _ rfl rfl 0 rfl (ix2 i r) (fun a ha => ?_) ?_
    · match a with
      | ⟨0, _⟩ => rfl
      | ⟨1, _⟩ => exact absurd rfl ha
    · exact (hj.trans rfl : j.val = 0 + r.val).symm
  | ⟨1, _⟩, hj =>
    refine concatenate_apply_piece (t := ⟨2, ![M, 1024]⟩) 1 _ _ (ix2 i j) 1 (by show 1 < 8; omega) ⟨2, ![M, 128]⟩ _ rfl rfl 128 rfl (ix2 i r) (fun a ha => ?_) ?_
    · match a with
      | ⟨0, _⟩ => rfl
      | ⟨1, _⟩ => exact absurd rfl ha
    · exact (hj.trans rfl : j.val = 128 + r.val).symm
  | ⟨2, _⟩, hj =>
    refine concatenate_apply_piece (t := ⟨2, ![M, 1024]⟩) 1 _ _ (ix2 i j) 2 (by show 2 < 8; omega) ⟨2, ![M, 128]⟩ _ rfl rfl 256 rfl (ix2 i r) (fun a ha => ?_) ?_
    · match a with
      | ⟨0, _⟩ => rfl
      | ⟨1, _⟩ => exact absurd rfl ha
    · exact (hj.trans rfl : j.val = 256 + r.val).symm
  | ⟨3, _⟩, hj =>
    refine concatenate_apply_piece (t := ⟨2, ![M, 1024]⟩) 1 _ _ (ix2 i j) 3 (by show 3 < 8; omega) ⟨2, ![M, 128]⟩ _ rfl rfl 384 rfl (ix2 i r) (fun a ha => ?_) ?_
    · match a with
      | ⟨0, _⟩ => rfl
      | ⟨1, _⟩ => exact absurd rfl ha
    · exact (hj.trans rfl : j.val = 384 + r.val).symm
  | ⟨4, _⟩, hj =>
    refine concatenate_apply_piece (t := ⟨2, ![M, 1024]⟩) 1 _ _ (ix2 i j) 4 (by show 4 < 8; omega) ⟨2, ![M, 128]⟩ _ rfl rfl 512 rfl (ix2 i r) (fun a ha => ?_) ?_
    · match a with
      | ⟨0, _⟩ => rfl
      | ⟨1, _⟩ => exact absurd rfl ha
    · exact (hj.trans rfl : j.val = 512 + r.val).symm
  | ⟨5, _⟩, hj =>
    refine concatenate_apply_piece (t := ⟨2, ![M, 1024]⟩) 1 _ _ (ix2 i j) 5 (by show 5 < 8; omega) ⟨2, ![M, 128]⟩ _ rfl rfl 640 rfl (ix2 i r) (fun a ha => ?_) ?_
    · match a with
      | ⟨0, _⟩ => rfl
      | ⟨1, _⟩ => exact absurd rfl ha
    · exact (hj.trans rfl : j.val = 640 + r.val).symm
  | ⟨6, _⟩, hj =>
    refine concatenate_apply_piece (t := ⟨2, ![M, 1024]⟩) 1 _ _ (ix2 i j) 6 (by show 6 < 8; omega) ⟨2, ![M, 128]⟩ _ rfl rfl 768 rfl (ix2 i r) (fun a ha => ?_) ?_
    · match a with
      | ⟨0, _⟩ => rfl
      | ⟨1, _⟩ => exact absurd rfl ha
    · exact (hj.trans rfl : j.val = 768 + r.val).symm
  | ⟨7, _⟩, hj =>
    refine concatenate_apply_piece (t := ⟨2, ![M, 1024]⟩) 1 _ _ (ix2 i j) 7 (by show 7 < 8; omega) ⟨2, ![M, 128]⟩ _ rfl rfl 896 rfl (ix2 i r) (fun a ha => ?_) ?_
    · match a with
      | ⟨0, _⟩ => rfl
      | ⟨1, _⟩ => exact absurd rfl ha
    · exact (hj.trans rfl : j.val = 896 + r.val).symm

/-- Half of a row from each. -/
def joinRow (x y : Fin 512 → EReal) (j : Fin 1024) : EReal := if h : j.val < 512 then x ⟨j.val, h⟩ else y ⟨j.val - 512, by omega⟩

/-- The residual row after the mixers. -/
def mixRow (osb omla : Fin 512 → EReal) (x1 : Fin 1024 → EReal) (gsb gmla : Fin 512 → EReal) (wo : Fin 1024 → Fin 1024 → EReal) (gmix : Fin 1024 → EReal)
    (j : Fin 1024) : EReal :=
  x1 j + rmsRow 0x44800000#32 (dotRow (joinRow (rmsRow 0x44000000#32 osb gsb) (rmsRow 0x44000000#32 omla gmla)) wo) gmix j

theorem head_apply {n : ℕ} (x : FVec Ideal ⟨4, ![1, n, 512, 128]⟩ .f32) (p : Fin n) (inb) (i : Fin 512) (r : Fin 128) :
    shapeCast S512x128 (View.ld (Val := Elt Ideal) (e' := .f32) x (Rect.unit (s := ⟨4, ![1, n, 512, 128]⟩) ![0, p.val, 0, 0] S1x1x512x128.size inb) : FVec Ideal S1x1x512x128 .f32) shapeCasts_S1x1x512x128_S512x128 (ix2 i r)
      = x (ix4 0 p i r) := by
  refine (shapeCast_apply _ _ (ix2 i r) (ix4 0 0 i r) ?_).trans ?_
  · rw [Shape.rowMajor_val_four, Shape.rowMajor_val_two]
    show ((0 * 1 + 0) * 512 + i.val) * 128 + r.val = i.val * 128 + r.val
    omega
  · refine congrArg x (funext fun a => Fin.ext ?_)
    match a with
    | ⟨0, _⟩ => rfl
    | ⟨1, _⟩ => show p.val + 1 * 0 = p.val; omega
    | ⟨2, _⟩ => show 0 + 1 * i.val = i.val; omega
    | ⟨3, _⟩ => show 0 + 1 * r.val = r.val; omega

theorem pair_apply (w : FVec Ideal S4x256x128 .bf16) (p : Fin 4) (inb) (k : Fin 256) (r : Fin 128) :
    shapeCast S256x128 (View.ld (Val := Elt Ideal) (e' := .bf16) w (Rect.unit (s := S4x256x128) ![p.val, 0, 0] S1x256x128.size inb) : FVec Ideal S1x256x128 .bf16) shapeCasts_S1x256x128_S256x128 (ix2 k r)
      = w (ix3 p k r) := by
  refine (shapeCast_dropUnit_apply ![256, 128] _ _ (ix2 k r)).trans ?_
  refine congrArg w (funext fun a => Fin.ext ?_)
  match a with
  | ⟨0, _⟩ => show p.val + 1 * 0 = p.val; omega
  | ⟨1, _⟩ => show 0 + 1 * k.val = k.val; omega
  | ⟨2, _⟩ => show 0 + 1 * r.val = r.val; omega

/-- The stick-breaking outputs, joined. -/
def osbV (x0 : FVec Ideal S1x4x512x128 .f32) : FVec Ideal S512x512 .f32 :=
  k0_pay2 (View.ld (Val := Elt Ideal) (e' := .f32) x0 (Rect.unit ![0, 0, 0, 0] S1x1x512x128.size inb_S1x4x512x128_S1x1x512x128_0_0_0_0))
    (View.ld (Val := Elt Ideal) (e' := .f32) x0 (Rect.unit ![0, 1, 0, 0] S1x1x512x128.size inb_S1x4x512x128_S1x1x512x128_0_1_0_0))
    (View.ld (Val := Elt Ideal) (e' := .f32) x0 (Rect.unit ![0, 2, 0, 0] S1x1x512x128.size inb_S1x4x512x128_S1x1x512x128_0_2_0_0))
    (View.ld (Val := Elt Ideal) (e' := .f32) x0 (Rect.unit ![0, 3, 0, 0] S1x1x512x128.size inb_S1x4x512x128_S1x1x512x128_0_3_0_0))

theorem osbV_apply (x0 : FVec Ideal S1x4x512x128 .f32) (i : Fin 512) (q : Fin 4) (r : Fin 128) (j : Fin 512) (hj : j.val = q.val * 128 + r.val) :
    osbV x0 (ix2 i j) = x0 (ix4 0 q i r) := by
  unfold osbV k0_pay2
  refine (cat4 ![_, _, _, _] _ i q r j hj).trans ?_
  match q with
  | ⟨0, _⟩ => exact head_apply (n := 4) x0 0 _ i r
  | ⟨1, _⟩ => exact head_apply (n := 4) x0 1 _ i r
  | ⟨2, _⟩ => exact head_apply (n := 4) x0 2 _ i r
  | ⟨3, _⟩ => exact head_apply (n := 4) x0 3 _ i r

/-- The latent outputs through their values. -/
def omlaV (x1 : FVec Ideal S1x8x512x128 .f32) (x5 : FVec Ideal S4x256x128 .bf16) : FVec Ideal S512x512 .f32 :=
  k0_pay8 (k0_pay3 (View.ld (Val := Elt Ideal) (e' := .f32) x1 (Rect.unit ![0, 0, 0, 0] S1x1x512x128.size inb_S1x8x512x128_S1x1x512x128_0_0_0_0)))
    (k0_pay4 (View.ld (Val := Elt Ideal) (e' := .f32) x1 (Rect.unit ![0, 1, 0, 0] S1x1x512x128.size inb_S1x8x512x128_S1x1x512x128_0_1_0_0)))
    (k0_pay5 (View.ld (Val := Elt Ideal) (e' := .f32) x1 (Rect.unit ![0, 2, 0, 0] S1x1x512x128.size inb_S1x8x512x128_S1x1x512x128_0_2_0_0)))
    (k0_pay6 (View.ld (Val := Elt Ideal) (e' := .f32) x1 (Rect.unit ![0, 3, 0, 0] S1x1x512x128.size inb_S1x8x512x128_S1x1x512x128_0_3_0_0)))
    (k0_pay7 (View.ld (Val := Elt Ideal) (e' := .f32) x1 (Rect.unit ![0, 4, 0, 0] S1x1x512x128.size inb_S1x8x512x128_S1x1x512x128_0_4_0_0)))
    (View.ld (Val := Elt Ideal) (e' := .f32) x1 (Rect.unit ![0, 5, 0, 0] S1x1x512x128.size inb_S1x8x512x128_S1x1x512x128_0_5_0_0))
    (View.ld (Val := Elt Ideal) (e' := .f32) x1 (Rect.unit ![0, 6, 0, 0] S1x1x512x128.size inb_S1x8x512x128_S1x1x512x128_0_6_0_0))
    (View.ld (Val := Elt Ideal) (e' := .f32) x1 (Rect.unit ![0, 7, 0, 0] S1x1x512x128.size inb_S1x8x512x128_S1x1x512x128_0_7_0_0))
    (View.ld (Val := Elt Ideal) (e' := .bf16) x5 (Rect.unit ![0, 0, 0] S1x256x128.size inb_S4x256x128_S1x256x128_0_0_0))
    (View.ld (Val := Elt Ideal) (e' := .bf16) x5 (Rect.unit ![1, 0, 0] S1x256x128.size inb_S4x256x128_S1x256x128_1_0_0))
    (View.ld (Val := Elt Ideal) (e' := .bf16) x5 (Rect.unit ![2, 0, 0] S1x256x128.size inb_S4x256x128_S1x256x128_2_0_0))
    (View.ld (Val := Elt Ideal) (e' := .bf16) x5 (Rect.unit ![3, 0, 0] S1x256x128.size inb_S4x256x128_S1x256x128_3_0_0))

/-- The eight heads of the latent outputs, joined. -/
theorem olat_apply (x1 : FVec Ideal S1x8x512x128 .f32) (b0 b1 b2 b3 b4 b5 b6 b7) (h : Shape.Concatenates [S512x128, S512x128, S512x128, S512x128, S512x128, S512x128, S512x128, S512x128] S512x1024 1) (i : Fin 512) (q : Fin 8) (r : Fin 128) (j : Fin 1024) (hj : j.val = q.val * 128 + r.val) :
    concatenate S512x1024 1 [
      ⟨S512x128, shapeCast S512x128 (View.ld (Val := Elt Ideal) (e' := .f32) x1 (Rect.unit ![0, 0, 0, 0] S1x1x512x128.size b0) : FVec Ideal S1x1x512x128 .f32) shapeCasts_S1x1x512x128_S512x128⟩,
      ⟨S512x128, shapeCast S512x128 (View.ld (Val := Elt Ideal) (e' := .f32) x1 (Rect.unit ![0, 1, 0, 0] S1x1x512x128.size b1) : FVec Ideal S1x1x512x128 .f32) shapeCasts_S1x1x512x128_S512x128⟩,
      ⟨S512x128, shapeCast S512x128 (View.ld (Val := Elt Ideal) (e' := .f32) x1 (Rect.unit ![0, 2, 0, 0] S1x1x512x128.size b2) : FVec Ideal S1x1x512x128 .f32) shapeCasts_S1x1x512x128_S512x128⟩,
      ⟨S512x128, shapeCast S512x128 (View.ld (Val := Elt Ideal) (e' := .f32) x1 (Rect.unit ![0, 3, 0, 0] S1x1x512x128.size b3) : FVec Ideal S1x1x512x128 .f32) shapeCasts_S1x1x512x128_S512x128⟩,
      ⟨S512x128, shapeCast S512x128 (View.ld (Val := Elt Ideal) (e' := .f32) x1 (Rect.unit ![0, 4, 0, 0] S1x1x512x128.size b4) : FVec Ideal S1x1x512x128 .f32) shapeCasts_S1x1x512x128_S512x128⟩,
      ⟨S512x128, shapeCast S512x128 (View.ld (Val := Elt Ideal) (e' := .f32) x1 (Rect.unit ![0, 5, 0, 0] S1x1x512x128.size b5) : FVec Ideal S1x1x512x128 .f32) shapeCasts_S1x1x512x128_S512x128⟩,
      ⟨S512x128, shapeCast S512x128 (View.ld (Val := Elt Ideal) (e' := .f32) x1 (Rect.unit ![0, 6, 0, 0] S1x1x512x128.size b6) : FVec Ideal S1x1x512x128 .f32) shapeCasts_S1x1x512x128_S512x128⟩,
      ⟨S512x128, shapeCast S512x128 (View.ld (Val := Elt Ideal) (e' := .f32) x1 (Rect.unit ![0, 7, 0, 0] S1x1x512x128.size b7) : FVec Ideal S1x1x512x128 .f32) shapeCasts_S1x1x512x128_S512x128⟩] h (ix2 i j)
      = x1 (ix4 0 q i r) := by
  refine (cat8 ![_, _, _, _, _, _, _, _] _ i q r j hj).trans ?_
  match q with
  | ⟨0, _⟩ => exact head_apply (n := 8) x1 0 _ i r
  | ⟨1, _⟩ => exact head_apply (n := 8) x1 1 _ i r
  | ⟨2, _⟩ => exact head_apply (n := 8) x1 2 _ i r
  | ⟨3, _⟩ => exact head_apply (n := 8) x1 3 _ i r
  | ⟨4, _⟩ => exact head_apply (n := 8) x1 4 _ i r
  | ⟨5, _⟩ => exact head_apply (n := 8) x1 5 _ i r
  | ⟨6, _⟩ => exact head_apply (n := 8) x1 6 _ i r
  | ⟨7, _⟩ => exact head_apply (n := 8) x1 7 _ i r

/-- One pair of heads. -/
theorem pairDot_apply (y : FVec Ideal S512x1024 .f32) (x5 : FVec Ideal S4x256x128 .bf16) (p : Fin 4) (o : Fin 2 → ℕ) (ho : o = ![0, p.val * 256]) (hs) (inb) (i : Fin 512) (r : Fin 128) :
    matmul (φ₁ := .bf16) (φ₂ := .bf16) dot_S512x256_S256x128_S512x128_1_0_0_1_n_n none (extractStridedSlice S512x256 o (truncf (F := Ideal) .bf16 y bitsLt_bf16_f32) hs)
      (shapeCast S256x128 (View.ld (Val := Elt Ideal) (e' := .bf16) x5 (Rect.unit (s := S4x256x128) ![p.val, 0, 0] S1x256x128.size inb) : FVec Ideal S1x256x128 .bf16) shapeCasts_S1x256x128_S256x128)
      (constant (F := Ideal) S512x128 .f32 0x00000000#32) (ix2 i r)
      = ∑ k : Fin 256, y (ix2 i ⟨p.val * 256 + k.val, by omega⟩) * x5 (ix3 p k r) := by
  subst ho
  refine (dot_apply (M := 512) (K := 256) (N := 128) _ _ i r).trans ?_
  unfold dotRow
  refine Finset.sum_congr rfl fun k _ => congrArg₂ (· * ·) ?_ (pair_apply x5 p inb k r)
  refine (extractStridedSlice_apply _ _ _ (ix2 i k) (ix2 i ⟨p.val * 256 + k.val, by omega⟩) fun a => ?_).trans rfl
  match a with
  | ⟨0, _⟩ => show i.val = 0 + i.val; omega
  | ⟨1, _⟩ => rfl

theorem pairs_apply (y : FVec Ideal S512x1024 .f32) (x1 : FVec Ideal S1x8x512x128 .f32) (x5 : FVec Ideal S4x256x128 .bf16) (i : Fin 512) (p : Fin 4) (r : Fin 128) (j : Fin 512) (hj : j.val = p.val * 128 + r.val)
    (hy : ∀ (q : Fin 8) (r : Fin 128) (j : Fin 1024), j.val = q.val * 128 + r.val → y (ix2 i j) = x1 (ix4 0 q i r)) (s0 s1 s2 s3 b0 b1 b2 b3)
    (h : Shape.Concatenates [S512x128, S512x128, S512x128, S512x128] S512x512 1) :
    concatenate S512x512 1 [
      ⟨S512x128, matmul (φ₁ := .bf16) (φ₂ := .bf16) dot_S512x256_S256x128_S512x128_1_0_0_1_n_n none (extractStridedSlice S512x256 ![0, 0] (truncf (F := Ideal) .bf16 y bitsLt_bf16_f32) s0)
        (shapeCast S256x128 (View.ld (Val := Elt Ideal) (e' := .bf16) x5 (Rect.unit (s := S4x256x128) ![0, 0, 0] S1x256x128.size b0) : FVec Ideal S1x256x128 .bf16) shapeCasts_S1x256x128_S256x128) (constant (F := Ideal) S512x128 .f32 0x00000000#32)⟩,
      ⟨S512x128, matmul (φ₁ := .bf16) (φ₂ := .bf16) dot_S512x256_S256x128_S512x128_1_0_0_1_n_n none (extractStridedSlice S512x256 ![0, 256] (truncf (F := Ideal) .bf16 y bitsLt_bf16_f32) s1)
        (shapeCast S256x128 (View.ld (Val := Elt Ideal) (e' := .bf16) x5 (Rect.unit (s := S4x256x128) ![1, 0, 0] S1x256x128.size b1) : FVec Ideal S1x256x128 .bf16) shapeCasts_S1x256x128_S256x128) (constant (F := Ideal) S512x128 .f32 0x00000000#32)⟩,
      ⟨S512x128, matmul (φ₁ := .bf16) (φ₂ := .bf16) dot_S512x256_S256x128_S512x128_1_0_0_1_n_n none (extractStridedSlice S512x256 ![0, 512] (truncf (F := Ideal) .bf16 y bitsLt_bf16_f32) s2)
        (shapeCast S256x128 (View.ld (Val := Elt Ideal) (e' := .bf16) x5 (Rect.unit (s := S4x256x128) ![2, 0, 0] S1x256x128.size b2) : FVec Ideal S1x256x128 .bf16) shapeCasts_S1x256x128_S256x128) (constant (F := Ideal) S512x128 .f32 0x00000000#32)⟩,
      ⟨S512x128, matmul (φ₁ := .bf16) (φ₂ := .bf16) dot_S512x256_S256x128_S512x128_1_0_0_1_n_n none (extractStridedSlice S512x256 ![0, 768] (truncf (F := Ideal) .bf16 y bitsLt_bf16_f32) s3)
        (shapeCast S256x128 (View.ld (Val := Elt Ideal) (e' := .bf16) x5 (Rect.unit (s := S4x256x128) ![3, 0, 0] S1x256x128.size b3) : FVec Ideal S1x256x128 .bf16) shapeCasts_S1x256x128_S256x128) (constant (F := Ideal) S512x128 .f32 0x00000000#32)⟩] h (ix2 i j)
      = ∑ k : Fin 256, x1 (ix4 0 ⟨p.val * 2 + k.val / 128, by omega⟩ i ⟨k.val % 128, by omega⟩) * x5 (ix3 p k r) := by
  refine (cat4 ![_, _, _, _] _ i p r j hj).trans ?_
  refine Eq.trans (b := ∑ k : Fin 256, y (ix2 i ⟨p.val * 256 + k.val, by omega⟩) * x5 (ix3 p k r)) ?_ ?_
  · match p with
    | ⟨0, h0⟩ => exact pairDot_apply y x5 ⟨0, h0⟩ ![0, 0] rfl s0 b0 i r
    | ⟨1, h1⟩ => exact pairDot_apply y x5 ⟨1, h1⟩ ![0, 256] rfl s1 b1 i r
    | ⟨2, h2⟩ => exact pairDot_apply y x5 ⟨2, h2⟩ ![0, 512] rfl s2 b2 i r
    | ⟨3, h3⟩ => exact pairDot_apply y x5 ⟨3, h3⟩ ![0, 768] rfl s3 b3 i r
  · exact Finset.sum_congr rfl fun k _ => congrArg (· * x5 (ix3 p k r)) (hy _ _ _ (by show p.val * 256 + k.val = (p.val * 2 + k.val / 128) * 128 + k.val % 128; omega))

theorem omlaV_apply (x1 : FVec Ideal S1x8x512x128 .f32) (x5 : FVec Ideal S4x256x128 .bf16) (i : Fin 512) (p : Fin 4) (r : Fin 128) (j : Fin 512) (hj : j.val = p.val * 128 + r.val) :
    omlaV x1 x5 (ix2 i j) = ∑ k : Fin 256, x1 (ix4 0 ⟨p.val * 2 + k.val / 128, by omega⟩ i ⟨k.val % 128, by omega⟩) * x5 (ix3 p k r) :=
  pairs_apply _ x1 x5 i p r j hj (fun q r j hj => olat_apply x1 inb_S1x8x512x128_S1x1x512x128_0_0_0_0 inb_S1x8x512x128_S1x1x512x128_0_1_0_0 inb_S1x8x512x128_S1x1x512x128_0_2_0_0 inb_S1x8x512x128_S1x1x512x128_0_3_0_0 inb_S1x8x512x128_S1x1x512x128_0_4_0_0 inb_S1x8x512x128_S1x1x512x128_0_5_0_0 inb_S1x8x512x128_S1x1x512x128_0_6_0_0 inb_S1x8x512x128_S1x1x512x128_0_7_0_0 concatenates_S512x128_S512x128_S512x128_S512x128_S512x128_S512x128_S512x128_S512x128_S512x1024_d1 i q r j hj)
    slices_S512x1024_o0_0_S512x256 slices_S512x1024_o0_256_S512x256 slices_S512x1024_o0_512_S512x256 slices_S512x1024_o0_768_S512x256
    inb_S4x256x128_S1x256x128_0_0_0 inb_S4x256x128_S1x256x128_1_0_0 inb_S4x256x128_S1x256x128_2_0_0 inb_S4x256x128_S1x256x128_3_0_0 concatenates_S512x128_S512x128_S512x128_S512x128_S512x512_d1

/-- The merged mixers' projection, normed. -/
theorem pay13_apply (v8 v43 : FVec Ideal S512x512 .f32) (g4 g5 : FVec Ideal S1x512 .f32) (wo : FVec Ideal S1024x1024 .bf16) (gm : FVec Ideal S1x1024 .f32) (i : Fin 512) (j : Fin 1024) :
    k0_pay13 (F := Ideal) v8 v43 (k0_pay9 g4) (k0_pay10 v8) k0_pay11 g5 wo gm (ix2 i j)
      = rmsRow 0x44800000#32 (dotRow (joinRow (rmsRow 0x44000000#32 (fun k => v8 (ix2 i k)) (fun k => g4 (ix2 0 k))) (rmsRow 0x44000000#32 (fun k => v43 (ix2 i k)) (fun k => g5 (ix2 0 k))))
          (fun k j => wo (ix2 k j))) (fun k => gm (ix2 0 k)) j := by
  unfold k0_pay13 k0_pay9 k0_pay10 k0_pay11
  simp only [shapeCast_self]
  refine (rms_apply (M := 512) (N := 1024) 0x44800000#32 _ gm _ _ _ _ _ _ (by decide) (by decide) i j).trans ?_
  congr 1
  funext k
  refine (dot_apply (M := 512) (K := 1024) (N := 1024) _ wo i k).trans ?_
  congr 1
  funext l
  rw [truncf_apply]
  unfold joinRow
  by_cases hl : l.val < 512
  · rw [dif_pos hl]
    refine (concatenate_apply_piece (t := S512x1024) 1 _ _ (ix2 i l) 0 (by show 0 < 2; omega) S512x512 _ rfl rfl 0 rfl (ix2 i ⟨l.val, hl⟩) (fun a ha => ?_) ?_).trans ?_
    · match a with
      | ⟨0, _⟩ => rfl
      | ⟨1, _⟩ => exact absurd rfl ha
    · show 0 + l.val = l.val; omega
    · refine (rms_apply (M := 512) (N := 512) 0x44000000#32 v8 (shapeCast S1x512 g4 shapeCasts_S1x512_S1x512) _ _ _ _ _ _ (by decide) (by decide) i _).trans ?_
      rw [shapeCast_self]
  · rw [dif_neg hl]
    refine (concatenate_apply_piece (t := S512x1024) 1 _ _ (ix2 i l) 1 (by show 1 < 2; omega) S512x512 _ rfl rfl 512 rfl (ix2 i ⟨l.val - 512, by omega⟩) (fun a ha => ?_) ?_).trans ?_
    · match a with
      | ⟨0, _⟩ => rfl
      | ⟨1, _⟩ => exact absurd rfl ha
    · show 512 + (l.val - 512) = l.val; omega
    · refine (rms_apply (M := 512) (N := 512) 0x44000000#32 v43 (shapeCast S1x512 g5 shapeCasts_S1x512_S1x512) _ _ _ _ _ _ (by decide) (by decide) i _).trans ?_
      rw [shapeCast_self]

/-- The residual tile, from its two parts. -/
theorem pay14_apply (x2 : FVec Ideal S1x512x1024 .f32) (v92 : FVec Ideal S512x1024 .f32) (i : Fin 512) (j : Fin 1024) :
    k0_pay14 (F := Ideal) (k0_pay12 x2) v92 (ix2 i j) = x2 (ix3 0 i j) + v92 (ix2 i j) := by
  unfold k0_pay14 k0_pay12
  rw [addf_apply]
  refine congrArg (· + v92 (ix2 i j)) ?_
  exact (shapeCast_dropUnit_apply ![512, 1024] x2 _ (ix2 i j)).trans (congrArg x2 (funext fun a => match a with | ⟨0, _⟩ => rfl | ⟨1, _⟩ => rfl | ⟨2, _⟩ => rfl))

theorem pay15_apply (v78 v92 : FVec Ideal S512x1024 .f32) (g : FVec Ideal S1x1024 .f32) (i : Fin 512) (j : Fin 1024) :
    k0_pay15 (F := Ideal) v78 v92 g (ix2 i j) = rmsRow 0x44800000#32 (fun k => k0_pay14 (F := Ideal) v78 v92 (ix2 i k)) (fun k => g (ix2 0 k)) j := by
  unfold k0_pay15
  simp only [shapeCast_self]
  rw [truncf_apply]
  exact rms_apply (M := 512) (N := 1024) 0x44800000#32 _ g _ _ _ _ _ _ (by decide) (by decide) i j

/-- One chunk of the gated columns. -/
theorem pay19_apply (h : FVec Ideal S512x1024 .bf16) (a b : FVec Ideal S1024x256 .bf16) (i : Fin 512) (j : Fin 256) :
    k0_pay19 (F := Ideal) h a b (ix2 i j) = gateRow (fun k => h (ix2 i k)) (fun k j => a (ix2 k j)) (fun k j => b (ix2 k j)) j := by
  unfold k0_pay19
  simp only [shapeCast_self]
  rw [truncf_apply, mulf_apply, mulf_apply]
  have e := fun w => dot_apply (M := 512) (K := 1024) (N := 256) h w i j
  exact congrArg₂ (· * ·) (congrArg₂ (· * ·) (e a) (congrArg Ideal.logistic (e a))) (e b)

/-- The gated columns. -/
def actV (h : FVec Ideal S512x1024 .bf16) (x9 x10 : FVec Ideal S1024x2816 .bf16) : FVec Ideal S512x2816 .bf16 := fun y =>
  gateRow (fun k => h (ix2 (y 0) k)) (fun k j => x9 (ix2 k j)) (fun k j => x10 (ix2 k j)) (y 1)

theorem chunk_apply (h : FVec Ideal S512x1024 .bf16) (x9 x10 : FVec Ideal S1024x2816 .bf16) (o : ℕ) (b1 b2 b3) (y : S512x256.Idx) :
    k0_pay19 (F := Ideal) h (View.ld (Val := Elt Ideal) (e' := .bf16) x9 (Rect.unit (s := S1024x2816) ![0, o] S1024x256.size b1)) (View.ld (Val := Elt Ideal) (e' := .bf16) x10 (Rect.unit (s := S1024x2816) ![0, o] S1024x256.size b2)) y
      = actV h x9 x10 ((Rect.unit (s := S512x2816) ![0, o] S512x256.size b3).emb y) := by
  obtain ⟨i, j, rfl⟩ : ∃ (i : Fin 512) (j : Fin 256), y = ix2 i j := ⟨y 0, y 1, funext fun a => match a with | ⟨0, _⟩ => rfl | ⟨1, _⟩ => rfl⟩
  refine (pay19_apply h _ _ i j).trans ?_
  have hb : o + 256 ≤ 2816 := b3 1
  have e0 : (Rect.unit (s := S512x2816) ![0, o] S512x256.size b3).emb (ix2 i j) = (ix2 i ⟨o + j.val, by omega⟩ : S512x2816.Idx) := funext fun a => Fin.ext (by
    match a with
    | ⟨0, _⟩ => show 0 + 1 * i.val = i.val; omega
    | ⟨1, _⟩ => show o + 1 * j.val = o + j.val; omega)
  have ew : ∀ (x : FVec Ideal S1024x2816 .bf16) (bb) (k : Fin 1024), View.ld (Val := Elt Ideal) (e' := .bf16) x (Rect.unit (s := S1024x2816) ![0, o] S1024x256.size bb) (ix2 k j) = x (ix2 k ⟨o + j.val, by omega⟩) := fun x bb k =>
    congrArg x (funext fun a => Fin.ext (by
      match a with
      | ⟨0, _⟩ => show 0 + 1 * k.val = k.val; omega
      | ⟨1, _⟩ => show o + 1 * j.val = o + j.val; omega))
  have d : ∀ (x : FVec Ideal S1024x2816 .bf16) (bb),
      dotRow (fun k => h (ix2 i k)) (fun k j => View.ld (Val := Elt Ideal) (e' := .bf16) x (Rect.unit (s := S1024x2816) ![0, o] S1024x256.size bb) (ix2 k j)) j
        = dotRow (fun k => h (ix2 i k)) (fun k j => x (ix2 k j)) ⟨o + j.val, by omega⟩ := fun x bb =>
    Finset.sum_congr rfl fun k _ => congrArg (h (ix2 i k) * ·) (ew x bb k)
  refine Eq.trans ?_ (congrArg (actV h x9 x10) e0).symm
  exact congrArg₂ (· * ·) (congrArg₂ (· * ·) (d x9 b1) (congrArg Ideal.logistic (d x9 b1))) (d x10 b2)

/-- The half step's end. -/
theorem pay31_apply (v93 : FVec Ideal S512x1024 .f32) (act : FVec Ideal S512x2816 .bf16) (wd : FVec Ideal S2816x1024 .bf16) (g : FVec Ideal S1x1024 .f32) (i : Fin 512) (j : Fin 1024) :
    k0_pay31 (F := Ideal) v93 act wd g (ix2 i j)
      = v93 (ix2 i j) + Ideal.ofBits .f32 0x3F000000#32 * rmsRow 0x44800000#32 (dotRow (fun k => act (ix2 i k)) (fun k j => wd (ix2 k j))) (fun k => g (ix2 0 k)) j := by
  unfold k0_pay31
  simp only [shapeCast_self]
  rw [addf_apply, mulf_apply]
  refine congrArg (fun z => v93 (ix2 i j) + Ideal.ofBits .f32 0x3F000000#32 * z) ?_
  refine (rms_apply (M := 512) (N := 1024) 0x44800000#32 _ g _ _ _ _ _ _ (by decide) (by decide) i j).trans ?_
  congr 1
  funext k
  exact dot_apply (M := 512) (K := 2816) (N := 1024) act wd i k

end Cert.OutFfn

end
-- ==== Proof.OutFfn.Run.lean ====
/- What a grid point of the second kernel writes, as one function of its blocks. -/
module

public import proofs.«01_k».proof.Proof.Gen.OutIdeal.Value
public import proofs.«01_k».proof.Proof.OutFfn.Tile
import all proofs.«01_k».proof.Proof.Gen.OutIdeal.Frame.RunA

@[expose] public section

set_option maxRecDepth 16384

noncomputable section

open scoped BigOperators

namespace Cert.OutFfn

open Cert.Ffn Cert.OutIdeal Cert.OutIdeal.Gen
open Idealize.ShloMosaic Idealize.ShloMosaic.TcCoe Idealize.ShloMosaic.ValueIdx Idealize.SL.Sem

theorem ld_whole2 {M N : ℕ} {e : EltTy} (x : (⟨2, ![M, N]⟩ : Shape).Idx → Elt Ideal e) (inb) : View.ld (Val := Elt Ideal) (e' := e) x (Rect.unit (s := ⟨2, ![M, N]⟩) ![0, 0] ![M, N] inb) = x :=
  View.ld_unit_zero (funext fun a => match a with | ⟨0, _⟩ => rfl | ⟨1, _⟩ => rfl) inb x

theorem ld_whole3 {M N K : ℕ} {e : EltTy} (x : (⟨3, ![M, N, K]⟩ : Shape).Idx → Elt Ideal e) (inb) : View.ld (Val := Elt Ideal) (e' := e) x (Rect.unit (s := ⟨3, ![M, N, K]⟩) ![0, 0, 0] ![M, N, K] inb) = x :=
  View.ld_unit_zero (funext fun a => match a with | ⟨0, _⟩ => rfl | ⟨1, _⟩ => rfl | ⟨2, _⟩ => rfl) inb x

variable (x0 : FVec Ideal S1x4x512x128 .f32) (x1 : FVec Ideal S1x8x512x128 .f32) (x2 : FVec Ideal S1x512x1024 .f32) (x3 x4 : FVec Ideal S1x512 .f32)
  (x5 : FVec Ideal S4x256x128 .bf16) (x6 : FVec Ideal S1024x1024 .bf16) (x7 x8 : FVec Ideal S1x1024 .f32) (x9 x10 : FVec Ideal S1024x2816 .bf16)
  (x11 : FVec Ideal S2816x1024 .bf16) (x12 : FVec Ideal S1x1024 .f32)

/-- The mixers' projection, normed. -/
def mixV : FVec Ideal S512x1024 .f32 := k0_pay13 (osbV x0) (omlaV x1 x5) (k0_pay9 x3) (k0_pay10 (osbV x0)) k0_pay11 x4 x6 x7

/-- The half step's normed rows. -/
def hV : FVec Ideal S512x1024 .bf16 := k0_pay15 (k0_pay12 x2) (mixV x0 x1 x3 x4 x5 x6 x7) x8

section Terms

variable (c : Dev nD) (arg2 : Memref sig .tc .vmem S1x4x512x128 .f32) (harg2 : arg2.IsWhole) (arg3 : Memref sig .tc .vmem S1x8x512x128 .f32) (harg3 : arg3.IsWhole)
  (arg4 : Memref sig .tc .vmem S1x512x1024 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S4x256x128 .bf16) (harg7 : arg7.IsWhole)
  (arg8 : Memref sig .tc .vmem S1024x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1024x2816 .bf16) (harg11 : arg11.IsWhole)
  (arg12 : Memref sig .tc .vmem S1024x2816 .bf16) (harg12 : arg12.IsWhole) (arg13 : Memref sig .tc .vmem S2816x1024 .bf16) (harg13 : arg13.IsWhole)
  (arg14 : Memref sig .tc .vmem S1x1024 .f32) (harg14 : arg14.IsWhole) (arg15 : Memref sig .tc .vmem S1x512x1024 .f32) (harg15 : arg15.IsWhole)
  (arg16 : Memref sig .tc .vmem S512x2816 .bf16) (harg16 : arg16.IsWhole)

theorem r_eq : kernelRun0_A.sl.r (F := Ideal) c arg2 harg2 x0 = osbV x0 := by
  unfold kernelRun0_A.sl.r osbV
  simp only [View.readAt_eq_ld, Memref.IsWhole.read_unread]

theorem r6_eq : kernelRun0_A.sl.r_6 (F := Ideal) c arg3 harg3 arg7 harg7 x1 x5 = omlaV x1 x5 := by
  unfold kernelRun0_A.sl.r_6 kernelRun0_A.sl.r_1 kernelRun0_A.sl.r_2 kernelRun0_A.sl.r_3 kernelRun0_A.sl.r_4 kernelRun0_A.sl.r_5 omlaV
  simp only [View.readAt_eq_ld, Memref.IsWhole.read_unread]

theorem r10_eq : kernelRun0_A.sl.r_10 (F := Ideal) c arg2 harg2 arg3 harg3 arg5 harg5 arg6 harg6 arg7 harg7 arg8 harg8 arg9 harg9 x0 x1 x3 x4 x5 x6 x7 = mixV x0 x1 x3 x4 x5 x6 x7 := by
  unfold kernelRun0_A.sl.r_10 kernelRun0_A.sl.r_7 kernelRun0_A.sl.r_8 mixV
  simp only [r_eq, r6_eq, View.readAt_eq_ld, Memref.IsWhole.read_unread]
  rw [ld_whole2 (M := 1) (N := 512) (e := .f32) x3, ld_whole2 (M := 1) (N := 512) (e := .f32) x4, ld_whole2 (M := 1024) (N := 1024) (e := .bf16) x6, ld_whole2 (M := 1) (N := 1024) (e := .f32) x7]

theorem r9_eq : kernelRun0_A.sl.r_9 (F := Ideal) c arg4 harg4 x2 = k0_pay12 x2 := by
  unfold kernelRun0_A.sl.r_9
  simp only [View.readAt_eq_ld, Memref.IsWhole.read_unread]
  rw [ld_whole3 (M := 1) (N := 512) (K := 1024) (e := .f32) x2]

theorem r12_eq : kernelRun0_A.sl.r_12 (F := Ideal) c arg2 harg2 arg3 harg3 arg4 harg4 arg5 harg5 arg6 harg6 arg7 harg7 arg8 harg8 arg9 harg9 arg10 harg10 x0 x1 x2 x3 x4 x5 x6 x7 x8
    = hV x0 x1 x2 x3 x4 x5 x6 x7 x8 := by
  unfold kernelRun0_A.sl.r_12 hV
  simp only [r9_eq, r10_eq, View.readAt_eq_ld, Memref.IsWhole.read_unread]
  rw [ld_whole2 (M := 1) (N := 1024) (e := .f32) x8]

theorem act_eq : kernelRun0_A.sl.v252 (F := Ideal) c arg2 harg2 arg3 harg3 arg4 harg4 arg5 harg5 arg6 harg6 arg7 harg7 arg8 harg8 arg9 harg9 arg10 harg10 arg11 harg11 arg12 harg12 arg16
      x0 x1 x2 x3 x4 x5 x6 x7 x8 x9 x10
    = actV (hV x0 x1 x2 x3 x4 x5 x6 x7 x8) x9 x10 := by
  unfold kernelRun0_A.sl.v252
  rw [View.readCov_eq_canon']
  funext y
  refine (View.canon_apply_of_pieces (actV (hV x0 x1 x2 x3 x4 x5 x6 x7 x8) x9 x10) _ ?_ _ ?_).trans ?_
  · unfold kernelRun0_A.sl.HS0_11 kernelRun0_A.sl.r_17 kernelRun0_A.sl.r_16 kernelRun0_A.sl.r_15 kernelRun0_A.sl.r_14 kernelRun0_A.sl.r_13
    simp only [r9_eq, r10_eq, r12_eq, View.readAt_eq_ld, Memref.IsWhole.read_unread]
    rw [ld_whole2 (M := 1) (N := 1024) (e := .f32) x8]
    simp only [List.forall_mem_cons]
    refine ⟨?_, ?_, ?_, ?_, ?_, ?_, ?_, ?_, ?_, ?_, ?_, fun p hp => absurd hp (by simp)⟩ <;> exact fun y => chunk_apply (hV x0 x1 x2 x3 x4 x5 x6 x7 x8) x9 x10 _ _ _ _ y
  · exact View.cover_of_tiledL _ ![512, 256] (by sl_kernel_rfl) _
  · exact congrArg _ (funext fun a => Fin.ext (match a with | ⟨0, _⟩ => by show 0 + 1 * (y 0).val = (y 0).val; omega | ⟨1, _⟩ => by show 0 + 1 * (y 1).val = (y 1).val; omega))

/-- A grid point's output block. -/
def outV : FVec Ideal S1x512x1024 .f32 :=
  k0_pay1 (k0_pay31 (k0_pay14 (k0_pay12 x2) (mixV x0 x1 x3 x4 x5 x6 x7)) (actV (hV x0 x1 x2 x3 x4 x5 x6 x7 x8) x9 x10) x11 x12)

theorem out_eq (i : grid0.Coords) : out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12
    = outV x0 x1 x2 x3 x4 x5 x6 x7 x8 x9 x10 x11 x12 := by
  unfold out0_A_13
  rw [View.read_writes_junk_eq_canon]
  unfold kernelRun0_A
  dsimp only
  rw [View.canon_unit_zero (funext fun a => match a with | ⟨0, _⟩ => rfl | ⟨1, _⟩ => rfl | ⟨2, _⟩ => rfl)]
  unfold kernelRun0_A.sl.r_18 kernelRun0_A.sl.r_11 outV
  rw [act_eq]
  simp only [r9_eq, r10_eq, View.readAt_eq_ld, Memref.IsWhole.read_unread]
  rw [ld_whole2 (M := 2816) (N := 1024) (e := .bf16) x11, ld_whole2 (M := 1) (N := 1024) (e := .f32) x12]

end Terms

/-- The block's entries: the whole layer's row. -/
theorem outV_apply (i : Fin 512) (j : Fin 1024) :
    outV x0 x1 x2 x3 x4 x5 x6 x7 x8 x9 x10 x11 x12 (ix3 0 i j)
      = ffnRow (mixRow (fun k => osbV x0 (ix2 i k)) (fun k => omlaV x1 x5 (ix2 i k)) (fun k => x2 (ix3 0 i k)) (fun k => x3 (ix2 0 k)) (fun k => x4 (ix2 0 k))
          (fun k j => x6 (ix2 k j)) (fun k => x7 (ix2 0 k))) (fun k => x8 (ix2 0 k)) (fun k j => x9 (ix2 k j)) (fun k j => x10 (ix2 k j)) (fun k j => x11 (ix2 k j)) (fun k => x12 (ix2 0 k)) j := by
  have hx : ∀ k, k0_pay14 (F := Ideal) (k0_pay12 x2) (mixV x0 x1 x3 x4 x5 x6 x7) (ix2 i k)
      = mixRow (fun k => osbV x0 (ix2 i k)) (fun k => omlaV x1 x5 (ix2 i k)) (fun k => x2 (ix3 0 i k)) (fun k => x3 (ix2 0 k)) (fun k => x4 (ix2 0 k))
          (fun k j => x6 (ix2 k j)) (fun k => x7 (ix2 0 k)) k := fun k => by
    rw [pay14_apply]
    unfold mixRow mixV
    rw [pay13_apply]
  have hh : ∀ k, hV x0 x1 x2 x3 x4 x5 x6 x7 x8 (ix2 i k)
      = rmsRow 0x44800000#32 (mixRow (fun k => osbV x0 (ix2 i k)) (fun k => omlaV x1 x5 (ix2 i k)) (fun k => x2 (ix3 0 i k)) (fun k => x3 (ix2 0 k)) (fun k => x4 (ix2 0 k))
          (fun k j => x6 (ix2 k j)) (fun k => x7 (ix2 0 k))) (fun k => x8 (ix2 0 k)) k := fun k => by
    unfold hV
    rw [pay15_apply]
    congr 1
    exact funext hx
  unfold outV k0_pay1
  refine (shapeCast_addUnit_apply ![512, 1024] _ _ (ix3 0 i j)).trans ?_
  refine (congrArg (k0_pay31 (F := Ideal) _ _ x11 x12) (funext fun a => match a with | ⟨0, _⟩ => rfl | ⟨1, _⟩ => rfl : ((fun a : Fin 2 => (ix3 (0 : Fin 1) i j : S1x512x1024.Idx) a.succ) : S512x1024.Idx) = ix2 i j)).trans ?_
  refine (pay31_apply _ _ x11 x12 i j).trans ?_
  exact congrArg₂ (fun (a : EReal) (z : Fin 2816 → EReal) => a + Ideal.ofBits .f32 0x3F000000#32 * rmsRow 0x44800000#32 (dotRow z (fun k j => x11 (ix2 k j))) (fun k => x12 (ix2 0 k)) j)
    (hx j) (funext fun k => congrArg (fun z : Fin 1024 → EReal => gateRow z (fun k j => x9 (ix2 k j)) (fun k j => x10 (ix2 k j)) k) (funext hh))

end Cert.OutFfn

end
-- ==== Proof.OutFfn.Prep.lean ====
/- What the host hands the second kernel: heads joined, the value weights set on a block diagonal, gains as rows; each read at one
   entry, and each window's block as entries of its array. -/
module

public import proofs.«01_k».proof.Proof.Gen.OutIdeal.Value
public import proofs.«01_k».proof.Proof.OutFfn.Tile
public import Idealize.ShloMosaic.Lib.StableHlo.Run
public import Idealize.ShloMosaic.Lib.Pipeline.ValueKit.Geometry

@[expose] public section

set_option maxRecDepth 16384

noncomputable section

open scoped BigOperators

namespace Cert.OutFfn

open Cert.Ffn Cert.OutIdeal Cert.OutIdeal.Gen
open Idealize.ShloMosaic Idealize.ShloMosaic.TcCoe Idealize.ShloMosaic.ValueIdx Idealize.ShloMosaic.StableHlo

/-- The identity matrix over the heads. -/
def eyeV : FVec Ideal S8x8 .f32 :=
  uitofp .f32 (cmpi .eq (addi (iotaInDim S8x8 32 0) (broadcastInDim S8x8 ![] bcast_S_S8x8 (constantI S_ 32 0#32))) (iotaInDim S8x8 32 1))

/-- The value weights times the identity, flat: a block per head. -/
def wFlat (a5 : FVec Ideal S128x8x64 .f32) : FVec Ideal S1024x512 .f32 :=
  shapeCast S1024x512 (mulf (broadcastInDim S8x128x8x64 ![0, 1, 2, 3] bcast_S8x128x1x64_S8x128x8x64_0_1_2_3
      (broadcastInDim S8x128x1x64 ![0, 1, 3] bcast_S8x128x64_S8x128x1x64_0_1_3 (transpose S8x128x64 [1, 0, 2] a5 transposes_S128x8x64_S8x128x64_1_0_2)))
    (broadcastInDim S8x128x8x64 ![0, 1, 2, 3] bcast_S8x1x8x1_S8x128x8x64_0_1_2_3 (broadcastInDim S8x1x8x1 ![0, 2] bcast_S8x8_S8x1x8x1_0_2 eyeV)))
    shapeCasts_S8x128x8x64_S1024x512

/-- Four diagonal blocks of it, two heads each. -/
def wBlocks (a5 : FVec Ideal S128x8x64 .f32) : FVec Ideal S4x256x128 .f32 :=
  concatenate S4x256x128 0
    [⟨S1x256x128, broadcastInDim S1x256x128 ![1, 2] bcast_S256x128_S1x256x128_1_2 (extractStridedSlice S256x128 ![0, 0] (wFlat a5) slices_S1024x512_S256x128_0_0)⟩,
     ⟨S1x256x128, broadcastInDim S1x256x128 ![1, 2] bcast_S256x128_S1x256x128_1_2 (extractStridedSlice S256x128 ![256, 128] (wFlat a5) slices_S1024x512_S256x128_256_128)⟩,
     ⟨S1x256x128, broadcastInDim S1x256x128 ![1, 2] bcast_S256x128_S1x256x128_1_2 (extractStridedSlice S256x128 ![512, 256] (wFlat a5) slices_S1024x512_S256x128_512_256)⟩,
     ⟨S1x256x128, broadcastInDim S1x256x128 ![1, 2] bcast_S256x128_S1x256x128_1_2 (extractStridedSlice S256x128 ![768, 384] (wFlat a5) slices_S1024x512_S256x128_768_384)⟩]
    concatenates_S1x256x128_S1x256x128_S1x256x128_S1x256x128_S4x256x128_d0

section Host

variable (V0 : Valuation τ sig (Elt Ideal))

set_option maxHeartbeats 4000000 in
theorem host_v1 : after hostOps0 V0 (Proc.devRef .tc main_v1)
    = transpose S4x4x4096x128 [0, 2, 1, 3] (shapeCast S4x4096x4x128 (V0 (Proc.devRef .tc main_arg0) : S4x4096x8x64.Idx → EReal) shapeCasts_S4x4096x8x64_S4x4096x4x128)
        transposes_S4x4096x4x128_S4x4x4096x128_0_2_1_3 := by
  simp only [hostOps0]
  after_results
  rfl

set_option maxHeartbeats 4000000 in
theorem host_v2 : after hostOps0 V0 (Proc.devRef .tc main_v2)
    = transpose S4x8x4096x128 [0, 2, 1, 3] (V0 (Proc.devRef .tc main_arg1) : S4x4096x8x128.Idx → EReal) transposes_S4x4096x8x128_S4x8x4096x128_0_2_1_3 := by
  simp only [hostOps0]
  after_results

set_option maxHeartbeats 4000000 in
theorem host_v16 : after hostOps0 V0 (Proc.devRef .tc main_v16) = shapeCast S1x512 (V0 (Proc.devRef .tc main_arg3) : S512.Idx → EReal) shapeCasts_S512_S1x512 := by
  simp only [hostOps0]
  after_results
  rfl

set_option maxHeartbeats 4000000 in
theorem host_v17 : after hostOps0 V0 (Proc.devRef .tc main_v17) = shapeCast S1x512 (V0 (Proc.devRef .tc main_arg4) : S512.Idx → EReal) shapeCasts_S512_S1x512 := by
  simp only [hostOps0]
  after_results
  rfl

set_option maxHeartbeats 4000000 in
theorem host_v29 : after hostOps0 V0 (Proc.devRef .tc main_v29) = shapeCast S1x1024 (V0 (Proc.devRef .tc main_arg7) : S1024.Idx → EReal) shapeCasts_S1024_S1x1024 := by
  simp only [hostOps0]
  after_results
  rfl

set_option maxHeartbeats 4000000 in
theorem host_v30 : after hostOps0 V0 (Proc.devRef .tc main_v30) = shapeCast S1x1024 (V0 (Proc.devRef .tc main_arg8) : S1024.Idx → EReal) shapeCasts_S1024_S1x1024 := by
  simp only [hostOps0]
  after_results
  rfl

set_option maxHeartbeats 4000000 in
theorem host_v34 : after hostOps0 V0 (Proc.devRef .tc main_v34) = shapeCast S1x1024 (V0 (Proc.devRef .tc main_arg12) : S1024.Idx → EReal) shapeCasts_S1024_S1x1024 := by
  simp only [hostOps0]
  after_results
  rfl

set_option maxHeartbeats 4000000 in
theorem host_v28 : (after hostOps0 V0 (Proc.devRef .tc main_v28) : S1024x1024.Idx → EReal) = (V0 (Proc.devRef .tc main_arg6) : S1024x1024.Idx → EReal) := by
  simp only [hostOps0]
  after_results
  rfl

set_option maxHeartbeats 4000000 in
theorem host_v31 : (after hostOps0 V0 (Proc.devRef .tc main_v31) : S1024x2816.Idx → EReal) = (V0 (Proc.devRef .tc main_arg9) : S1024x2816.Idx → EReal) := by
  simp only [hostOps0]
  after_results
  rfl

set_option maxHeartbeats 4000000 in
theorem host_v32 : (after hostOps0 V0 (Proc.devRef .tc main_v32) : S1024x2816.Idx → EReal) = (V0 (Proc.devRef .tc main_arg10) : S1024x2816.Idx → EReal) := by
  simp only [hostOps0]
  after_results
  rfl

set_option maxHeartbeats 4000000 in
theorem host_v33 : (after hostOps0 V0 (Proc.devRef .tc main_v33) : S2816x1024.Idx → EReal) = (V0 (Proc.devRef .tc main_arg11) : S2816x1024.Idx → EReal) := by
  simp only [hostOps0]
  after_results
  rfl

set_option maxHeartbeats 4000000 in
theorem host_v27 : (after hostOps0 V0 (Proc.devRef .tc main_v27) : S4x256x128.Idx → EReal) = wBlocks (V0 (Proc.devRef .tc main_arg5)) := by
  simp only [hostOps0]
  after_results
  rfl

end Host

/-! ### Entries -/

theorem eyeV_apply (h g : Fin 8) : eyeV (ix2 h g) = if h = g then 1 else 0 := by
  have e : ∀ h g : Fin 8, IntOp.cmpi .eq (BitVec.ofNat 32 h.val + 0#32) (BitVec.ofNat 32 g.val) = if h = g then 1#1 else 0#1 := by decide
  show (((BitVec.toNat (IntOp.cmpi .eq (BitVec.ofNat 32 h.val + 0#32) (BitVec.ofNat 32 g.val)) : ℕ) : ℝ) : EReal) = _
  rw [e]
  split
  · simp
  · simp

theorem wFlat_apply (a5 : FVec Ideal S128x8x64 .f32) (R : Fin 1024) (C : Fin 512) :
    wFlat a5 (ix2 R C) = HMul.hMul (α := EReal) (β := EReal) (γ := EReal) (a5 (ix3 ⟨R.val % 128, by omega⟩ ⟨R.val / 128, by omega⟩ ⟨C.val % 64, by omega⟩))
      (if R.val / 128 = C.val / 64 then 1 else 0) := by
  have hR : R.val < 1024 := R.isLt
  have hC : C.val < 512 := C.isLt
  unfold wFlat
  refine (shapeCast_apply _ _ (ix2 R C) (ix4 (⟨R.val / 128, by omega⟩ : Fin 8) (⟨R.val % 128, by omega⟩ : Fin 128) (⟨C.val / 64, by omega⟩ : Fin 8) (⟨C.val % 64, by omega⟩ : Fin 64)) ?_).trans ?_
  · rewrite [Shape.rowMajor_val_four, Shape.rowMajor_val_two]
    show ((R.val / 128 * 128 + R.val % 128) * 8 + C.val / 64) * 64 + C.val % 64 = R.val * 512 + C.val
    omega
  rw [mulf_apply]
  refine congrArg₂ (· * ·) ?_ ?_
  · refine (broadcastInDim_apply _ _ _ _ (ix4 (⟨R.val / 128, by omega⟩ : Fin 8) (⟨R.val % 128, by omega⟩ : Fin 128) (0 : Fin 1) (⟨C.val % 64, by omega⟩ : Fin 64)) fun a => ?_).trans ?_
    · match a with
      | ⟨0, _⟩ => rfl
      | ⟨1, _⟩ => rfl
      | ⟨2, _⟩ => rfl
      | ⟨3, _⟩ => rfl
    refine (broadcastInDim_apply _ _ _ _ (ix3 (⟨R.val / 128, by omega⟩ : Fin 8) (⟨R.val % 128, by omega⟩ : Fin 128) (⟨C.val % 64, by omega⟩ : Fin 64)) fun a => ?_).trans ?_
    · match a with
      | ⟨0, _⟩ => rfl
      | ⟨1, _⟩ => rfl
      | ⟨2, _⟩ => rfl
    refine transpose_apply _ _ _ _ _ fun a => ?_
    match a with
    | ⟨0, _⟩ => rfl
    | ⟨1, _⟩ => rfl
    | ⟨2, _⟩ => rfl
  · refine (broadcastInDim_apply _ _ _ _ (ix4 (⟨R.val / 128, by omega⟩ : Fin 8) (0 : Fin 1) (⟨C.val / 64, by omega⟩ : Fin 8) (0 : Fin 1)) fun a => ?_).trans ?_
    · match a with
      | ⟨0, _⟩ => rfl
      | ⟨1, _⟩ => rfl
      | ⟨2, _⟩ => rfl
      | ⟨3, _⟩ => rfl
    refine (broadcastInDim_apply _ _ _ _ (ix2 (⟨R.val / 128, by omega⟩ : Fin 8) (⟨C.val / 64, by omega⟩ : Fin 8)) fun a => ?_).trans ?_
    · match a with
      | ⟨0, _⟩ => rfl
      | ⟨1, _⟩ => rfl
    refine (eyeV_apply _ _).trans ?_
    simp only [Fin.mk.injEq]

/-- One diagonal block, with its leading axis. -/
theorem slice_apply (w : FVec Ideal S1024x512 .f32) (p : ℕ) (hp : p < 4) (hs : S1024x512.Slices ![256 * p, 128 * p] S256x128) (k : Fin 256) (r : Fin 128) :
    broadcastInDim S1x256x128 ![1, 2] bcast_S256x128_S1x256x128_1_2 (extractStridedSlice S256x128 ![256 * p, 128 * p] w hs) (ix3 0 k r)
      = w (ix2 ⟨256 * p + k.val, by omega⟩ ⟨128 * p + r.val, by omega⟩) := by
  refine (broadcastInDim_apply _ _ _ _ (ix2 k r) fun a => ?_).trans ?_
  · match a with
    | ⟨0, _⟩ => rfl
    | ⟨1, _⟩ => rfl
  refine extractStridedSlice_apply _ _ _ _ _ fun a => ?_
  match a with
  | ⟨0, _⟩ => rfl
  | ⟨1, _⟩ => rfl

theorem wBlocks_apply (a5 : FVec Ideal S128x8x64 .f32) (p : Fin 4) (k : Fin 256) (r : Fin 128) :
    wBlocks a5 (ix3 p k r) = wFlat a5 (ix2 ⟨256 * p.val + k.val, by omega⟩ ⟨128 * p.val + r.val, by omega⟩) := by
  unfold wBlocks
  match p with
  | ⟨0, _⟩ =>
    refine (concatenate_apply_piece (t := S4x256x128) 0 _ _ (ix3 (⟨0, by omega⟩ : Fin 4) k r) 0 (by show 0 < 4; omega) S1x256x128 _ rfl rfl 0 rfl (ix3 0 k r) (fun a ha => ?_) rfl).trans
      (slice_apply (wFlat a5) 0 (by omega) _ k r)
    match a with
    | ⟨0, _⟩ => exact absurd rfl ha
    | ⟨1, _⟩ => rfl
    | ⟨2, _⟩ => rfl
  | ⟨1, _⟩ =>
    refine (concatenate_apply_piece (t := S4x256x128) 0 _ _ (ix3 (⟨1, by omega⟩ : Fin 4) k r) 1 (by show 1 < 4; omega) S1x256x128 _ rfl rfl 1 rfl (ix3 0 k r) (fun a ha => ?_) rfl).trans
      (slice_apply (wFlat a5) 1 (by omega) _ k r)
    match a with
    | ⟨0, _⟩ => exact absurd rfl ha
    | ⟨1, _⟩ => rfl
    | ⟨2, _⟩ => rfl
  | ⟨2, _⟩ =>
    refine (concatenate_apply_piece (t := S4x256x128) 0 _ _ (ix3 (⟨2, by omega⟩ : Fin 4) k r) 2 (by show 2 < 4; omega) S1x256x128 _ rfl rfl 2 rfl (ix3 0 k r) (fun a ha => ?_) rfl).trans
      (slice_apply (wFlat a5) 2 (by omega) _ k r)
    match a with
    | ⟨0, _⟩ => exact absurd rfl ha
    | ⟨1, _⟩ => rfl
    | ⟨2, _⟩ => rfl
  | ⟨3, _⟩ =>
    refine (concatenate_apply_piece (t := S4x256x128) 0 _ _ (ix3 (⟨3, by omega⟩ : Fin 4) k r) 3 (by show 3 < 4; omega) S1x256x128 _ rfl rfl 3 rfl (ix3 0 k r) (fun a ha => ?_) rfl).trans
      (slice_apply (wFlat a5) 3 (by omega) _ k r)
    match a with
    | ⟨0, _⟩ => exact absurd rfl ha
    | ⟨1, _⟩ => rfl
    | ⟨2, _⟩ => rfl

theorem sum_halves (f : Fin 256 → EReal) : ∑ k, f k = ∑ e : Fin 128, f ⟨e.val, by omega⟩ + ∑ e : Fin 128, f ⟨128 + e.val, by omega⟩ :=
  Fin.sum_univ_add (a := 128) (b := 128) f

/-- Products against a block-diagonal column: its own head's products alone. -/
theorem sum_head (f : Fin 256 → EReal) (X W : Fin 128 → EReal) (s : ℕ) (hs : s < 2)
    (h1 : ∀ e : Fin 128, f ⟨s * 128 + e.val, by omega⟩ = X e * W e) (h0 : ∀ k : Fin 256, k.val / 128 ≠ s → f k = 0) :
    ∑ k, f k = ∑ e, X e * W e := by
  rw [sum_halves]
  have hs' : s = 0 ∨ s = 1 := by omega
  rcases hs' with rfl | rfl
  · rw [Finset.sum_eq_zero (s := Finset.univ) (f := fun e : Fin 128 => f ⟨128 + e.val, by omega⟩) fun e _ => h0 _ (by show (128 + e.val) / 128 ≠ 0; omega), add_zero]
    exact Finset.sum_congr rfl fun e _ => (congrArg f (Fin.ext (by show e.val = 0 * 128 + e.val; omega))).trans (h1 e)
  · rw [Finset.sum_eq_zero (s := Finset.univ) (f := fun e : Fin 128 => f ⟨e.val, by omega⟩) fun e _ => h0 _ (by show e.val / 128 ≠ 1; omega), zero_add]
    exact Finset.sum_congr rfl fun e _ => (congrArg f (Fin.ext (by show 128 + e.val = 1 * 128 + e.val; omega))).trans (h1 e)

theorem row_apply {N : ℕ} (x : (⟨1, ![N]⟩ : Shape).Idx → EReal) (h : (⟨1, ![N]⟩ : Shape).ShapeCasts ⟨2, ![1, N]⟩) (k : Fin N) :
    shapeCast ⟨2, ![1, N]⟩ x h (ix2 0 k) = x (ix1 k) := by
  refine shapeCast_apply _ _ _ _ ?_
  rewrite [Shape.rowMajor_val_one, Shape.rowMajor_val_two]
  show k.val = 0 * N + k.val
  omega

variable (V0 : Valuation τ sig (Elt Ideal))

theorem v1_apply (b : Fin 4) (q : Fin 4) (t : Fin 4096) (r : Fin 128) :
    (after hostOps0 V0 (Proc.devRef .tc main_v1) : S4x4x4096x128.Idx → EReal) (ix4 b q t r)
      = (V0 (Proc.devRef .tc main_arg0) : S4x4096x8x64.Idx → EReal) (ix4 b t ⟨(q.val * 128 + r.val) / 64, by omega⟩ ⟨(q.val * 128 + r.val) % 64, by omega⟩) := by
  rw [host_v1]
  refine (transpose_apply _ _ _ (ix4 b q t r) (ix4 b t q r) fun a => ?_).trans ?_
  · match a with
    | ⟨0, _⟩ => rfl
    | ⟨1, _⟩ => rfl
    | ⟨2, _⟩ => rfl
    | ⟨3, _⟩ => rfl
  refine shapeCast_apply (s := S4x4096x8x64) (t := S4x4096x4x128) _ _ _ _ ?_
  rewrite [Shape.rowMajor_val_four, Shape.rowMajor_val_four]
  show ((b.val * 4096 + t.val) * 8 + (q.val * 128 + r.val) / 64) * 64 + (q.val * 128 + r.val) % 64 = ((b.val * 4096 + t.val) * 4 + q.val) * 128 + r.val
  omega

theorem v2_apply (b : Fin 4) (h : Fin 8) (t : Fin 4096) (r : Fin 128) :
    (after hostOps0 V0 (Proc.devRef .tc main_v2) : S4x8x4096x128.Idx → EReal) (ix4 b h t r)
      = (V0 (Proc.devRef .tc main_arg1) : S4x4096x8x128.Idx → EReal) (ix4 b t h r) := by
  rw [host_v2]
  refine transpose_apply _ _ _ (ix4 b h t r) (ix4 b t h r) fun a => ?_
  match a with
  | ⟨0, _⟩ => rfl
  | ⟨1, _⟩ => rfl
  | ⟨2, _⟩ => rfl
  | ⟨3, _⟩ => rfl

/-! ### The blocks -/

theorem index0 : ∀ i : grid0.Coords, cc0_transform_0 i = ![(i 0).val, 0, (i 1).val, 0] := by decide +kernel
theorem index1 : ∀ i : grid0.Coords, cc0_transform_1 i = ![(i 0).val, 0, (i 1).val, 0] := by decide +kernel
theorem index2 : ∀ i : grid0.Coords, cc0_transform_2 i = ![(i 0).val, (i 1).val, 0] := by decide +kernel
theorem index13 : ∀ i : grid0.Coords, cc0_transform_13 i = ![(i 0).val, (i 1).val, 0] := by decide +kernel
theorem index3 : ∀ i : grid0.Coords, cc0_transform_3 i = ![0, 0] := by decide +kernel
theorem index4 : ∀ i : grid0.Coords, cc0_transform_4 i = ![0, 0] := by decide +kernel
theorem index5 : ∀ i : grid0.Coords, cc0_transform_5 i = ![0, 0, 0] := by decide +kernel
theorem index6 : ∀ i : grid0.Coords, cc0_transform_6 i = ![0, 0] := by decide +kernel
theorem index7 : ∀ i : grid0.Coords, cc0_transform_7 i = ![0, 0] := by decide +kernel
theorem index8 : ∀ i : grid0.Coords, cc0_transform_8 i = ![0, 0] := by decide +kernel
theorem index9 : ∀ i : grid0.Coords, cc0_transform_9 i = ![0, 0] := by decide +kernel
theorem index10 : ∀ i : grid0.Coords, cc0_transform_10 i = ![0, 0] := by decide +kernel
theorem index11 : ∀ i : grid0.Coords, cc0_transform_11 i = ![0, 0] := by decide +kernel
theorem index12 : ∀ i : grid0.Coords, cc0_transform_12 i = ![0, 0] := by decide +kernel

variable (m : (ℓ : Loc nD τ sig) → Buf (Elt Ideal) ℓ) (c : Dev nD) (t : Fin cfg0.N)

/-- The row of the array at a block's row. -/
def rowAt (i : Fin 512) : Fin 4096 := ⟨(grid0.coords t 1).val * 512 + i.val, by
  have : (grid0.coords t 1).val < 8 := (grid0.coords t 1).isLt
  omega⟩

theorem iblk0_apply (q : Fin 4) (i : Fin 512) (r : Fin 128) :
    (iblk m c 0 t : S1x4x512x128.Idx → EReal) (ix4 0 q i r) = (V m c main_v1 : S4x4x4096x128.Idx → EReal) (ix4 (grid0.coords t 0) q (rowAt t i) r) := by
  refine congrArg (V m c main_v1 : S4x4x4096x128.Idx → EReal) (funext fun a => Fin.ext ?_)
  refine (Pipeline.Window.rect_emb_val win0_0 t _ a).trans ?_
  rw [show win0_0.index t = _ from index0 (grid0.coords t)]
  match a with
  | ⟨0, _⟩ => show (grid0.coords t 0).val * 1 + 0 = (grid0.coords t 0).val; omega
  | ⟨1, _⟩ => show 0 * 4 + q.val = q.val; omega
  | ⟨2, _⟩ => rfl
  | ⟨3, _⟩ => show 0 * 128 + r.val = r.val; omega

theorem iblk1_apply (q : Fin 8) (i : Fin 512) (r : Fin 128) :
    (iblk m c 1 t : S1x8x512x128.Idx → EReal) (ix4 0 q i r) = (V m c main_v2 : S4x8x4096x128.Idx → EReal) (ix4 (grid0.coords t 0) q (rowAt t i) r) := by
  refine congrArg (V m c main_v2 : S4x8x4096x128.Idx → EReal) (funext fun a => Fin.ext ?_)
  refine (Pipeline.Window.rect_emb_val win0_1 t _ a).trans ?_
  rw [show win0_1.index t = _ from index1 (grid0.coords t)]
  match a with
  | ⟨0, _⟩ => show (grid0.coords t 0).val * 1 + 0 = (grid0.coords t 0).val; omega
  | ⟨1, _⟩ => show 0 * 8 + q.val = q.val; omega
  | ⟨2, _⟩ => rfl
  | ⟨3, _⟩ => show 0 * 128 + r.val = r.val; omega

theorem iblk2_apply (i : Fin 512) (r : Fin 1024) :
    (iblk m c 2 t : S1x512x1024.Idx → EReal) (ix3 0 i r) = (V m c main_arg2 : S4x4096x1024.Idx → EReal) (ix3 (grid0.coords t 0) (rowAt t i) r) := by
  refine congrArg (V m c main_arg2 : S4x4096x1024.Idx → EReal) (funext fun a => Fin.ext ?_)
  refine (Pipeline.Window.rect_emb_val win0_2 t _ a).trans ?_
  rw [show win0_2.index t = _ from index2 (grid0.coords t)]
  match a with
  | ⟨0, _⟩ => show (grid0.coords t 0).val * 1 + 0 = (grid0.coords t 0).val; omega
  | ⟨1, _⟩ => rfl
  | ⟨2, _⟩ => show 0 * 1024 + r.val = r.val; omega

theorem iblk3_eq : (iblk m c 3 t : S1x512.Idx → EReal) = (V m c main_v16 : S1x512.Idx → EReal) := by
  refine funext fun y => ?_
  refine congrArg (V m c main_v16 : S1x512.Idx → EReal) (funext fun a => Fin.ext ?_)
  refine (Pipeline.Window.rect_emb_val win0_3 t _ a).trans ?_
  rw [show win0_3.index t = _ from index3 (grid0.coords t)]
  match a with
  | ⟨0, _⟩ => show 0 * 1 + (y 0).val = (y 0).val; omega
  | ⟨1, _⟩ => show 0 * 512 + (y 1).val = (y 1).val; omega

theorem iblk4_eq : (iblk m c 4 t : S1x512.Idx → EReal) = (V m c main_v17 : S1x512.Idx → EReal) := by
  refine funext fun y => ?_
  refine congrArg (V m c main_v17 : S1x512.Idx → EReal) (funext fun a => Fin.ext ?_)
  refine (Pipeline.Window.rect_emb_val win0_4 t _ a).trans ?_
  rw [show win0_4.index t = _ from index4 (grid0.coords t)]
  match a with
  | ⟨0, _⟩ => show 0 * 1 + (y 0).val = (y 0).val; omega
  | ⟨1, _⟩ => show 0 * 512 + (y 1).val = (y 1).val; omega

theorem iblk6_eq : (iblk m c 6 t : S1024x1024.Idx → EReal) = (V m c main_v28 : S1024x1024.Idx → EReal) := by
  refine funext fun y => ?_
  refine congrArg (V m c main_v28 : S1024x1024.Idx → EReal) (funext fun a => Fin.ext ?_)
  refine (Pipeline.Window.rect_emb_val win0_6 t _ a).trans ?_
  rw [show win0_6.index t = _ from index6 (grid0.coords t)]
  match a with
  | ⟨0, _⟩ => show 0 * 1024 + (y 0).val = (y 0).val; omega
  | ⟨1, _⟩ => show 0 * 1024 + (y 1).val = (y 1).val; omega

theorem iblk7_eq : (iblk m c 7 t : S1x1024.Idx → EReal) = (V m c main_v29 : S1x1024.Idx → EReal) := by
  refine funext fun y => ?_
  refine congrArg (V m c main_v29 : S1x1024.Idx → EReal) (funext fun a => Fin.ext ?_)
  refine (Pipeline.Window.rect_emb_val win0_7 t _ a).trans ?_
  rw [show win0_7.index t = _ from index7 (grid0.coords t)]
  match a with
  | ⟨0, _⟩ => show 0 * 1 + (y 0).val = (y 0).val; omega
  | ⟨1, _⟩ => show 0 * 1024 + (y 1).val = (y 1).val; omega

theorem iblk8_eq : (iblk m c 8 t : S1x1024.Idx → EReal) = (V m c main_v30 : S1x1024.Idx → EReal) := by
  refine funext fun y => ?_
  refine congrArg (V m c main_v30 : S1x1024.Idx → EReal) (funext fun a => Fin.ext ?_)
  refine (Pipeline.Window.rect_emb_val win0_8 t _ a).trans ?_
  rw [show win0_8.index t = _ from index8 (grid0.coords t)]
  match a with
  | ⟨0, _⟩ => show 0 * 1 + (y 0).val = (y 0).val; omega
  | ⟨1, _⟩ => show 0 * 1024 + (y 1).val = (y 1).val; omega

theorem iblk9_eq : (iblk m c 9 t : S1024x2816.Idx → EReal) = (V m c main_v31 : S1024x2816.Idx → EReal) := by
  refine funext fun y => ?_
  refine congrArg (V m c main_v31 : S1024x2816.Idx → EReal) (funext fun a => Fin.ext ?_)
  refine (Pipeline.Window.rect_emb_val win0_9 t _ a).trans ?_
  rw [show win0_9.index t = _ from index9 (grid0.coords t)]
  match a with
  | ⟨0, _⟩ => show 0 * 1024 + (y 0).val = (y 0).val; omega
  | ⟨1, _⟩ => show 0 * 2816 + (y 1).val = (y 1).val; omega

theorem iblk10_eq : (iblk m c 10 t : S1024x2816.Idx → EReal) = (V m c main_v32 : S1024x2816.Idx → EReal) := by
  refine funext fun y => ?_
  refine congrArg (V m c main_v32 : S1024x2816.Idx → EReal) (funext fun a => Fin.ext ?_)
  refine (Pipeline.Window.rect_emb_val win0_10 t _ a).trans ?_
  rw [show win0_10.index t = _ from index10 (grid0.coords t)]
  match a with
  | ⟨0, _⟩ => show 0 * 1024 + (y 0).val = (y 0).val; omega
  | ⟨1, _⟩ => show 0 * 2816 + (y 1).val = (y 1).val; omega

theorem iblk11_eq : (iblk m c 11 t : S2816x1024.Idx → EReal) = (V m c main_v33 : S2816x1024.Idx → EReal) := by
  refine funext fun y => ?_
  refine congrArg (V m c main_v33 : S2816x1024.Idx → EReal) (funext fun a => Fin.ext ?_)
  refine (Pipeline.Window.rect_emb_val win0_11 t _ a).trans ?_
  rw [show win0_11.index t = _ from index11 (grid0.coords t)]
  match a with
  | ⟨0, _⟩ => show 0 * 2816 + (y 0).val = (y 0).val; omega
  | ⟨1, _⟩ => show 0 * 1024 + (y 1).val = (y 1).val; omega

theorem iblk12_eq : (iblk m c 12 t : S1x1024.Idx → EReal) = (V m c main_v34 : S1x1024.Idx → EReal) := by
  refine funext fun y => ?_
  refine congrArg (V m c main_v34 : S1x1024.Idx → EReal) (funext fun a => Fin.ext ?_)
  refine (Pipeline.Window.rect_emb_val win0_12 t _ a).trans ?_
  rw [show win0_12.index t = _ from index12 (grid0.coords t)]
  match a with
  | ⟨0, _⟩ => show 0 * 1 + (y 0).val = (y 0).val; omega
  | ⟨1, _⟩ => show 0 * 1024 + (y 1).val = (y 1).val; omega

theorem iblk5_eq : (iblk m c 5 t : S4x256x128.Idx → EReal) = (V m c main_v27 : S4x256x128.Idx → EReal) := by
  refine funext fun y => ?_
  refine congrArg (V m c main_v27 : S4x256x128.Idx → EReal) (funext fun a => Fin.ext ?_)
  refine (Pipeline.Window.rect_emb_val win0_5 t _ a).trans ?_
  rw [show win0_5.index t = _ from index5 (grid0.coords t)]
  match a with
  | ⟨0, _⟩ => show 0 * 4 + (y 0).val = (y 0).val; omega
  | ⟨1, _⟩ => show 0 * 256 + (y 1).val = (y 1).val; omega
  | ⟨2, _⟩ => show 0 * 128 + (y 2).val = (y 2).val; omega

theorem covers13 : (cfg0.win 13).Covers := (by decide +kernel : win0_13.Covers)

theorem emb13 (y : S1x512x1024.Idx) :
    ((cfg0.win 13).blk t).view.emb y = (ix3 (grid0.coords t 0) (rowAt t (y 1)) (y 2) : S4x4096x1024.Idx) := by
  refine funext fun a => Fin.ext ?_
  refine (Pipeline.Window.rect_emb_val win0_13 t _ a).trans ?_
  rw [show win0_13.index t = _ from index13 (grid0.coords t)]
  match a with
  | ⟨0, _⟩ =>
      have : (y 0).val < 1 := (y 0).isLt
      show (grid0.coords t 0).val * 1 + (y 0).val = (grid0.coords t 0).val; omega
  | ⟨1, _⟩ => rfl
  | ⟨2, _⟩ => show 0 * 1024 + (y 2).val = (y 2).val; omega

end Cert.OutFfn

end
-- ==== Proof.OutFfn.Spec.lean ====
/- One row of the layer's second half, from the arrays the call is given. -/
module

public import proofs.«01_k».proof.Proof.OutFfn.Tile

@[expose] public section

noncomputable section

open scoped BigOperators

namespace Cert.OutFfn

open Cert.Ffn Idealize.ShloMosaic Idealize.ShloMosaic.ValueIdx

/-- The first attention's heads side by side. -/
def osbRow (a0 : (⟨4, ![4, 4096, 8, 64]⟩ : Shape).Idx → EReal) (b : Fin 4) (t : Fin 4096) (k : Fin 512) : EReal :=
  a0 (ix4 b t ⟨k.val / 64, by omega⟩ ⟨k.val % 64, by omega⟩)

/-- The latent attention's heads side by side, each taken from its latent sum by its value weights. -/
def omlaRow (a1 : (⟨4, ![4, 4096, 8, 128]⟩ : Shape).Idx → EReal) (a5 : (⟨3, ![128, 8, 64]⟩ : Shape).Idx → EReal) (b : Fin 4) (t : Fin 4096) (k : Fin 512) : EReal :=
  ∑ e : Fin 128, a1 (ix4 b t ⟨k.val / 64, by omega⟩ e) * a5 (ix3 e ⟨k.val / 64, by omega⟩ ⟨k.val % 64, by omega⟩)

/-- The layer's second half at a row: the mixers' projection, then the half step. -/
def layerRow (a0 : (⟨4, ![4, 4096, 8, 64]⟩ : Shape).Idx → EReal) (a1 : (⟨4, ![4, 4096, 8, 128]⟩ : Shape).Idx → EReal) (a2 : (⟨3, ![4, 4096, 1024]⟩ : Shape).Idx → EReal)
    (a3 a4 : (⟨1, ![512]⟩ : Shape).Idx → EReal) (a5 : (⟨3, ![128, 8, 64]⟩ : Shape).Idx → EReal) (a6 : (⟨2, ![1024, 1024]⟩ : Shape).Idx → EReal)
    (a7 a8 : (⟨1, ![1024]⟩ : Shape).Idx → EReal) (a9 a10 : (⟨2, ![1024, 2816]⟩ : Shape).Idx → EReal) (a11 : (⟨2, ![2816, 1024]⟩ : Shape).Idx → EReal)
    (a12 : (⟨1, ![1024]⟩ : Shape).Idx → EReal) (b : Fin 4) (t : Fin 4096) (j : Fin 1024) : EReal :=
  ffnRow (mixRow (osbRow a0 b t) (omlaRow a1 a5 b t) (fun k => a2 (ix3 b t k)) (fun k => a3 (ix1 k)) (fun k => a4 (ix1 k)) (fun k j => a6 (ix2 k j)) (fun k => a7 (ix1 k)))
    (fun k => a8 (ix1 k)) (fun k j => a9 (ix2 k j)) (fun k j => a10 (ix2 k j)) (fun k j => a11 (ix2 k j)) (fun k => a12 (ix1 k)) j

theorem layerRow_congr {o o' l l' : Fin 512 → EReal} {x x' : Fin 1024 → EReal} {g1 g1' g2 g2' : Fin 512 → EReal} {w w' : Fin 1024 → Fin 1024 → EReal} {g3 g3' g4 g4' : Fin 1024 → EReal}
    {wg wg' wu wu' : Fin 1024 → Fin 2816 → EReal} {wd wd' : Fin 2816 → Fin 1024 → EReal} {g5 g5' : Fin 1024 → EReal}
    (h1 : o = o') (h2 : l = l') (h3 : x = x') (h4 : g1 = g1') (h5 : g2 = g2') (h6 : w = w') (h7 : g3 = g3') (h8 : g4 = g4') (h9 : wg = wg') (h10 : wu = wu') (h11 : wd = wd') (h12 : g5 = g5') (j : Fin 1024) :
    ffnRow (mixRow o l x g1 g2 w g3) g4 wg wu wd g5 j = ffnRow (mixRow o' l' x' g1' g2' w' g3') g4' wg' wu' wd' g5' j := by
  rw [h1, h2, h3, h4, h5, h6, h7, h8, h9, h10, h11, h12]

end Cert.OutFfn

end
-- ==== Proof.OutFfn.Value.lean ====
/- The second kernel's output array after the call: every entry one row of the layer's second half, from the call's arguments. -/
module

public import proofs.«01_k».proof.Proof.OutFfn.Run
public import proofs.«01_k».proof.Proof.OutFfn.Prep
public import proofs.«01_k».proof.Proof.OutFfn.Spec

@[expose] public section

set_option maxRecDepth 16384

noncomputable section

open scoped BigOperators

namespace Cert.OutFfn

open Cert.Ffn Cert.OutIdeal Cert.OutIdeal.Gen
open Idealize.ShloMosaic Idealize.ShloMosaic.TcCoe Idealize.ShloMosaic.ValueIdx Idealize.ShloMosaic.StableHlo

/-- The joined heads' row of the latent attention, from a block's products. -/
theorem omla_sum (a1 : S4x4096x8x128.Idx → EReal) (a5 : FVec Ideal S128x8x64 .f32) (b : Fin 4) (t : Fin 4096) (p : Fin 4) (r : Fin 128) (j : Fin 512) (hj : j.val = p.val * 128 + r.val) :
    ∑ k : Fin 256, HMul.hMul (α := EReal) (β := EReal) (γ := EReal) (a1 (ix4 b t ⟨p.val * 2 + k.val / 128, by omega⟩ ⟨k.val % 128, by omega⟩)) (wBlocks a5 (ix3 p k r))
      = omlaRow a1 a5 b t j := by
  unfold omlaRow
  refine sum_head _ (fun e => a1 (ix4 b t ⟨j.val / 64, by omega⟩ e)) (fun e => a5 (ix3 e ⟨j.val / 64, by omega⟩ ⟨j.val % 64, by omega⟩)) (r.val / 64) (by omega) (fun e => ?_) (fun k hk => ?_)
  · refine congrArg₂ (· * ·) ?_ ?_
    · refine congrArg a1 ?_
      have e1 : (⟨p.val * 2 + (r.val / 64 * 128 + e.val) / 128, by omega⟩ : Fin 8) = ⟨j.val / 64, by omega⟩ := Fin.ext (by show p.val * 2 + (r.val / 64 * 128 + e.val) / 128 = j.val / 64; omega)
      have e2 : (⟨(r.val / 64 * 128 + e.val) % 128, by omega⟩ : Fin 128) = e := Fin.ext (by show (r.val / 64 * 128 + e.val) % 128 = e.val; omega)
      exact congrArg₂ (fun x y => ix4 b t x y) e1 e2
    · refine (wBlocks_apply a5 p _ r).trans ((wFlat_apply a5 _ _).trans ?_)
      rw [if_pos (by show (256 * p.val + (r.val / 64 * 128 + e.val)) / 128 = (128 * p.val + r.val) / 64; omega), mul_one]
      refine congrArg a5 ?_
      have e1 : (⟨(256 * p.val + (r.val / 64 * 128 + e.val)) % 128, by omega⟩ : Fin 128) = e := Fin.ext (by show (256 * p.val + (r.val / 64 * 128 + e.val)) % 128 = e.val; omega)
      have e2 : (⟨(256 * p.val + (r.val / 64 * 128 + e.val)) / 128, by omega⟩ : Fin 8) = ⟨j.val / 64, by omega⟩ := Fin.ext (by show (256 * p.val + (r.val / 64 * 128 + e.val)) / 128 = j.val / 64; omega)
      have e3 : (⟨(128 * p.val + r.val) % 64, by omega⟩ : Fin 64) = ⟨j.val % 64, by omega⟩ := Fin.ext (by show (128 * p.val + r.val) % 64 = j.val % 64; omega)
      exact congr (congrArg₂ (fun x y z => ix3 x y z) e1 e2) e3
  · refine (congrArg _ ((wBlocks_apply a5 p _ r).trans (wFlat_apply a5 _ _))).trans ?_
    rw [if_neg (by show ¬ (256 * p.val + k.val) / 128 = (128 * p.val + r.val) / 64; omega), mul_zero]
    exact mul_zero _

variable (m : (ℓ : Loc nD τ sig) → Buf (Elt Ideal) ℓ) (c : Dev nD) (t : Fin cfg0.N)

theorem osb_row (i : Fin 512) (k : Fin 512) :
    osbV (iblk m c 0 t) (ix2 i k) = osbRow (m ((c : Thread nD τ).loc main_arg0)) (grid0.coords t 0) (rowAt t i) k := by
  refine (osbV_apply (iblk m c 0 t) i ⟨k.val / 128, by omega⟩ ⟨k.val % 128, by omega⟩ k (by show k.val = k.val / 128 * 128 + k.val % 128; omega)).trans ?_
  refine (iblk0_apply m c t _ i _).trans ((v1_apply (fun b => m (c, b)) _ _ _ _).trans ?_)
  unfold osbRow
  refine congrArg (m ((c : Thread nD τ).loc main_arg0) : S4x4096x8x64.Idx → EReal) ?_
  have e1 : (⟨(k.val / 128 * 128 + k.val % 128) / 64, by omega⟩ : Fin 8) = ⟨k.val / 64, by omega⟩ := Fin.ext (by show (k.val / 128 * 128 + k.val % 128) / 64 = k.val / 64; omega)
  have e2 : (⟨(k.val / 128 * 128 + k.val % 128) % 64, by omega⟩ : Fin 64) = ⟨k.val % 64, by omega⟩ := Fin.ext (by show (k.val / 128 * 128 + k.val % 128) % 64 = k.val % 64; omega)
  exact congrArg₂ (fun x y => ix4 (grid0.coords t 0) (rowAt t i) x y) e1 e2

theorem omla_row (i : Fin 512) (k : Fin 512) :
    omlaV (iblk m c 1 t) (iblk m c 5 t) (ix2 i k)
      = omlaRow (m ((c : Thread nD τ).loc main_arg1)) (m ((c : Thread nD τ).loc main_arg5)) (grid0.coords t 0) (rowAt t i) k := by
  refine (omlaV_apply (iblk m c 1 t) (iblk m c 5 t) i ⟨k.val / 128, by omega⟩ ⟨k.val % 128, by omega⟩ k (by show k.val = k.val / 128 * 128 + k.val % 128; omega)).trans ?_
  refine (Finset.sum_congr rfl fun e _ => ?_).trans
    (omla_sum (m ((c : Thread nD τ).loc main_arg1)) (m ((c : Thread nD τ).loc main_arg5)) (grid0.coords t 0) (rowAt t i) ⟨k.val / 128, by omega⟩ ⟨k.val % 128, by omega⟩ k (by show k.val = k.val / 128 * 128 + k.val % 128; omega))
  refine congrArg₂ (· * ·) ?_ ?_
  · exact (iblk1_apply m c t _ i _).trans (v2_apply (fun b => m (c, b)) _ _ _ _)
  · exact congrFun ((iblk5_eq m c t).trans (host_v27 (fun b => m (c, b)))) _

/-- The output as one array of the launch memory. -/
def layerArr : S4x4096x1024.Idx → EReal :=
  fun y => layerRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (y 0) (y 1) (y 2)

theorem gain_row {N : ℕ} {x : (⟨2, ![1, N]⟩ : Shape).Idx → EReal} {y : (⟨2, ![1, N]⟩ : Shape).Idx → EReal} {z : (⟨1, ![N]⟩ : Shape).Idx → EReal} {h : (⟨1, ![N]⟩ : Shape).ShapeCasts ⟨2, ![1, N]⟩}
    (h1 : x = y) (h2 : y = shapeCast ⟨2, ![1, N]⟩ z h) : (fun k => x (ix2 0 k)) = fun k => z (ix1 k) :=
  funext fun k => by rw [h1, h2]; exact row_apply z h k

theorem mat_row {M N : ℕ} {x y z : (⟨2, ![M, N]⟩ : Shape).Idx → EReal} (h1 : x = y) (h2 : y = z) : (fun (k : Fin M) (j : Fin N) => x (ix2 k j)) = fun k j => z (ix2 k j) := by
  rw [h1, h2]

theorem block_row (i : Fin 512) (j : Fin 1024) :
    outV (iblk m c 0 t) (iblk m c 1 t) (iblk m c 2 t) (iblk m c 3 t) (iblk m c 4 t) (iblk m c 5 t) (iblk m c 6 t) (iblk m c 7 t) (iblk m c 8 t) (iblk m c 9 t) (iblk m c 10 t)
        (iblk m c 11 t) (iblk m c 12 t) (ix3 0 i j)
      = layerArr m c (ix3 (grid0.coords t 0) (rowAt t i) j) := by
  refine (outV_apply (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) i j).trans ?_
  refine layerRow_congr (funext fun k => osb_row m c t i k) (funext fun k => omla_row m c t i k)
    (funext fun k => (iblk2_apply m c t i k).trans (congrFun (V_main_arg2 m c) _))
    (gain_row (iblk3_eq m c t) (host_v16 (fun b => m (c, b)))) (gain_row (iblk4_eq m c t) (host_v17 (fun b => m (c, b))))
    (mat_row (iblk6_eq m c t) (host_v28 (fun b => m (c, b)))) (gain_row (iblk7_eq m c t) (host_v29 (fun b => m (c, b))))
    (gain_row (iblk8_eq m c t) (host_v30 (fun b => m (c, b)))) (mat_row (iblk9_eq m c t) (host_v31 (fun b => m (c, b))))
    (mat_row (iblk10_eq m c t) (host_v32 (fun b => m (c, b)))) (mat_row (iblk11_eq m c t) (host_v33 (fun b => m (c, b))))
    (gain_row (iblk12_eq m c t) (host_v34 (fun b => m (c, b)))) j

theorem flushed_row (y : S1x512x1024.Idx) :
    ((dats (F := Ideal) m 0 c).after 13 t : S1x512x1024.Idx → EReal) y = layerArr m c (((cfg0.win 13).blk t).view.emb y) := by
  rw [after0_13]
  have h := out_eq (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) c (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    scM0_0 (Memref.isWhole_whole _) (grid0.coords t)
  refine (congrFun h y).trans ?_
  have hy : y = ix3 0 (y 1) (y 2) := funext fun a => match a with
    | ⟨0, _⟩ => Fin.ext (by have : (y 0).val < 1 := (y 0).isLt; show (y 0).val = 0; omega)
    | ⟨1, _⟩ => rfl
    | ⟨2, _⟩ => rfl
  rw [emb13, hy]
  exact block_row m c t (y 1) (y 2)

/-- The output array after the call. -/
theorem array_eq : (dats (F := Ideal) m 0 c).arrAt 13 cfg0.N = layerArr m c :=
  (dats (F := Ideal) m 0 c).arrAt_eq_of_covers 13 (layerArr m c) covers13 fun t _ y => flushed_row m c t y

end Cert.OutFfn

end
-- ==== Proof.OutFfn.Ref.lean ====
/- The reference of the layer's second half, row by row. -/
module

public import proofs.«01_k».proof.Proof.Gen.OutRefIdeal.Run
public import proofs.«01_k».proof.Proof.Gen.OutRefIdeal.Read
public import proofs.«01_k».proof.Proof.OutFfn.Spec

@[expose] public section

set_option maxRecDepth 16384

noncomputable section

open scoped BigOperators

namespace Cert.OutRefIdeal.Layer

open Cert.Ffn Cert.OutFfn Cert.OutRefIdeal Cert.OutRefIdeal.Gen Cert.OutRefIdeal.Value Cert.OutRefIdeal.Read
open Idealize.ShloMosaic Idealize.ShloMosaic.TcCoe Idealize.ShloMosaic.ValueIdx Idealize.ShloMosaic.StableHlo

variable (x0 : FVec Ideal S4x4096x8x64 .f32) (x1 : FVec Ideal S4x4096x8x128 .f32) (x2 : FVec Ideal S4x4096x1024 .f32) (x3 x4 : FVec Ideal S512 .f32)
  (x5 : FVec Ideal S128x8x64 .f32) (x6 : FVec Ideal S1024x1024 .f32) (x7 x8 : FVec Ideal S1024 .f32) (x9 x10 : FVec Ideal S1024x2816 .f32)
  (x11 : FVec Ideal S2816x1024 .f32) (x12 : FVec Ideal S1024 .f32)

theorem v3_row (b : Fin 4) (t : Fin 4096) (k : Fin 512) : val_main_v3 (F := Ideal) x0 (ix3 b t k) = osbRow x0 b t k := by
  unfold osbRow val_main_v3
  refine shapeCast_apply (s := S4x4096x8x64) (t := S4x4096x512) _ _ _ _ ?_
  rewrite [Shape.rowMajor_val_four, Shape.rowMajor_val_three]
  show ((b.val * 4096 + t.val) * 8 + k.val / 64) * 64 + k.val % 64 = (b.val * 4096 + t.val) * 512 + k.val
  omega

theorem v2_row (b : Fin 4) (t : Fin 4096) (k : Fin 512) : val_main_v2 (F := Ideal) x1 x5 (ix3 b t k) = omlaRow x1 x5 b t k := by
  unfold omlaRow val_main_v2
  refine (shapeCast_apply (s := S4x4096x8x64) (t := S4x4096x512) _ _ _ (ix4 b t (⟨k.val / 64, by omega⟩ : Fin 8) (⟨k.val % 64, by omega⟩ : Fin 64)) ?_).trans ?_
  · rewrite [Shape.rowMajor_val_four, Shape.rowMajor_val_three]
    show ((b.val * 4096 + t.val) * 8 + k.val / 64) * 64 + k.val % 64 = (b.val * 4096 + t.val) * 512 + k.val
    omega
  refine (val_main_v1_apply (F := Ideal) x1 x5 _).trans ((val_main_v0_apply x1 x5 _).trans (Finset.sum_congr rfl fun e _ => ?_))
  refine (mul_comm _ _).trans (congrArg₂ (· * ·) (congrArg x1 ?_) (congrArg x5 ?_))
  · exact funext fun a => match a with
      | ⟨0, _⟩ => rfl
      | ⟨1, _⟩ => rfl
      | ⟨2, _⟩ => rfl
      | ⟨3, _⟩ => rfl
  · exact funext fun a => match a with
      | ⟨0, _⟩ => rfl
      | ⟨1, _⟩ => rfl
      | ⟨2, _⟩ => rfl

theorem v16_apply (b : Fin 4) (t : Fin 4096) (j : Fin 512) :
    val_main_v16 (F := Ideal) x0 x3 (ix3 b t j) = rmsRow 0x44000000#32 (fun k => val_main_v3 (F := Ideal) x0 (ix3 b t k)) (fun k => x3 (ix1 k)) j := by
  unfold val_main_v16 val_main_v13 val_main_v12 val_main_v11 val_main_v10 val_main_v8 val_main_v6 val_main_v5 val_main_v4 val_main_cst val_main_v7 val_main_cst_0 val_main_v9 val_main_cst_1 val_main_v15 val_main_v14
  exact hrms_apply 0x44000000#32 (val_main_v3 (F := Ideal) x0) x3 _ (by decide) _ _ _ _ _ _ (by decide) (by decide) (by decide) b t j

theorem v29_apply (b : Fin 4) (t : Fin 4096) (j : Fin 512) :
    val_main_v29 (F := Ideal) x1 x4 x5 (ix3 b t j) = rmsRow 0x44000000#32 (fun k => val_main_v2 (F := Ideal) x1 x5 (ix3 b t k)) (fun k => x4 (ix1 k)) j := by
  unfold val_main_v29 val_main_v26 val_main_v25 val_main_v24 val_main_v23 val_main_v21 val_main_v19 val_main_v18 val_main_v17 val_main_cst_2 val_main_v20 val_main_cst_3 val_main_v22 val_main_cst_4 val_main_v28 val_main_v27
  exact hrms_apply 0x44000000#32 (val_main_v2 (F := Ideal) x1 x5) x4 _ (by decide) _ _ _ _ _ _ (by decide) (by decide) (by decide) b t j

theorem v30_row (b : Fin 4) (t : Fin 4096) (k : Fin 1024) :
    val_main_v30 (F := Ideal) x0 x1 x3 x4 x5 (ix3 b t k)
      = joinRow (rmsRow 0x44000000#32 (osbRow x0 b t) (fun k => x3 (ix1 k))) (rmsRow 0x44000000#32 (omlaRow x1 x5 b t) (fun k => x4 (ix1 k))) k := by
  unfold val_main_v30 joinRow
  by_cases h : k.val < 512
  · rw [dif_pos h]
    refine (concatenate_apply_piece (t := S4x4096x1024) 2 _ _ (ix3 b t k) 0 (by show 0 < 2; omega) S4x4096x512 _ rfl rfl 0 rfl (ix3 b t ⟨k.val, h⟩) (fun a ha => ?_) ?_).trans ?_
    · match a with
      | ⟨0, _⟩ => rfl
      | ⟨1, _⟩ => rfl
      | ⟨2, _⟩ => exact absurd rfl ha
    · show 0 + k.val = k.val; omega
    · refine (v16_apply x0 x3 b t _).trans (congrArg (fun z => rmsRow 0x44000000#32 z (fun k => x3 (ix1 k)) ⟨k.val, h⟩) (funext fun k => v3_row x0 b t k))
  · rw [dif_neg h]
    refine (concatenate_apply_piece (t := S4x4096x1024) 2 _ _ (ix3 b t k) 1 (by show 1 < 2; omega) S4x4096x512 _ rfl rfl 512 rfl (ix3 b t ⟨k.val - 512, by omega⟩) (fun a ha => ?_) ?_).trans ?_
    · match a with
      | ⟨0, _⟩ => rfl
      | ⟨1, _⟩ => rfl
      | ⟨2, _⟩ => exact absurd rfl ha
    · show 512 + (k.val - 512) = k.val; omega
    · refine (v29_apply x1 x4 x5 b t _).trans (congrArg (fun z => rmsRow 0x44000000#32 z (fun k => x4 (ix1 k)) ⟨k.val - 512, by omega⟩) (funext fun k => v2_row x1 x5 b t k))

theorem v44_apply (b : Fin 4) (t : Fin 4096) (j : Fin 1024) :
    val_main_v44 (F := Ideal) x0 x1 x3 x4 x5 x6 x7 (ix3 b t j) = rmsRow 0x44800000#32 (fun k => val_main_v31 (F := Ideal) x0 x1 x3 x4 x5 x6 (ix3 b t k)) (fun k => x7 (ix1 k)) j := by
  unfold val_main_v44 val_main_v41 val_main_v40 val_main_v39 val_main_v38 val_main_v36 val_main_v34 val_main_v33 val_main_v32 val_main_cst_5 val_main_v35 val_main_cst_6 val_main_v37 val_main_cst_7 val_main_v43 val_main_v42
  exact hrms_apply 0x44800000#32 (val_main_v31 (F := Ideal) x0 x1 x3 x4 x5 x6) x7 _ (by decide) _ _ _ _ _ _ (by decide) (by decide) (by decide) b t j

theorem v58_apply (b : Fin 4) (t : Fin 4096) (j : Fin 1024) :
    val_main_v58 (F := Ideal) x0 x1 x2 x3 x4 x5 x6 x7 x8 (ix3 b t j) = rmsRow 0x44800000#32 (fun k => val_main_v45 (F := Ideal) x0 x1 x2 x3 x4 x5 x6 x7 (ix3 b t k)) (fun k => x8 (ix1 k)) j := by
  unfold val_main_v58 val_main_v55 val_main_v54 val_main_v53 val_main_v52 val_main_v50 val_main_v48 val_main_v47 val_main_v46 val_main_cst_8 val_main_v49 val_main_cst_9 val_main_v51 val_main_cst_10 val_main_v57 val_main_v56
  exact hrms_apply 0x44800000#32 (val_main_v45 (F := Ideal) x0 x1 x2 x3 x4 x5 x6 x7) x8 _ (by decide) _ _ _ _ _ _ (by decide) (by decide) (by decide) b t j

theorem v76_apply (b : Fin 4) (t : Fin 4096) (j : Fin 1024) :
    val_main_v76 (F := Ideal) x0 x1 x2 x3 x4 x5 x6 x7 x8 x9 x10 x11 x12 (ix3 b t j) = rmsRow 0x44800000#32 (fun k => val_main_v63 (F := Ideal) x0 x1 x2 x3 x4 x5 x6 x7 x8 x9 x10 x11 (ix3 b t k)) (fun k => x12 (ix1 k)) j := by
  unfold val_main_v76 val_main_v73 val_main_v72 val_main_v71 val_main_v70 val_main_v68 val_main_v66 val_main_v65 val_main_v64 val_main_cst_11 val_main_v67 val_main_cst_12 val_main_v69 val_main_cst_13 val_main_v75 val_main_v74
  exact hrms_apply 0x44800000#32 (val_main_v63 (F := Ideal) x0 x1 x2 x3 x4 x5 x6 x7 x8 x9 x10 x11) x12 _ (by decide) _ _ _ _ _ _ (by decide) (by decide) (by decide) b t j

theorem v31_row (b : Fin 4) (t : Fin 4096) (j : Fin 1024) :
    val_main_v31 (F := Ideal) x0 x1 x3 x4 x5 x6 (ix3 b t j) = dotRow (fun k => val_main_v30 (F := Ideal) x0 x1 x3 x4 x5 (ix3 b t k)) (fun k j => x6 (ix2 k j)) j := by
  refine (val_main_v31_apply x0 x1 x3 x4 x5 x6 _).trans (Finset.sum_congr rfl fun k _ => congrArg₂ (· * ·) (congrArg _ ?_) (congrArg x6 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem v59_row (b : Fin 4) (t : Fin 4096) (j : Fin 2816) :
    val_main_v59 (F := Ideal) x0 x1 x2 x3 x4 x5 x6 x7 x8 x9 (ix3 b t j) = dotRow (fun k => val_main_v58 (F := Ideal) x0 x1 x2 x3 x4 x5 x6 x7 x8 (ix3 b t k)) (fun k j => x9 (ix2 k j)) j := by
  refine (val_main_v59_apply x0 x1 x2 x3 x4 x5 x6 x7 x8 x9 _).trans (Finset.sum_congr rfl fun k _ => congrArg₂ (· * ·) (congrArg _ ?_) (congrArg x9 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem v61_row (b : Fin 4) (t : Fin 4096) (j : Fin 2816) :
    val_main_v61 (F := Ideal) x0 x1 x2 x3 x4 x5 x6 x7 x8 x10 (ix3 b t j) = dotRow (fun k => val_main_v58 (F := Ideal) x0 x1 x2 x3 x4 x5 x6 x7 x8 (ix3 b t k)) (fun k j => x10 (ix2 k j)) j := by
  refine (val_main_v61_apply x0 x1 x2 x3 x4 x5 x6 x7 x8 x10 _).trans (Finset.sum_congr rfl fun k _ => congrArg₂ (· * ·) (congrArg _ ?_) (congrArg x10 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem v63_row (b : Fin 4) (t : Fin 4096) (j : Fin 1024) :
    val_main_v63 (F := Ideal) x0 x1 x2 x3 x4 x5 x6 x7 x8 x9 x10 x11 (ix3 b t j) = dotRow (fun k => val_main_v62 (F := Ideal) x0 x1 x2 x3 x4 x5 x6 x7 x8 x9 x10 (ix3 b t k)) (fun k j => x11 (ix2 k j)) j := by
  refine (val_main_v63_apply x0 x1 x2 x3 x4 x5 x6 x7 x8 x9 x10 x11 _).trans (Finset.sum_congr rfl fun k _ => congrArg₂ (· * ·) (congrArg _ ?_) (congrArg x11 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem one32 : FloatOps.ofBits (F := Ideal) .f32 0x3F800000#32 = (1 : EReal) := by
  show Ideal.ofBits .f32 0x3F800000#32 = 1
  simp [Ideal.ofBits, Ideal.ieee, -EReal.coe_mul]
  norm_num

theorem v62_row (b : Fin 4) (t : Fin 4096) (j : Fin 2816) :
    val_main_v62 (F := Ideal) x0 x1 x2 x3 x4 x5 x6 x7 x8 x9 x10 (ix3 b t j)
      = gateRow (fun k => val_main_v58 (F := Ideal) x0 x1 x2 x3 x4 x5 x6 x7 x8 (ix3 b t k)) (fun k j => x9 (ix2 k j)) (fun k j => x10 (ix2 k j)) j := by
  unfold gateRow
  rw [← v59_row, ← v61_row]
  refine (val_main_v62_apply (F := Ideal) x0 x1 x2 x3 x4 x5 x6 x7 x8 x9 x10 _).trans (congrArg (· * _) ?_)
  refine (val_main_v60_apply (F := Ideal) x0 x1 x2 x3 x4 x5 x6 x7 x8 x9 _).trans (congrArg (_ * ·) ?_)
  refine (val_main_call0_v5_apply (F := Ideal) x0 x1 x2 x3 x4 x5 x6 x7 x8 x9 _).trans ?_
  rw [val_main_call0_v3_apply, val_main_call0_v1_apply, val_main_call0_v0_apply, val_main_call0_v4_apply, val_main_call0_v2_apply, val_main_call0_cst_apply, val_main_call0_cst_0_apply, one32]
  rfl

/-- The reference's output at an entry. -/
theorem v79_row (b : Fin 4) (t : Fin 4096) (j : Fin 1024) :
    val_main_v79 (F := Ideal) x0 x1 x2 x3 x4 x5 x6 x7 x8 x9 x10 x11 x12 (ix3 b t j) = layerRow x0 x1 x2 x3 x4 x5 x6 x7 x8 x9 x10 x11 x12 b t j := by
  have h45 : ∀ k, val_main_v45 (F := Ideal) x0 x1 x2 x3 x4 x5 x6 x7 (ix3 b t k)
      = mixRow (osbRow x0 b t) (omlaRow x1 x5 b t) (fun k => x2 (ix3 b t k)) (fun k => x3 (ix1 k)) (fun k => x4 (ix1 k)) (fun k j => x6 (ix2 k j)) (fun k => x7 (ix1 k)) k := fun k => by
    unfold mixRow
    refine (val_main_v45_apply (F := Ideal) x0 x1 x2 x3 x4 x5 x6 x7 _).trans (congrArg (x2 (ix3 b t k) + ·) ?_)
    refine (v44_apply x0 x1 x3 x4 x5 x6 x7 b t k).trans (congrArg (fun z => rmsRow 0x44800000#32 z (fun k => x7 (ix1 k)) k) (funext fun k => ?_))
    exact (v31_row x0 x1 x3 x4 x5 x6 b t k).trans (congrArg (fun z => dotRow z (fun k j => x6 (ix2 k j)) k) (funext fun k => v30_row x0 x1 x3 x4 x5 b t k))
  have h58 : ∀ k, val_main_v58 (F := Ideal) x0 x1 x2 x3 x4 x5 x6 x7 x8 (ix3 b t k) = _ := fun k =>
    (v58_apply x0 x1 x2 x3 x4 x5 x6 x7 x8 b t k).trans (congrArg (fun z => rmsRow 0x44800000#32 z (fun k => x8 (ix1 k)) k) (funext h45))
  unfold layerRow ffnRow
  refine (val_main_v79_apply (F := Ideal) x0 x1 x2 x3 x4 x5 x6 x7 x8 x9 x10 x11 x12 _).trans ?_
  refine congrArg₂ (fun a z : EReal => a + z) (h45 j) ?_
  refine (val_main_v78_apply (F := Ideal) x0 x1 x2 x3 x4 x5 x6 x7 x8 x9 x10 x11 x12 _).trans ?_
  refine congrArg₂ (fun a z : EReal => a * z) ?_ ?_
  · exact (val_main_v77_apply (F := Ideal) _).trans rfl
  refine (v76_apply x0 x1 x2 x3 x4 x5 x6 x7 x8 x9 x10 x11 x12 b t j).trans (congrArg (fun z => rmsRow 0x44800000#32 z (fun k => x12 (ix1 k)) j) (funext fun k => ?_))
  refine (v63_row x0 x1 x2 x3 x4 x5 x6 x7 x8 x9 x10 x11 b t k).trans (congrArg (fun z => dotRow z (fun k j => x11 (ix2 k j)) k) (funext fun k => ?_))
  exact (v62_row x0 x1 x2 x3 x4 x5 x6 x7 x8 x9 x10 b t k).trans (congrArg (fun z : Fin 1024 → EReal => gateRow z (fun k j => x9 (ix2 k j)) (fun k j => x10 (ix2 k j)) k) (funext h58))

end Cert.OutRefIdeal.Layer

end
-- ==== Proof.OutFfn.Algebraic.lean ====
/- The layer's second half: the kernel's output equals the reference's, for any arguments. -/
module

public import proofs.«01_k».proof.Defs
public import proofs.«01_k».proof.Proof.OutFfn.Value
public import proofs.«01_k».proof.Proof.OutFfn.Ref
public import Idealize.ShloMosaic.Lib.Quiescent

@[expose] public section

set_option maxRecDepth 16384

noncomputable section

namespace Cert.OutFfn

open Idealize.ShloMosaic Idealize.ShloMosaic.TcCoe Idealize.ShloMosaic.ValueIdx Idealize.SL.Sem

/-- A row of equal arguments. -/
theorem layerRow_args {a0 b0 : (⟨4, ![4, 4096, 8, 64]⟩ : Shape).Idx → EReal} {a1 b1 : (⟨4, ![4, 4096, 8, 128]⟩ : Shape).Idx → EReal} {a2 b2 : (⟨3, ![4, 4096, 1024]⟩ : Shape).Idx → EReal}
    {a3 b3 a4 b4 : (⟨1, ![512]⟩ : Shape).Idx → EReal} {a5 b5 : (⟨3, ![128, 8, 64]⟩ : Shape).Idx → EReal} {a6 b6 : (⟨2, ![1024, 1024]⟩ : Shape).Idx → EReal}
    {a7 b7 a8 b8 : (⟨1, ![1024]⟩ : Shape).Idx → EReal} {a9 b9 a10 b10 : (⟨2, ![1024, 2816]⟩ : Shape).Idx → EReal} {a11 b11 : (⟨2, ![2816, 1024]⟩ : Shape).Idx → EReal}
    {a12 b12 : (⟨1, ![1024]⟩ : Shape).Idx → EReal} (h0 : b0 = a0) (h1 : b1 = a1) (h2 : b2 = a2) (h3 : b3 = a3) (h4 : b4 = a4) (h5 : b5 = a5) (h6 : b6 = a6) (h7 : b7 = a7)
    (h8 : b8 = a8) (h9 : b9 = a9) (h10 : b10 = a10) (h11 : b11 = a11) (h12 : b12 = a12) (b : Fin 4) (t : Fin 4096) (j : Fin 1024) :
    layerRow b0 b1 b2 b3 b4 b5 b6 b7 b8 b9 b10 b11 b12 b t j = layerRow a0 a1 a2 a3 a4 a5 a6 a7 a8 a9 a10 a11 a12 b t j := by
  rw [h0, h1, h2, h3, h4, h5, h6, h7, h8, h9, h10, h11, h12]

theorem algebraic : Cert.algebraic_OutIdeal_OutRefIdeal (hOutIdeal := Cert.OutIdeal.Gen.facts) (hOutRefIdeal := Cert.OutRefIdeal.Gen.facts) := by
  intro m g m' g' _ hm
  refine ⟨fun c => layerArr m c, ?_, ?_⟩
  · exact (θ_run _ _ _).mono (fun r h c => ⟨(h c).1.trans (array_eq m c), (h c).2⟩) (Cert.OutIdeal.Value.run_blocks m g)
  · refine (θ_run _ _ _).mono (fun r h c => ⟨(h c).1.trans ?_, (h c).2⟩) (Cert.OutRefIdeal.Value.run m' g')
    refine (Cert.OutRefIdeal.Read.val_main_v79_eq _).trans (funext fun i => ?_)
    obtain ⟨b, t, j, rfl⟩ : ∃ b t j, i = ix3 (n0 := 4) (n1 := 4096) (n2 := 1024) b t j := ⟨i 0, i 1, i 2, funext fun a => by
      match a with
      | ⟨0, _⟩ => rfl
      | ⟨1, _⟩ => rfl
      | ⟨2, _⟩ => rfl⟩
    obtain ⟨e0, e1, e2, e3, e4, e5, e6, e7, e8, e9, e10, e11, e12⟩ := hm c
    exact (Cert.OutRefIdeal.Layer.v79_row _ _ _ _ _ _ _ _ _ _ _ _ _ b t j).trans (layerRow_args e0 e1 e2 e3 e4 e5 e6 e7 e8 e9 e10 e11 e12 b t j)

/-- The reference's frame: its run, and it has no semaphore. -/
theorem ref_frame : Cert.quiescent_OutRefIdeal (hOutRefIdeal := Cert.OutRefIdeal.Gen.facts) := fun m g _ =>
  (θ_run _ _ _).mono (fun r h => ⟨fun c => (h c).2, sem_eq_zero_of_no_sems rfl _⟩) (Cert.OutRefIdeal.Value.run m g)

end Cert.OutFfn

end
-- ==== Proof.Proj.RunA.lean ====
/- The run of the projection kernel's body over its skeletons, at any float type, and what its stores leave. -/
module

public import proofs.«01_k».proof.Proof.Gen.ProjIdeal.Frame.Runs

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 8000000 in
noncomputable def kernelRun0_A (c : Dev nD) (i : grid0.Coords) (arg2 : Memref sig .tc .vmem S1x512x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2176 .bf16) (harg11 : arg11.IsWhole) (arg12 : Memref sig .tc .vmem S1x256 .f32) (harg12 : arg12.IsWhole) (arg13 : Memref sig .tc .vmem S256x2560 .bf16) (harg13 : arg13.IsWhole) (arg14 : Memref sig .tc .vmem S4x128x256 .bf16) (harg14 : arg14.IsWhole) (arg15 : Memref sig .tc .vmem S1x128 .f32) (harg15 : arg15.IsWhole) (arg16 : Memref sig .tc .vmem S1x512x1024 .f32) (harg16 : arg16.IsWhole) (arg17 : Memref sig .tc .vmem S1x512x512 .f32) (harg17 : arg17.IsWhole) (arg18 : Memref sig .tc .vmem S1x512x512 .f32) (harg18 : arg18.IsWhole) (arg19 : Memref sig .tc .vmem S1x512x128 .f32) (harg19 : arg19.IsWhole) (arg20 : Memref sig .tc .vmem S1x512x32 .f32) (harg20 : arg20.IsWhole) (arg21 : Memref sig .tc .vmem S1x4x512x128 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x8x512x256 .bf16) (harg24 : arg24.IsWhole) (arg25 : Memref sig .tc .vmem S1x512x256 .bf16) (harg25 : arg25.IsWhole) (arg26 : Memref sig .tc .vmem S1x144x512 .bf16) (harg26 : arg26.IsWhole) (arg27 : Memref sig .tc .vmem S512x2816 .bf16) (harg27 : arg27.IsWhole)
    (x0 : Vec F S1x512x1024 .f32) (x1 : Vec F S512x128 .f32) (x2 : Vec F S512x128 .f32) (x3 : Vec F S1x1024 .f32) (x4 : Vec F S1024x2816 .bf16) (x5 : Vec F S1024x2816 .bf16) (x6 : Vec F S2816x1024 .bf16) (x7 : Vec F S1x1024 .f32) (x8 : Vec F S1x1024 .f32) (x9 : Vec F S1024x2176 .bf16) (x10 : Vec F S1x256 .f32) (x11 : Vec F S256x2560 .bf16) (x12 : Vec F S4x128x256 .bf16) (x13 : Vec F S1x128 .f32) :
    Σ' (L14 : List (View.Piece (Elt F) S1x512x1024 .f32)), Σ' (L15 : List (View.Piece (Elt F) S1x512x512 .f32)), Σ' (L16 : List (View.Piece (Elt F) S1x512x512 .f32)), Σ' (L17 : List (View.Piece (Elt F) S1x512x128 .f32)), Σ' (L18 : List (View.Piece (Elt F) S1x512x32 .f32)), Σ' (L19 : List (View.Piece (Elt F) S1x4x512x128 .bf16)), Σ' (L20 : List (View.Piece (Elt F) S1x4x512x128 .bf16)), Σ' (L21 : List (View.Piece (Elt F) S1x4x512x128 .bf16)), Σ' (L22 : List (View.Piece (Elt F) S1x8x512x256 .bf16)), Σ' (L23 : List (View.Piece (Elt F) S1x512x256 .bf16)), Σ' (L24 : List (View.Piece (Elt F) S1x144x512 .bf16)), { LT0 : List (View.Piece (Elt F) S512x2816 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f LT0)) -∗ K ⟨⟩))
          ⊢ wp frame (wpE (defs₀ (F := F)) Variants.none c none) E (cc0_ffn_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_ffn_proj_eq_skeleton]; unfold cc0_ffn_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact HS0

end Cert.ProjIdeal.Gen

end
-- ==== Proof.Proj.Frame.lean ====
/- The frame of the projection call: what each point leaves, and the whole run. -/
module

public import proofs.«01_k».proof.Proof.Proj.RunA
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S1x512x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2176 .bf16) (harg11 : arg11.IsWhole) (arg12 : Memref sig .tc .vmem S1x256 .f32) (harg12 : arg12.IsWhole) (arg13 : Memref sig .tc .vmem S256x2560 .bf16) (harg13 : arg13.IsWhole) (arg14 : Memref sig .tc .vmem S4x128x256 .bf16) (harg14 : arg14.IsWhole) (arg15 : Memref sig .tc .vmem S1x128 .f32) (harg15 : arg15.IsWhole) (arg16 : Memref sig .tc .vmem S1x512x1024 .f32) (harg16 : arg16.IsWhole) (arg17 : Memref sig .tc .vmem S1x512x512 .f32) (harg17 : arg17.IsWhole) (arg18 : Memref sig .tc .vmem S1x512x512 .f32) (harg18 : arg18.IsWhole) (arg19 : Memref sig .tc .vmem S1x512x128 .f32) (harg19 : arg19.IsWhole) (arg20 : Memref sig .tc .vmem S1x512x32 .f32) (harg20 : arg20.IsWhole) (arg21 : Memref sig .tc .vmem S1x4x512x128 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x8x512x256 .bf16) (harg24 : arg24.IsWhole) (arg25 : Memref sig .tc .vmem S1x512x256 .bf16) (harg25 : arg25.IsWhole) (arg26 : Memref sig .tc .vmem S1x144x512 .bf16) (harg26 : arg26.IsWhole) (arg27 : Memref sig .tc .vmem S512x2816 .bf16) (harg27 : arg27.IsWhole)
    (x0 : Vec F S1x512x1024 .f32) (x1 : Vec F S512x128 .f32) (x2 : Vec F S512x128 .f32) (x3 : Vec F S1x1024 .f32) (x4 : Vec F S1024x2816 .bf16) (x5 : Vec F S1024x2816 .bf16) (x6 : Vec F S2816x1024 .bf16) (x7 : Vec F S1x1024 .f32) (x8 : Vec F S1x1024 .f32) (x9 : Vec F S1024x2176 .bf16) (x10 : Vec F S1x256 .f32) (x11 : Vec F S256x2560 .bf16) (x12 : Vec F S4x128x256 .bf16) (x13 : Vec F S1x128 .f32)

theorem cover0_A_14  (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).1 S1x512x1024.size (by sl_kernel_rfl) y

def out0_A_14  : Vec F S1x512x1024 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).1)

theorem cover0_A_15  (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.1 S1x512x512.size (by sl_kernel_rfl) y

def out0_A_15  : Vec F S1x512x512 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.1)

theorem cover0_A_16  (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.1 S1x512x512.size (by sl_kernel_rfl) y

def out0_A_16  : Vec F S1x512x512 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.1)

theorem cover0_A_17  (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.1 S1x512x128.size (by sl_kernel_rfl) y

def out0_A_17  : Vec F S1x512x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.1)

theorem cover0_A_18  (y : S1x512x32.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.1 S1x512x32.size (by sl_kernel_rfl) y

def out0_A_18  : Vec F S1x512x32 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.1)

theorem cover0_A_19  (y : S1x4x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.1 S1x1x512x128.size (by sl_kernel_rfl) y

def out0_A_19  : Vec F S1x4x512x128 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.1)

theorem cover0_A_20  (y : S1x4x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.1 S1x1x512x128.size (by sl_kernel_rfl) y

def out0_A_20  : Vec F S1x4x512x128 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.1)

theorem cover0_A_21  (y : S1x4x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.1 S1x1x512x128.size (by sl_kernel_rfl) y

def out0_A_21  : Vec F S1x4x512x128 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.1)

theorem cover0_A_22  (y : S1x8x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.1 S1x1x512x128.size (by sl_kernel_rfl) y

def out0_A_22  : Vec F S1x8x512x256 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.1)

theorem cover0_A_23  (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.2.1 S1x512x128.size (by sl_kernel_rfl) y

def out0_A_23  : Vec F S1x512x256 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.2.1)

theorem cover0_A_24  (y : S1x144x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.2.2.1 ![1, 16, 512] (by sl_kernel_rfl) y

def out0_A_24  : Vec F S1x144x512 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.2.2.2.2.2.2.1)

end

def outsAt0 (c : Dev nD) (t : Fin cfg0.N) : Vec F S1x512x1024 .f32 × Vec F S1x512x512 .f32 × Vec F S1x512x512 .f32 × Vec F S1x512x128 .f32 × Vec F S1x512x32 .f32 × Vec F S1x4x512x128 .bf16 × Vec F S1x4x512x128 .bf16 × Vec F S1x4x512x128 .bf16 × Vec F S1x8x512x256 .bf16 × Vec F S1x512x256 .bf16 × Vec F S1x144x512 .bf16 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2.1
    | ⟨23, _⟩ => (outsAt0 m c t).2.2.2.2.2.2.2.2.2.1
    | ⟨24, _⟩ => (outsAt0 m c t).2.2.2.2.2.2.2.2.2.2
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2.1 := by dsimp only [dats]
theorem after0_23 (c : Dev nD) (t : Fin cfg0.N) : (dats m 0 c).after 23 t = (outsAt0 m c t).2.2.2.2.2.2.2.2.2.1 := by dsimp only [dats]
theorem after0_24 (c : Dev nD) (t : Fin cfg0.N) : (dats m 0 c).after 24 t = (outsAt0 m c t).2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.castSucc = Pipeline.ΦA spec0 c from rfl, PhiA0_eq]
  unfold outsAt0
  unfold out0_A_14 out0_A_15 out0_A_16 out0_A_17 out0_A_18 out0_A_19 out0_A_20 out0_A_21 out0_A_22 out0_A_23 out0_A_24; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.ProjIdeal.Gen

end
-- ==== Proof.Proj.Value.lean ====
/- The arrays the projection call leaves, from what each point writes. -/
module

public import proofs.«01_k».proof.Proof.Proj.Frame
public import Idealize.ShloMosaic.Lib.Pipeline.Value

@[expose] public section

noncomputable section

namespace Cert.ProjIdeal.Value

open Cert.ProjIdeal Cert.ProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed14 (c : Dev nD) (t : Fin cfg0.N) :
    (dats m 0 c).flushed 14 t = (cfg0.win 14).cut (grid0.coords t) ((outsAt0 m c t).1) := by
  show (cfg0.win 14).cut (grid0.coords t) ((dats m 0 c).after 14 t) = _
  rw [after0_14]

theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed14, outsAt0]

theorem idx_inj14 : ∀ t t' : Fin cfg0.N, win0_14.index t = win0_14.index t' → t = t' :=
  (by decide +kernel : ∀ t t' : Fin grid0.N, win0_14.index t = win0_14.index t' → t = t')

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

theorem entry14 (c : Dev nD) (i : S4x4096x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

theorem flushed15 (c : Dev nD) (t : Fin cfg0.N) :
    (dats m 0 c).flushed 15 t = (cfg0.win 15).cut (grid0.coords t) ((outsAt0 m c t).2.1) := by
  show (cfg0.win 15).cut (grid0.coords t) ((dats m 0 c).after 15 t) = _
  rw [after0_15]

theorem flushed15_A (c : Dev nD) (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed15, outsAt0]

theorem idx_inj15 : ∀ t t' : Fin cfg0.N, win0_15.index t = win0_15.index t' → t = t' :=
  (by decide +kernel : ∀ t t' : Fin grid0.N, win0_15.index t = win0_15.index t' → t = t')

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

theorem entry15 (c : Dev nD) (i : S4x512x4096.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

theorem flushed16 (c : Dev nD) (t : Fin cfg0.N) :
    (dats m 0 c).flushed 16 t = (cfg0.win 16).cut (grid0.coords t) ((outsAt0 m c t).2.2.1) := by
  show (cfg0.win 16).cut (grid0.coords t) ((dats m 0 c).after 16 t) = _
  rw [after0_16]

theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed16, outsAt0]

theorem idx_inj16 : ∀ t t' : Fin cfg0.N, win0_16.index t = win0_16.index t' → t = t' :=
  (by decide +kernel : ∀ t t' : Fin grid0.N, win0_16.index t = win0_16.index t' → t = t')

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

theorem entry16 (c : Dev nD) (i : S4x512x4096.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

theorem flushed17 (c : Dev nD) (t : Fin cfg0.N) :
    (dats m 0 c).flushed 17 t = (cfg0.win 17).cut (grid0.coords t) ((outsAt0 m c t).2.2.2.1) := by
  show (cfg0.win 17).cut (grid0.coords t) ((dats m 0 c).after 17 t) = _
  rw [after0_17]

theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed17, outsAt0]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S4x4096x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) ((outsAt0 m c t).2.2.2.2.1) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed18, outsAt0]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S4x4096x32.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem flushed19 (c : Dev nD) (t : Fin cfg0.N) :
    (dats m 0 c).flushed 19 t = (cfg0.win 19).cut (grid0.coords t) ((outsAt0 m c t).2.2.2.2.2.1) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed19, outsAt0]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem entry19 (c : Dev nD) (i : S4x4x4096x128.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

theorem flushed20 (c : Dev nD) (t : Fin cfg0.N) :
    (dats m 0 c).flushed 20 t = (cfg0.win 20).cut (grid0.coords t) ((outsAt0 m c t).2.2.2.2.2.2.1) := by
  show (cfg0.win 20).cut (grid0.coords t) ((dats m 0 c).after 20 t) = _
  rw [after0_20]

theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed20, outsAt0]

theorem idx_inj20 : ∀ t t' : Fin cfg0.N, win0_20.index t = win0_20.index t' → t = t' :=
  (by decide +kernel : ∀ t t' : Fin grid0.N, win0_20.index t = win0_20.index t' → t = t')

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

theorem entry20 (c : Dev nD) (i : S4x4x4096x128.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem flushed21 (c : Dev nD) (t : Fin cfg0.N) :
    (dats m 0 c).flushed 21 t = (cfg0.win 21).cut (grid0.coords t) ((outsAt0 m c t).2.2.2.2.2.2.2.1) := by
  show (cfg0.win 21).cut (grid0.coords t) ((dats m 0 c).after 21 t) = _
  rw [after0_21]

theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed21, outsAt0]

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

theorem entry21 (c : Dev nD) (i : S4x4x4096x128.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

theorem flushed22 (c : Dev nD) (t : Fin cfg0.N) :
    (dats m 0 c).flushed 22 t = (cfg0.win 22).cut (grid0.coords t) ((outsAt0 m c t).2.2.2.2.2.2.2.2.1) := by
  show (cfg0.win 22).cut (grid0.coords t) ((dats m 0 c).after 22 t) = _
  rw [after0_22]

theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed22, outsAt0]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S4x8x4096x256.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem flushed23 (c : Dev nD) (t : Fin cfg0.N) :
    (dats m 0 c).flushed 23 t = (cfg0.win 23).cut (grid0.coords t) ((outsAt0 m c t).2.2.2.2.2.2.2.2.2.1) := by
  show (cfg0.win 23).cut (grid0.coords t) ((dats m 0 c).after 23 t) = _
  rw [after0_23]

theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed23, outsAt0]

theorem idx_inj23 : ∀ t t' : Fin cfg0.N, win0_23.index t = win0_23.index t' → t = t' :=
  (by decide +kernel : ∀ t t' : Fin grid0.N, win0_23.index t = win0_23.index t' → t = t')

theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

theorem entry23 (c : Dev nD) (i : S4x4096x256.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

theorem flushed24 (c : Dev nD) (t : Fin cfg0.N) :
    (dats m 0 c).flushed 24 t = (cfg0.win 24).cut (grid0.coords t) ((outsAt0 m c t).2.2.2.2.2.2.2.2.2.2) := by
  show (cfg0.win 24).cut (grid0.coords t) ((dats m 0 c).after 24 t) = _
  rw [after0_24]

theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed24, outsAt0]

theorem idx_inj24 : ∀ t t' : Fin cfg0.N, win0_24.index t = win0_24.index t' → t = t' :=
  (by decide +kernel : ∀ t t' : Fin grid0.N, win0_24.index t = win0_24.index t' → t = t')

theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

theorem entry24 (c : Dev nD) (i : S4x144x4096.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

theorem post14 (r : PUnit × MemSt nD τ sig (Elt F)) (h : Pipeline.FramePost cfgs (dats m) 0 (V m) r) (c : Dev nD) :
    r.2.mem ((c : Thread nD τ).loc main_v73_0) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v73_1) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v73_2) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v73_3) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v73_4) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v73_5) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v73_6) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v73_7) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v73_8) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v73_9) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v73_10) = (dats m 0 c).arrAt 24 cfg0.N :=
  (h c).1 24

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 353720 in
theorem run_blocks : θ_run defs (onTc (τ := τ) (main (F := F))) ⟨m, fun _ => 0, ρ⟩ fun r => ∀ c : Dev nD,
      r.2.mem ((c : Thread nD τ).loc main_v73_0) = (dats m 0 c).arrAt 14 cfg0.N
      ∧ r.2.mem ((c : Thread nD τ).loc main_v73_1) = (dats m 0 c).arrAt 15 cfg0.N
      ∧ r.2.mem ((c : Thread nD τ).loc main_v73_2) = (dats m 0 c).arrAt 16 cfg0.N
      ∧ r.2.mem ((c : Thread nD τ).loc main_v73_3) = (dats m 0 c).arrAt 17 cfg0.N
      ∧ r.2.mem ((c : Thread nD τ).loc main_v73_4) = (dats m 0 c).arrAt 18 cfg0.N
      ∧ r.2.mem ((c : Thread nD τ).loc main_v73_5) = (dats m 0 c).arrAt 19 cfg0.N
      ∧ r.2.mem ((c : Thread nD τ).loc main_v73_6) = (dats m 0 c).arrAt 20 cfg0.N
      ∧ r.2.mem ((c : Thread nD τ).loc main_v73_7) = (dats m 0 c).arrAt 21 cfg0.N
      ∧ r.2.mem ((c : Thread nD τ).loc main_v73_8) = (dats m 0 c).arrAt 22 cfg0.N
      ∧ r.2.mem ((c : Thread nD τ).loc main_v73_9) = (dats m 0 c).arrAt 23 cfg0.N
      ∧ r.2.mem ((c : Thread nD τ).loc main_v73_10) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post14 m r h c,
      post15 m r h c,
      post16 m r h c,
      post17 m r h c,
      post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.ProjIdeal.Value

end
-- ==== Proof.Proj.Tile.lean ====
/- The projection kernel's vector steps read at one entry. -/
module

public import proofs.«01_k».proof.Proof.Gen.ProjIdeal.Skeleton
public import proofs.«01_k».proof.Proof.Ffn.Tile

@[expose] public section

set_option maxRecDepth 16384

noncomputable section

open scoped BigOperators

namespace Cert.InProj

open Cert.Ffn Cert.ProjIdeal Cert.ProjIdeal.Gen
open Idealize.ShloMosaic Idealize.ShloMosaic.ValueIdx

variable (x : FVec Ideal S1x512x1024 .f32) (g : FVec Ideal S1x1024 .f32)

theorem pay3_apply (i : Fin 512) (j : Fin 1024) : k0_pay3 (F := Ideal) x (ix2 i j) = x (ix3 0 i j) := by
  unfold k0_pay3
  exact (shapeCast_dropUnit_apply ![512, 1024] x _ (ix2 i j)).trans (congrArg x (funext fun a => match a with | ⟨0, _⟩ => rfl | ⟨1, _⟩ => rfl | ⟨2, _⟩ => rfl))

theorem pay4_apply (i : Fin 512) (j : Fin 1024) :
    k0_pay4 (F := Ideal) x g (ix2 i j) = rmsRow 0x44800000#32 (fun k => x (ix3 0 i k)) (fun k => g (ix2 0 k)) j := by
  unfold k0_pay4
  simp only [shapeCast_self]
  rw [truncf_apply]
  refine (rms_apply (M := 512) (N := 1024) 0x44800000#32 (k0_pay3 x) g _ _ _ _ _ _ (by decide) (by decide) i j).trans ?_
  exact congrArg (fun z => rmsRow 0x44800000#32 z (fun k => g (ix2 0 k)) j) (funext fun k => pay3_apply x i k)

/-- One chunk of the gated columns. -/
theorem pay19_apply (h : FVec Ideal S512x1024 .bf16) (a b : FVec Ideal S1024x256 .bf16) (i : Fin 512) (j : Fin 256) :
    k0_pay19 (F := Ideal) h a b (ix2 i j) = gateRow (fun k => h (ix2 i k)) (fun k j => a (ix2 k j)) (fun k j => b (ix2 k j)) j := by
  unfold k0_pay19
  simp only [shapeCast_self]
  rw [truncf_apply, mulf_apply, mulf_apply]
  have e := fun w => dot_apply (M := 512) (K := 1024) (N := 256) h w i j
  exact congrArg₂ (· * ·) (congrArg₂ (· * ·) (e a) (congrArg Ideal.logistic (e a))) (e b)

/-- The gated columns. -/
def actV (h : FVec Ideal S512x1024 .bf16) (wg wu : FVec Ideal S1024x2816 .bf16) : FVec Ideal S512x2816 .bf16 := fun y =>
  gateRow (fun k => h (ix2 (y 0) k)) (fun k j => wg (ix2 k j)) (fun k j => wu (ix2 k j)) (y 1)

theorem chunk_apply (h : FVec Ideal S512x1024 .bf16) (wg wu : FVec Ideal S1024x2816 .bf16) (o : ℕ) (b1 b2 b3) (y : S512x256.Idx) :
    k0_pay19 (F := Ideal) h (View.ld (Val := Elt Ideal) (e' := .bf16) wg (Rect.unit (s := S1024x2816) ![0, o] S1024x256.size b1)) (View.ld (Val := Elt Ideal) (e' := .bf16) wu (Rect.unit (s := S1024x2816) ![0, o] S1024x256.size b2)) y
      = actV h wg wu ((Rect.unit (s := S512x2816) ![0, o] S512x256.size b3).emb y) := by
  obtain ⟨i, j, rfl⟩ : ∃ (i : Fin 512) (j : Fin 256), y = ix2 i j := ⟨y 0, y 1, funext fun a => match a with | ⟨0, _⟩ => rfl | ⟨1, _⟩ => rfl⟩
  refine (pay19_apply h _ _ i j).trans ?_
  have hb : o + 256 ≤ 2816 := b3 1
  have e0 : (Rect.unit (s := S512x2816) ![0, o] S512x256.size b3).emb (ix2 i j) = (ix2 i ⟨o + j.val, by omega⟩ : S512x2816.Idx) := funext fun a => Fin.ext (by
    match a with
    | ⟨0, _⟩ => show 0 + 1 * i.val = i.val; omega
    | ⟨1, _⟩ => show o + 1 * j.val = o + j.val; omega)
  have ew : ∀ (w : FVec Ideal S1024x2816 .bf16) (bb) (k : Fin 1024), View.ld (Val := Elt Ideal) (e' := .bf16) w (Rect.unit (s := S1024x2816) ![0, o] S1024x256.size bb) (ix2 k j) = w (ix2 k ⟨o + j.val, by omega⟩) := fun w bb k =>
    congrArg w (funext fun a => Fin.ext (by
      match a with
      | ⟨0, _⟩ => show 0 + 1 * k.val = k.val; omega
      | ⟨1, _⟩ => show o + 1 * j.val = o + j.val; omega))
  have d : ∀ (w : FVec Ideal S1024x2816 .bf16) (bb),
      dotRow (fun k => h (ix2 i k)) (fun k j => View.ld (Val := Elt Ideal) (e' := .bf16) w (Rect.unit (s := S1024x2816) ![0, o] S1024x256.size bb) (ix2 k j)) j
        = dotRow (fun k => h (ix2 i k)) (fun k j => w (ix2 k j)) ⟨o + j.val, by omega⟩ := fun w bb =>
    Finset.sum_congr rfl fun k _ => congrArg (h (ix2 i k) * ·) (ew w bb k)
  refine Eq.trans ?_ (congrArg (actV h wg wu) e0).symm
  exact congrArg₂ (· * ·) (congrArg₂ (· * ·) (d wg b1) (congrArg Ideal.logistic (d wg b1))) (d wu b2)

/-! The other chunks' steps are the last one's. -/

theorem pay5_eq (a b : FVec Ideal S1024x256 .bf16) : k0_pay5 (F := Ideal) x g a b = k0_pay19 (k0_pay4 x g) a b := rfl
theorem pay8_eq (a b : FVec Ideal S1024x256 .bf16) :
    k0_pay8 (F := Ideal) (k0_pay4 x g) (k0_pay6 x g a) (k0_pay7 b) (constant (F := Ideal) S512x256 .f32 0x00000000#32) = k0_pay19 (k0_pay4 x g) a b := rfl

variable (h : FVec Ideal S512x1024 .bf16) (a b : FVec Ideal S1024x256 .bf16)

theorem pay9_eq : k0_pay9 (F := Ideal) h a b = k0_pay19 h a b := rfl
theorem pay10_eq : k0_pay10 (F := Ideal) h a b = k0_pay19 h a b := rfl
theorem pay12_eq : k0_pay12 (F := Ideal) h (k0_pay11 a) (constant (F := Ideal) S512x256 .f32 0x00000000#32) b = k0_pay19 h a b := rfl
theorem pay13_eq : k0_pay13 (F := Ideal) h a b = k0_pay19 h a b := rfl
theorem pay14_eq : k0_pay14 (F := Ideal) h a b = k0_pay19 h a b := rfl
theorem pay15_eq : k0_pay15 (F := Ideal) h a b = k0_pay19 h a b := rfl
theorem pay16_eq : k0_pay16 (F := Ideal) h a b = k0_pay19 h a b := rfl
theorem pay18_eq : k0_pay18 (F := Ideal) (k0_pay17 h a b) = k0_pay19 h a b := rfl

/-- Half of the half step's normed rows. -/
theorem pay20_apply (act : FVec Ideal S512x2816 .bf16) (wd : FVec Ideal S2816x1024 .bf16) (i : Fin 512) (j : Fin 1024) :
    k0_pay20 (F := Ideal) act wd g (ix2 i j)
      = Ideal.ofBits .f32 0x3F000000#32 * rmsRow 0x44800000#32 (dotRow (fun k => act (ix2 i k)) (fun k j => wd (ix2 k j))) (fun k => g (ix2 0 k)) j := by
  unfold k0_pay20
  simp only [shapeCast_self]
  rw [mulf_apply]
  refine congrArg (fun z => Ideal.ofBits .f32 0x3F000000#32 * z) ?_
  refine (rms_apply (M := 512) (N := 1024) 0x44800000#32 _ g _ _ _ _ _ _ (by decide) (by decide) i j).trans ?_
  congr 1
  funext k
  exact dot_apply (M := 512) (K := 2816) (N := 1024) act wd i k

/-- The residual rows' projection. -/
theorem pay23_apply (v1 v179 : FVec Ideal S512x1024 .f32) (w : FVec Ideal S1024x2176 .bf16) (i : Fin 512) (j : Fin 2176) :
    k0_pay23 (F := Ideal) v1 v179 g w (ix2 i j)
      = dotRow (rmsRow 0x44800000#32 (fun k => k0_pay21 (F := Ideal) v1 v179 (ix2 i k)) (fun k => g (ix2 0 k))) (fun k j => w (ix2 k j)) j := by
  unfold k0_pay23
  simp only [shapeCast_self]
  refine (dot_apply (M := 512) (K := 1024) (N := 2176) _ w i j).trans ?_
  congr 1
  funext k
  rw [truncf_apply]
  exact rms_apply (M := 512) (N := 1024) 0x44800000#32 (k0_pay21 v1 v179) g _ _ _ _ _ _ (by decide) (by decide) i k

theorem addUnit_apply {M N : ℕ} (v : FVec Ideal ⟨2, ![M, N]⟩ .f32) (hc : Shape.ShapeCasts ⟨2, ![M, N]⟩ ⟨3, ![1, M, N]⟩) (i : Fin M) (j : Fin N) :
    shapeCast ⟨3, ![1, M, N]⟩ v hc (ix3 0 i j) = v (ix2 i j) :=
  (shapeCast_addUnit_apply ![M, N] _ _ (ix3 0 i j)).trans (congrArg v (funext fun a => match a with | ⟨0, _⟩ => rfl | ⟨1, _⟩ => rfl))

theorem pay22_apply (v1 v179 : FVec Ideal S512x1024 .f32) (i : Fin 512) (j : Fin 1024) :
    k0_pay22 (F := Ideal) v1 v179 (ix3 0 i j) = v1 (ix2 i j) + v179 (ix2 i j) := by
  unfold k0_pay22
  exact (addUnit_apply (M := 512) (N := 1024) _ _ i j).trans rfl

/-- Columns of a wider tile. -/
theorem cols_apply {N : ℕ} (v : FVec Ideal S512x2176 .f32) (o : ℕ) (hs : S512x2176.Slices ![0, o] ⟨2, ![512, N]⟩) (ho : o + N ≤ 2176) (i : Fin 512) (j : Fin N) :
    extractStridedSlice ⟨2, ![512, N]⟩ ![0, o] v hs (ix2 i j) = v (ix2 i ⟨o + j.val, by omega⟩) := by
  refine extractStridedSlice_apply _ _ _ (ix2 i j) _ fun a => ?_
  match a with
  | ⟨0, _⟩ => show i.val = 0 + i.val; omega
  | ⟨1, _⟩ => rfl

theorem flip_apply (v : FVec Ideal S512x512 .f32) (i j : Fin 512) (ht : S512x512.Transposes [1, 0] S512x512) : transpose S512x512 [1, 0] v ht (ix2 j i) = v (ix2 i j) := by
  refine transpose_apply _ _ _ _ _ fun a => ?_
  match a with
  | ⟨0, _⟩ => rfl
  | ⟨1, _⟩ => rfl

theorem pay26_apply (v1 v179 : FVec Ideal S512x1024 .f32) (w : FVec Ideal S1024x2176 .bf16) (i j : Fin 512) :
    k0_pay26 (F := Ideal) v1 v179 g w (ix3 0 j i) = k0_pay23 (F := Ideal) v1 v179 g w (ix2 i ⟨512 + j.val, by omega⟩) := by
  unfold k0_pay26 k0_pay24
  exact (addUnit_apply (M := 512) (N := 512) _ _ j i).trans ((flip_apply _ i j _).trans (cols_apply (N := 512) _ 512 _ (by omega) i j))

theorem pay27_apply (v1 v179 : FVec Ideal S512x1024 .f32) (w : FVec Ideal S1024x2176 .bf16) (i j : Fin 512) :
    k0_pay27 (F := Ideal) v1 v179 g w (ix3 0 j i) = k0_pay23 (F := Ideal) v1 v179 g w (ix2 i ⟨1024 + j.val, by omega⟩) := by
  unfold k0_pay27 k0_pay25
  exact (addUnit_apply (M := 512) (N := 512) _ _ j i).trans ((flip_apply _ i j _).trans (cols_apply (N := 512) _ 1024 _ (by omega) i j))

/-- The compressed keys and values, normed. -/
theorem pay74_apply (v : FVec Ideal S512x2176 .f32) (gk : FVec Ideal S1x128 .f32) (i : Fin 512) (j : Fin 128) :
    k0_pay74 (F := Ideal) v gk (ix3 0 i j) = rmsRow 0x43000000#32 (fun k : Fin 128 => v (ix2 i ⟨1792 + k.val, by omega⟩)) (fun k => gk (ix2 0 k)) j := by
  unfold k0_pay74 k0_pay72
  simp only [shapeCast_self]
  refine (addUnit_apply (M := 512) (N := 128) _ _ i j).trans ?_
  refine (rms_apply (M := 512) (N := 128) 0x43000000#32 _ gk _ _ _ _ _ _ (by decide) (by decide) i j).trans ?_
  exact congrArg (fun z => rmsRow 0x43000000#32 z (fun k => gk (ix2 0 k)) j) (funext fun k => cols_apply (N := 128) v 1792 _ (by omega) i k)

/-- The turned keys. -/
theorem pay75_apply (v : FVec Ideal S512x2176 .f32) (ct st : FVec Ideal S512x128 .f32) (i : Fin 512) (j : Fin 32) :
    k0_pay75 (F := Ideal) v ct st (ix3 0 i j)
      = v (ix2 i ⟨1920 + j.val, by omega⟩) * ct (ix2 i ⟨j.val, by omega⟩) + v (ix2 i ⟨2048 + j.val, by omega⟩) * st (ix2 i ⟨j.val, by omega⟩) := by
  unfold k0_pay75 k0_pay73
  refine (addUnit_apply (M := 512) (N := 32) _ _ i j).trans ?_
  refine (extractStridedSlice_apply _ _ _ (ix2 i j) (ix2 i (⟨j.val, by omega⟩ : Fin 128)) fun a => ?_).trans ?_
  · match a with
    | ⟨0, _⟩ => show i.val = 0 + i.val; omega
    | ⟨1, _⟩ => show j.val = 0 + j.val; omega
  rw [addf_apply, mulf_apply, mulf_apply]
  exact congrArg₂ (fun p q => p * ct (ix2 i ⟨j.val, by omega⟩) + q * st (ix2 i ⟨j.val, by omega⟩))
    (cols_apply (N := 128) v 1920 _ (by omega) i ⟨j.val, by omega⟩) (cols_apply (N := 128) v 2048 _ (by omega) i ⟨j.val, by omega⟩)

end Cert.InProj

end
-- ==== Proof.Proj.Run.lean ====
/- What a grid point of the projection call writes, as functions of its blocks. -/
module

public import proofs.«01_k».proof.Proof.Proj.RunA
public import proofs.«01_k».proof.Proof.Proj.Tile
import all proofs.«01_k».proof.Proof.Proj.RunA

@[expose] public section

set_option maxRecDepth 16384

noncomputable section

namespace Cert.InProj

open Cert.Ffn Cert.ProjIdeal Cert.ProjIdeal.Gen
open Idealize.ShloMosaic Idealize.ShloMosaic.TcCoe Idealize.ShloMosaic.ValueIdx Idealize.SL.Sem

theorem ld_whole2 {M N : ℕ} {e : EltTy} (x : (⟨2, ![M, N]⟩ : Shape).Idx → Elt Ideal e) (inb) : View.ld (Val := Elt Ideal) (e' := e) x (Rect.unit (s := ⟨2, ![M, N]⟩) ![0, 0] ![M, N] inb) = x :=
  View.ld_unit_zero (funext fun a => match a with | ⟨0, _⟩ => rfl | ⟨1, _⟩ => rfl) inb x

theorem ld_whole3 {M N K : ℕ} {e : EltTy} (x : (⟨3, ![M, N, K]⟩ : Shape).Idx → Elt Ideal e) (inb) : View.ld (Val := Elt Ideal) (e' := e) x (Rect.unit (s := ⟨3, ![M, N, K]⟩) ![0, 0, 0] ![M, N, K] inb) = x :=
  View.ld_unit_zero (funext fun a => match a with | ⟨0, _⟩ => rfl | ⟨1, _⟩ => rfl | ⟨2, _⟩ => rfl) inb x

variable (x0 : Vec Ideal S1x512x1024 .f32) (x1 : Vec Ideal S512x128 .f32) (x2 : Vec Ideal S512x128 .f32) (x3 : Vec Ideal S1x1024 .f32) (x4 : Vec Ideal S1024x2816 .bf16) (x5 : Vec Ideal S1024x2816 .bf16) (x6 : Vec Ideal S2816x1024 .bf16) (x7 : Vec Ideal S1x1024 .f32) (x8 : Vec Ideal S1x1024 .f32) (x9 : Vec Ideal S1024x2176 .bf16) (x10 : Vec Ideal S1x256 .f32) (x11 : Vec Ideal S256x2560 .bf16) (x12 : Vec Ideal S4x128x256 .bf16) (x13 : Vec Ideal S1x128 .f32)

/-- Half of the half step's normed rows. -/
def stepV : FVec Ideal S512x1024 .f32 := k0_pay20 (actV (k0_pay4 x0 x3) x4 x5) x6 x7

/-- The residual rows' projection. -/
def projV : FVec Ideal S512x2176 .f32 := k0_pay23 (k0_pay3 x0) (stepV x0 x3 x4 x5 x6 x7) x8 x9

section Terms

variable (c : Dev nD) (i : grid0.Coords) (arg2 : Memref sig .tc .vmem S1x512x1024 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2176 .bf16) (harg11 : arg11.IsWhole) (arg12 : Memref sig .tc .vmem S1x256 .f32) (harg12 : arg12.IsWhole) (arg13 : Memref sig .tc .vmem S256x2560 .bf16) (harg13 : arg13.IsWhole) (arg14 : Memref sig .tc .vmem S4x128x256 .bf16) (harg14 : arg14.IsWhole) (arg15 : Memref sig .tc .vmem S1x128 .f32) (harg15 : arg15.IsWhole) (arg16 : Memref sig .tc .vmem S1x512x1024 .f32) (harg16 : arg16.IsWhole) (arg17 : Memref sig .tc .vmem S1x512x512 .f32) (harg17 : arg17.IsWhole) (arg18 : Memref sig .tc .vmem S1x512x512 .f32) (harg18 : arg18.IsWhole) (arg19 : Memref sig .tc .vmem S1x512x128 .f32) (harg19 : arg19.IsWhole) (arg20 : Memref sig .tc .vmem S1x512x32 .f32) (harg20 : arg20.IsWhole) (arg21 : Memref sig .tc .vmem S1x4x512x128 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x8x512x256 .bf16) (harg24 : arg24.IsWhole) (arg25 : Memref sig .tc .vmem S1x512x256 .bf16) (harg25 : arg25.IsWhole) (arg26 : Memref sig .tc .vmem S1x144x512 .bf16) (harg26 : arg26.IsWhole) (arg27 : Memref sig .tc .vmem S512x2816 .bf16) (harg27 : arg27.IsWhole)

theorem r_eq : kernelRun0_A.sl.r (F := Ideal) c arg2 harg2 x0 = k0_pay3 x0 := by
  unfold kernelRun0_A.sl.r
  simp only [View.readAt_eq_ld, Memref.IsWhole.read_unread]
  rw [ld_whole3 (M := 1) (N := 512) (K := 1024) (e := .f32) x0]

theorem r1_eq : kernelRun0_A.sl.r_1 (F := Ideal) c arg2 harg2 arg5 harg5 x0 x3 = k0_pay4 x0 x3 := by
  unfold kernelRun0_A.sl.r_1
  simp only [View.readAt_eq_ld, Memref.IsWhole.read_unread]
  rw [ld_whole3 (M := 1) (N := 512) (K := 1024) (e := .f32) x0, ld_whole2 (M := 1) (N := 1024) (e := .f32) x3]

theorem act_eq : kernelRun0_A.sl.v160 (F := Ideal) c arg2 harg2 arg5 harg5 arg6 harg6 arg7 harg7 arg27 x0 x3 x4 x5 = actV (k0_pay4 x0 x3) x4 x5 := by
  unfold kernelRun0_A.sl.v160
  rw [View.readCov_eq_canon']
  funext y
  refine (View.canon_apply_of_pieces (actV (k0_pay4 x0 x3) x4 x5) _ ?_ _ ?_).trans ?_
  · unfold kernelRun0_A.sl.HS0_11 kernelRun0_A.sl.r_2 kernelRun0_A.sl.r_3 kernelRun0_A.sl.r_4 kernelRun0_A.sl.r_5 kernelRun0_A.sl.r_6 kernelRun0_A.sl.cst_18
    simp only [r1_eq, View.readAt_eq_ld, Memref.IsWhole.read_unread]
    rw [ld_whole3 (M := 1) (N := 512) (K := 1024) (e := .f32) x0, ld_whole2 (M := 1) (N := 1024) (e := .f32) x3]
    simp only [List.forall_mem_cons]
    refine ⟨?_, ?_, ?_, ?_, ?_, ?_, ?_, ?_, ?_, ?_, ?_, fun p hp => absurd hp (by simp)⟩ <;> exact fun y => chunk_apply (k0_pay4 x0 x3) x4 x5 _ _ _ _ y
  · exact View.cover_of_tiledL _ ![512, 256] (by sl_kernel_rfl) _
  · exact congrArg _ (funext fun a => Fin.ext (match a with | ⟨0, _⟩ => by show 0 + 1 * (y 0).val = (y 0).val; omega | ⟨1, _⟩ => by show 0 + 1 * (y 1).val = (y 1).val; omega))

theorem r7_eq : kernelRun0_A.sl.r_7 (F := Ideal) c arg2 harg2 arg5 harg5 arg6 harg6 arg7 harg7 arg8 harg8 arg9 harg9 arg27 x0 x3 x4 x5 x6 x7 = stepV x0 x3 x4 x5 x6 x7 := by
  unfold kernelRun0_A.sl.r_7 stepV
  rw [act_eq]
  simp only [View.readAt_eq_ld, Memref.IsWhole.read_unread]
  rw [ld_whole2 (M := 2816) (N := 1024) (e := .bf16) x6, ld_whole2 (M := 1) (N := 1024) (e := .f32) x7]

theorem r8_eq : kernelRun0_A.sl.r_8 (F := Ideal) c arg2 harg2 arg5 harg5 arg6 harg6 arg7 harg7 arg8 harg8 arg9 harg9 arg10 harg10 arg11 harg11 arg27 x0 x3 x4 x5 x6 x7 x8 x9 = projV x0 x3 x4 x5 x6 x7 x8 x9 := by
  unfold kernelRun0_A.sl.r_8 projV
  rw [r_eq, r7_eq]
  simp only [View.readAt_eq_ld, Memref.IsWhole.read_unread]
  rw [ld_whole2 (M := 1) (N := 1024) (e := .f32) x8, ld_whole2 (M := 1024) (N := 2176) (e := .bf16) x9]

theorem out14_eq : VO0_14.read (Elt Ideal) (VO0_14.writes (Elt Ideal) VO0_14.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).1) = k0_pay22 (k0_pay3 x0) (stepV x0 x3 x4 x5 x6 x7) := by
  rw [View.read_writes_junk_eq_canon]
  unfold kernelRun0_A
  dsimp only
  rw [View.canon_unit_zero (funext fun a => match a with | ⟨0, _⟩ => rfl | ⟨1, _⟩ => rfl | ⟨2, _⟩ => rfl)]
  rw [r_eq, r7_eq]

theorem out15_eq : VO0_15.read (Elt Ideal) (VO0_15.writes (Elt Ideal) VO0_15.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.1) = k0_pay26 (k0_pay3 x0) (stepV x0 x3 x4 x5 x6 x7) x8 x9 := by
  rw [View.read_writes_junk_eq_canon]
  unfold kernelRun0_A
  dsimp only
  rw [View.canon_unit_zero (funext fun a => match a with | ⟨0, _⟩ => rfl | ⟨1, _⟩ => rfl | ⟨2, _⟩ => rfl)]
  rw [r_eq, r7_eq]
  simp only [View.readAt_eq_ld, Memref.IsWhole.read_unread]
  rw [ld_whole2 (M := 1) (N := 1024) (e := .f32) x8, ld_whole2 (M := 1024) (N := 2176) (e := .bf16) x9]

theorem out16_eq : VO0_16.read (Elt Ideal) (VO0_16.writes (Elt Ideal) VO0_16.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.1) = k0_pay27 (k0_pay3 x0) (stepV x0 x3 x4 x5 x6 x7) x8 x9 := by
  rw [View.read_writes_junk_eq_canon]
  unfold kernelRun0_A
  dsimp only
  rw [View.canon_unit_zero (funext fun a => match a with | ⟨0, _⟩ => rfl | ⟨1, _⟩ => rfl | ⟨2, _⟩ => rfl)]
  rw [r_eq, r7_eq]
  simp only [View.readAt_eq_ld, Memref.IsWhole.read_unread]
  rw [ld_whole2 (M := 1) (N := 1024) (e := .f32) x8, ld_whole2 (M := 1024) (N := 2176) (e := .bf16) x9]

theorem out17_eq : VO0_17.read (Elt Ideal) (VO0_17.writes (Elt Ideal) VO0_17.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.1) = k0_pay74 (projV x0 x3 x4 x5 x6 x7 x8 x9) x13 := by
  rw [View.read_writes_junk_eq_canon]
  unfold kernelRun0_A
  dsimp only
  rw [View.canon_unit_zero (funext fun a => match a with | ⟨0, _⟩ => rfl | ⟨1, _⟩ => rfl | ⟨2, _⟩ => rfl)]
  rw [r8_eq]
  simp only [View.readAt_eq_ld, Memref.IsWhole.read_unread]
  rw [ld_whole2 (M := 1) (N := 128) (e := .f32) x13]

theorem out18_eq : VO0_18.read (Elt Ideal) (VO0_18.writes (Elt Ideal) VO0_18.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13).2.2.2.2.1) = k0_pay75 (projV x0 x3 x4 x5 x6 x7 x8 x9) x1 x2 := by
  rw [View.read_writes_junk_eq_canon]
  unfold kernelRun0_A
  dsimp only
  rw [View.canon_unit_zero (funext fun a => match a with | ⟨0, _⟩ => rfl | ⟨1, _⟩ => rfl | ⟨2, _⟩ => rfl)]
  unfold kernelRun0_A.sl.r_13 kernelRun0_A.sl.r_14
  rw [r8_eq]
  simp only [View.readAt_eq_ld, Memref.IsWhole.read_unread]
  rw [ld_whole2 (M := 512) (N := 128) (e := .f32) x1, ld_whole2 (M := 512) (N := 128) (e := .f32) x2]
  unfold k0_pay42 k0_pay43
  simp only [shapeCast_self]

end Terms

end Cert.InProj

end
-- ==== Proof.Proj.Prep.lean ====
/- The blocks of the projection call as entries of its arrays. -/
module

public import proofs.«01_k».proof.Proof.Gen.ProjIdeal.Frame.Runs
public import Idealize.ShloMosaic.Lib.ValueIdx
public import Idealize.ShloMosaic.Lib.Pipeline.ValueKit.Geometry

@[expose] public section

set_option maxRecDepth 16384

noncomputable section

namespace Cert.InProj

open Cert.ProjIdeal Cert.ProjIdeal.Gen
open Idealize.ShloMosaic Idealize.ShloMosaic.TcCoe Idealize.ShloMosaic.ValueIdx

theorem index0 : ∀ i : grid0.Coords, cc0_transform_0 i = ![(i 0).val, (i 1).val, 0] := by decide +kernel
theorem index1 : ∀ i : grid0.Coords, cc0_transform_1 i = ![(i 1).val, 0] := by decide +kernel
theorem index2 : ∀ i : grid0.Coords, cc0_transform_2 i = ![(i 1).val, 0] := by decide +kernel
theorem index3 : ∀ i : grid0.Coords, cc0_transform_3 i = ![0, 0] := by decide +kernel
theorem index4 : ∀ i : grid0.Coords, cc0_transform_4 i = ![0, 0] := by decide +kernel
theorem index5 : ∀ i : grid0.Coords, cc0_transform_5 i = ![0, 0] := by decide +kernel
theorem index6 : ∀ i : grid0.Coords, cc0_transform_6 i = ![0, 0] := by decide +kernel
theorem index7 : ∀ i : grid0.Coords, cc0_transform_7 i = ![0, 0] := by decide +kernel
theorem index8 : ∀ i : grid0.Coords, cc0_transform_8 i = ![0, 0] := by decide +kernel
theorem index9 : ∀ i : grid0.Coords, cc0_transform_9 i = ![0, 0] := by decide +kernel
theorem index13 : ∀ i : grid0.Coords, cc0_transform_13 i = ![0, 0] := by decide +kernel
theorem index14 : ∀ i : grid0.Coords, cc0_transform_14 i = ![(i 0).val, (i 1).val, 0] := by decide +kernel
theorem index15 : ∀ i : grid0.Coords, cc0_transform_15 i = ![(i 0).val, 0, (i 1).val] := by decide +kernel
theorem index16 : ∀ i : grid0.Coords, cc0_transform_16 i = ![(i 0).val, 0, (i 1).val] := by decide +kernel
theorem index17 : ∀ i : grid0.Coords, cc0_transform_17 i = ![(i 0).val, (i 1).val, 0] := by decide +kernel
theorem index18 : ∀ i : grid0.Coords, cc0_transform_18 i = ![(i 0).val, (i 1).val, 0] := by decide +kernel

variable (m : (ℓ : Loc nD τ sig) → Buf (Elt Ideal) ℓ) (c : Dev nD) (t : Fin cfg0.N)

/-- The row of the array at a block's row. -/
def rowAt (i : Fin 512) : Fin 4096 := ⟨(grid0.coords t 1).val * 512 + i.val, by
  have : (grid0.coords t 1).val < 8 := (grid0.coords t 1).isLt
  omega⟩

theorem iblk0_apply (i : Fin 512) (r : Fin 1024) :
    (iblk m c 0 t : S1x512x1024.Idx → EReal) (ix3 0 i r) = (V m c main_arg0 : S4x4096x1024.Idx → EReal) (ix3 (grid0.coords t 0) (rowAt t i) r) := by
  refine congrArg (V m c main_arg0 : S4x4096x1024.Idx → EReal) (funext fun a => Fin.ext ?_)
  refine (Pipeline.Window.rect_emb_val win0_0 t _ a).trans ?_
  rw [show win0_0.index t = _ from index0 (grid0.coords t)]
  match a with
  | ⟨0, _⟩ => show (grid0.coords t 0).val * 1 + 0 = (grid0.coords t 0).val; omega
  | ⟨1, _⟩ => rfl
  | ⟨2, _⟩ => show 0 * 1024 + r.val = r.val; omega

theorem iblk1_apply (i : Fin 512) (r : Fin 128) :
    (iblk m c 1 t : S512x128.Idx → EReal) (ix2 i r) = (V m c main_v16 : S4096x128.Idx → EReal) (ix2 (rowAt t i) r) := by
  refine congrArg (V m c main_v16 : S4096x128.Idx → EReal) (funext fun a => Fin.ext ?_)
  refine (Pipeline.Window.rect_emb_val win0_1 t _ a).trans ?_
  rw [show win0_1.index t = _ from index1 (grid0.coords t)]
  match a with
  | ⟨0, _⟩ => rfl
  | ⟨1, _⟩ => show 0 * 128 + r.val = r.val; omega

theorem iblk2_apply (i : Fin 512) (r : Fin 128) :
    (iblk m c 2 t : S512x128.Idx → EReal) (ix2 i r) = (V m c main_v18 : S4096x128.Idx → EReal) (ix2 (rowAt t i) r) := by
  refine congrArg (V m c main_v18 : S4096x128.Idx → EReal) (funext fun a => Fin.ext ?_)
  refine (Pipeline.Window.rect_emb_val win0_2 t _ a).trans ?_
  rw [show win0_2.index t = _ from index2 (grid0.coords t)]
  match a with
  | ⟨0, _⟩ => rfl
  | ⟨1, _⟩ => show 0 * 128 + r.val = r.val; omega

theorem iblk3_eq : (iblk m c 3 t : S1x1024.Idx → EReal) = (V m c main_v19 : S1x1024.Idx → EReal) := by
  refine funext fun y => ?_
  refine congrArg (V m c main_v19 : S1x1024.Idx → EReal) (funext fun a => Fin.ext ?_)
  refine (Pipeline.Window.rect_emb_val win0_3 t _ a).trans ?_
  rw [show win0_3.index t = _ from index3 (grid0.coords t)]
  match a with
  | ⟨0, _⟩ => show 0 * 1 + (y 0).val = (y 0).val; omega
  | ⟨1, _⟩ => show 0 * 1024 + (y 1).val = (y 1).val; omega

theorem iblk4_eq : (iblk m c 4 t : S1024x2816.Idx → EReal) = (V m c main_v20 : S1024x2816.Idx → EReal) := by
  refine funext fun y => ?_
  refine congrArg (V m c main_v20 : S1024x2816.Idx → EReal) (funext fun a => Fin.ext ?_)
  refine (Pipeline.Window.rect_emb_val win0_4 t _ a).trans ?_
  rw [show win0_4.index t = _ from index4 (grid0.coords t)]
  match a with
  | ⟨0, _⟩ => show 0 * 1024 + (y 0).val = (y 0).val; omega
  | ⟨1, _⟩ => show 0 * 2816 + (y 1).val = (y 1).val; omega

theorem iblk5_eq : (iblk m c 5 t : S1024x2816.Idx → EReal) = (V m c main_v21 : S1024x2816.Idx → EReal) := by
  refine funext fun y => ?_
  refine congrArg (V m c main_v21 : S1024x2816.Idx → EReal) (funext fun a => Fin.ext ?_)
  refine (Pipeline.Window.rect_emb_val win0_5 t _ a).trans ?_
  rw [show win0_5.index t = _ from index5 (grid0.coords t)]
  match a with
  | ⟨0, _⟩ => show 0 * 1024 + (y 0).val = (y 0).val; omega
  | ⟨1, _⟩ => show 0 * 2816 + (y 1).val = (y 1).val; omega

theorem iblk6_eq : (iblk m c 6 t : S2816x1024.Idx → EReal) = (V m c main_v22 : S2816x1024.Idx → EReal) := by
  refine funext fun y => ?_
  refine congrArg (V m c main_v22 : S2816x1024.Idx → EReal) (funext fun a => Fin.ext ?_)
  refine (Pipeline.Window.rect_emb_val win0_6 t _ a).trans ?_
  rw [show win0_6.index t = _ from index6 (grid0.coords t)]
  match a with
  | ⟨0, _⟩ => show 0 * 2816 + (y 0).val = (y 0).val; omega
  | ⟨1, _⟩ => show 0 * 1024 + (y 1).val = (y 1).val; omega

theorem iblk7_eq : (iblk m c 7 t : S1x1024.Idx → EReal) = (V m c main_v23 : S1x1024.Idx → EReal) := by
  refine funext fun y => ?_
  refine congrArg (V m c main_v23 : S1x1024.Idx → EReal) (funext fun a => Fin.ext ?_)
  refine (Pipeline.Window.rect_emb_val win0_7 t _ a).trans ?_
  rw [show win0_7.index t = _ from index7 (grid0.coords t)]
  match a with
  | ⟨0, _⟩ => show 0 * 1 + (y 0).val = (y 0).val; omega
  | ⟨1, _⟩ => show 0 * 1024 + (y 1).val = (y 1).val; omega

theorem iblk8_eq : (iblk m c 8 t : S1x1024.Idx → EReal) = (V m c main_v60 : S1x1024.Idx → EReal) := by
  refine funext fun y => ?_
  refine congrArg (V m c main_v60 : S1x1024.Idx → EReal) (funext fun a => Fin.ext ?_)
  refine (Pipeline.Window.rect_emb_val win0_8 t _ a).trans ?_
  rw [show win0_8.index t = _ from index8 (grid0.coords t)]
  match a with
  | ⟨0, _⟩ => show 0 * 1 + (y 0).val = (y 0).val; omega
  | ⟨1, _⟩ => show 0 * 1024 + (y 1).val = (y 1).val; omega

theorem iblk9_eq : (iblk m c 9 t : S1024x2176.Idx → EReal) = (V m c main_v33 : S1024x2176.Idx → EReal) := by
  refine funext fun y => ?_
  refine congrArg (V m c main_v33 : S1024x2176.Idx → EReal) (funext fun a => Fin.ext ?_)
  refine (Pipeline.Window.rect_emb_val win0_9 t _ a).trans ?_
  rw [show win0_9.index t = _ from index9 (grid0.coords t)]
  match a with
  | ⟨0, _⟩ => show 0 * 1024 + (y 0).val = (y 0).val; omega
  | ⟨1, _⟩ => show 0 * 2176 + (y 1).val = (y 1).val; omega

theorem iblk13_eq : (iblk m c 13 t : S1x128.Idx → EReal) = (V m c main_v72 : S1x128.Idx → EReal) := by
  refine funext fun y => ?_
  refine congrArg (V m c main_v72 : S1x128.Idx → EReal) (funext fun a => Fin.ext ?_)
  refine (Pipeline.Window.rect_emb_val win0_13 t _ a).trans ?_
  rw [show win0_13.index t = _ from index13 (grid0.coords t)]
  match a with
  | ⟨0, _⟩ => show 0 * 1 + (y 0).val = (y 0).val; omega
  | ⟨1, _⟩ => show 0 * 128 + (y 1).val = (y 1).val; omega

theorem covers14 : (cfg0.win 14).Covers := (by decide +kernel : win0_14.Covers)

theorem emb14 (y : S1x512x1024.Idx) : ((cfg0.win 14).blk t).view.emb y = (ix3 (grid0.coords t 0) (rowAt t (y 1)) (y 2) : S4x4096x1024.Idx) := by
  refine funext fun a => Fin.ext ?_
  refine (Pipeline.Window.rect_emb_val win0_14 t _ a).trans ?_
  rw [show win0_14.index t = _ from index14 (grid0.coords t)]
  match a with
  | ⟨0, _⟩ =>
      have : (y 0).val < 1 := (y 0).isLt
      show (grid0.coords t 0).val * 1 + (y 0).val = (grid0.coords t 0).val; omega
  | ⟨1, _⟩ => rfl
  | ⟨2, _⟩ => show 0 * 1024 + (y 2).val = (y 2).val; omega

theorem covers15 : (cfg0.win 15).Covers := (by decide +kernel : win0_15.Covers)

theorem emb15 (y : S1x512x512.Idx) : ((cfg0.win 15).blk t).view.emb y = (ix3 (grid0.coords t 0) (y 1) (rowAt t (y 2)) : S4x512x4096.Idx) := by
  refine funext fun a => Fin.ext ?_
  refine (Pipeline.Window.rect_emb_val win0_15 t _ a).trans ?_
  rw [show win0_15.index t = _ from index15 (grid0.coords t)]
  match a with
  | ⟨0, _⟩ =>
      have : (y 0).val < 1 := (y 0).isLt
      show (grid0.coords t 0).val * 1 + (y 0).val = (grid0.coords t 0).val; omega
  | ⟨1, _⟩ => show 0 * 512 + (y 1).val = (y 1).val; omega
  | ⟨2, _⟩ => rfl

theorem covers16 : (cfg0.win 16).Covers := (by decide +kernel : win0_16.Covers)

theorem emb16 (y : S1x512x512.Idx) : ((cfg0.win 16).blk t).view.emb y = (ix3 (grid0.coords t 0) (y 1) (rowAt t (y 2)) : S4x512x4096.Idx) := by
  refine funext fun a => Fin.ext ?_
  refine (Pipeline.Window.rect_emb_val win0_16 t _ a).trans ?_
  rw [show win0_16.index t = _ from index16 (grid0.coords t)]
  match a with
  | ⟨0, _⟩ =>
      have : (y 0).val < 1 := (y 0).isLt
      show (grid0.coords t 0).val * 1 + (y 0).val = (grid0.coords t 0).val; omega
  | ⟨1, _⟩ => show 0 * 512 + (y 1).val = (y 1).val; omega
  | ⟨2, _⟩ => rfl

theorem covers17 : (cfg0.win 17).Covers := (by decide +kernel : win0_17.Covers)

theorem emb17 (y : S1x512x128.Idx) : ((cfg0.win 17).blk t).view.emb y = (ix3 (grid0.coords t 0) (rowAt t (y 1)) (y 2) : S4x4096x128.Idx) := by
  refine funext fun a => Fin.ext ?_
  refine (Pipeline.Window.rect_emb_val win0_17 t _ a).trans ?_
  rw [show win0_17.index t = _ from index17 (grid0.coords t)]
  match a with
  | ⟨0, _⟩ =>
      have : (y 0).val < 1 := (y 0).isLt
      show (grid0.coords t 0).val * 1 + (y 0).val = (grid0.coords t 0).val; omega
  | ⟨1, _⟩ => rfl
  | ⟨2, _⟩ => show 0 * 128 + (y 2).val = (y 2).val; omega

theorem covers18 : (cfg0.win 18).Covers := (by decide +kernel : win0_18.Covers)

theorem emb18 (y : S1x512x32.Idx) : ((cfg0.win 18).blk t).view.emb y = (ix3 (grid0.coords t 0) (rowAt t (y 1)) (y 2) : S4x4096x32.Idx) := by
  refine funext fun a => Fin.ext ?_
  refine (Pipeline.Window.rect_emb_val win0_18 t _ a).trans ?_
  rw [show win0_18.index t = _ from index18 (grid0.coords t)]
  match a with
  | ⟨0, _⟩ =>
      have : (y 0).val < 1 := (y 0).isLt
      show (grid0.coords t 0).val * 1 + (y 0).val = (grid0.coords t 0).val; omega
  | ⟨1, _⟩ => rfl
  | ⟨2, _⟩ => show 0 * 32 + (y 2).val = (y 2).val; omega

end Cert.InProj

end
-- ==== Proof.Proj.Host.lean ====
/- What the host hands the projection kernel: the turning tables, the input weights with the key's columns turned over, gains as
   rows; each read at one entry. -/
module

public import proofs.«01_k».proof.Proof.Gen.ProjIdeal.Frame.Runs
public import proofs.«01_k».proof.Proof.Gen.ProjRefIdeal.Read
public import proofs.«01_k».proof.Proof.Ffn.Tile
public import Idealize.ShloMosaic.Lib.StableHlo.Run

@[expose] public section

set_option maxRecDepth 16384

noncomputable section

open scoped BigOperators

namespace Cert.InProj

open Cert.Ffn Cert.ProjIdeal Cert.ProjIdeal.Gen
open Idealize.ShloMosaic Idealize.ShloMosaic.TcCoe Idealize.ShloMosaic.ValueIdx Idealize.ShloMosaic.StableHlo

/-- The cosines and the sines, a row per position. -/
abbrev cosT : FVec Ideal S4096x16 .f32 := Cert.ProjRefIdeal.Read.val_main_v78 (F := Ideal)
abbrev sinT : FVec Ideal S4096x16 .f32 := Cert.ProjRefIdeal.Read.val_main_v79 (F := Ideal)

def zeroT : FVec Ideal S4096x96 .f32 := broadcastInDim S4096x96 ![] bcast_S_S4096x96 (constant (F := Ideal) S_ .f32 0x00000000#32)

/-- The first turning table. -/
def cosTab : FVec Ideal S4096x128 .f32 :=
  concatenate S4096x128 1 [⟨S4096x16, cosT⟩, ⟨S4096x16, cosT⟩, ⟨S4096x96, zeroT⟩] concatenates_S4096x16_S4096x16_S4096x96_S4096x128_d1

/-- The second turning table. -/
def sinTab : FVec Ideal S4096x128 .f32 :=
  concatenate S4096x128 1 [⟨S4096x16, Host.negf sinT⟩, ⟨S4096x16, sinT⟩, ⟨S4096x96, zeroT⟩] concatenates_S4096x16_S4096x16_S4096x96_S4096x128_d1

def peW (a7 : FVec Ideal S1024x1952 .f32) : FVec Ideal S1024x32 .f32 := extractStridedSlice S1024x32 ![0, 1920] a7 slices_S1024x1952_S1024x32_0_1920

def zeroW : FVec Ideal S1024x96 .f32 := broadcastInDim S1024x96 ![] bcast_S_S1024x96 (constant (F := Ideal) S_ .f32 0x00000000#32)

/-- The input weights, widened. -/
def wExt (a7 : FVec Ideal S1024x1952 .f32) : FVec Ideal S1024x2176 .f32 :=
  concatenate S1024x2176 1
    [⟨S1024x512, mulf (extractStridedSlice S1024x512 ![0, 0] a7 slices_S1024x1952_S1024x512_0_0) (broadcastInDim S1024x512 ![] bcast_S_S1024x512 (constant (F := Ideal) S_ .f32 0x3E000000#32))⟩,
     ⟨S1024x1408, extractStridedSlice S1024x1408 ![0, 512] a7 slices_S1024x1952_S1024x1408_0_512⟩,
     ⟨S1024x32, peW a7⟩, ⟨S1024x96, zeroW⟩,
     ⟨S1024x16, extractStridedSlice S1024x16 ![0, 16] (peW a7) slices_S1024x32_S1024x16_0_16⟩,
     ⟨S1024x16, extractStridedSlice S1024x16 ![0, 0] (peW a7) slices_S1024x32_S1024x16_0_0⟩, ⟨S1024x96, zeroW⟩]
    concatenates_S1024x512_S1024x1408_S1024x32_S1024x96_S1024x16_S1024x16_S1024x96_S1024x2176_d1

section Host

theorem after_join (l k : List (HloOp τ sig (Elt Ideal))) (V0 : Valuation τ sig (Elt Ideal)) : after (l ++ k) V0 = after k (after l V0) := by
  induction l generalizing V0 with
  | nil => rfl
  | cons o l ih => exact ih _

variable (V0 : Valuation τ sig (Elt Ideal))

theorem after_all : after (List.flatten [hostOps0, hostOps0_1, hostOps0_2, hostOps0_3, hostOps0_4]) V0
    = after hostOps0_4 (after hostOps0_3 (after hostOps0_2 (after hostOps0_1 (after hostOps0 V0)))) := by
  simp only [List.flatten_cons, List.flatten_nil, List.append_nil, after_join]

set_option maxHeartbeats 4000000 in
theorem first_v16 : (after hostOps0 V0 (Proc.devRef .tc main_v16) : S4096x128.Idx → EReal) = cosTab := by
  simp only [hostOps0]
  after_results
  try rfl

theorem keep1_v16 : after hostOps0_1 V0 (Proc.devRef .tc main_v16) = V0 (Proc.devRef .tc main_v16) :=
  after_of_forall_not_mem (b := Proc.devRef .tc main_v16) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v16 : after hostOps0_2 V0 (Proc.devRef .tc main_v16) = V0 (Proc.devRef .tc main_v16) :=
  after_of_forall_not_mem (b := Proc.devRef .tc main_v16) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v16 : after hostOps0_3 V0 (Proc.devRef .tc main_v16) = V0 (Proc.devRef .tc main_v16) :=
  after_of_forall_not_mem (b := Proc.devRef .tc main_v16) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v16 : after hostOps0_4 V0 (Proc.devRef .tc main_v16) = V0 (Proc.devRef .tc main_v16) :=
  after_of_forall_not_mem (b := Proc.devRef .tc main_v16) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v16 : (after (List.flatten [hostOps0, hostOps0_1, hostOps0_2, hostOps0_3, hostOps0_4]) V0 (Proc.devRef .tc main_v16) : S4096x128.Idx → EReal) = cosTab :=
  (congrFun (after_all V0) _).trans ((keep4_v16 _).trans ((keep3_v16 _).trans ((keep2_v16 _).trans ((keep1_v16 _).trans (first_v16 V0)))))

set_option maxHeartbeats 4000000 in
theorem first_v18 : (after hostOps0 V0 (Proc.devRef .tc main_v18) : S4096x128.Idx → EReal) = sinTab := by
  simp only [hostOps0]
  after_results
  try rfl

theorem keep1_v18 : after hostOps0_1 V0 (Proc.devRef .tc main_v18) = V0 (Proc.devRef .tc main_v18) :=
  after_of_forall_not_mem (b := Proc.devRef .tc main_v18) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v18 : after hostOps0_2 V0 (Proc.devRef .tc main_v18) = V0 (Proc.devRef .tc main_v18) :=
  after_of_forall_not_mem (b := Proc.devRef .tc main_v18) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v18 : after hostOps0_3 V0 (Proc.devRef .tc main_v18) = V0 (Proc.devRef .tc main_v18) :=
  after_of_forall_not_mem (b := Proc.devRef .tc main_v18) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v18 : after hostOps0_4 V0 (Proc.devRef .tc main_v18) = V0 (Proc.devRef .tc main_v18) :=
  after_of_forall_not_mem (b := Proc.devRef .tc main_v18) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v18 : (after (List.flatten [hostOps0, hostOps0_1, hostOps0_2, hostOps0_3, hostOps0_4]) V0 (Proc.devRef .tc main_v18) : S4096x128.Idx → EReal) = sinTab :=
  (congrFun (after_all V0) _).trans ((keep4_v18 _).trans ((keep3_v18 _).trans ((keep2_v18 _).trans ((keep1_v18 _).trans (first_v18 V0)))))

set_option maxHeartbeats 4000000 in
theorem first_v19 : (after hostOps0 V0 (Proc.devRef .tc main_v19) : S1x1024.Idx → EReal) = shapeCast S1x1024 (V0 (Proc.devRef .tc main_arg1) : S1024.Idx → EReal) shapeCasts_S1024_S1x1024 := by
  simp only [hostOps0]
  after_results
  try rfl

theorem keep1_v19 : after hostOps0_1 V0 (Proc.devRef .tc main_v19) = V0 (Proc.devRef .tc main_v19) :=
  after_of_forall_not_mem (b := Proc.devRef .tc main_v19) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v19 : after hostOps0_2 V0 (Proc.devRef .tc main_v19) = V0 (Proc.devRef .tc main_v19) :=
  after_of_forall_not_mem (b := Proc.devRef .tc main_v19) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v19 : after hostOps0_3 V0 (Proc.devRef .tc main_v19) = V0 (Proc.devRef .tc main_v19) :=
  after_of_forall_not_mem (b := Proc.devRef .tc main_v19) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v19 : after hostOps0_4 V0 (Proc.devRef .tc main_v19) = V0 (Proc.devRef .tc main_v19) :=
  after_of_forall_not_mem (b := Proc.devRef .tc main_v19) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v19 : (after (List.flatten [hostOps0, hostOps0_1, hostOps0_2, hostOps0_3, hostOps0_4]) V0 (Proc.devRef .tc main_v19) : S1x1024.Idx → EReal) = shapeCast S1x1024 (V0 (Proc.devRef .tc main_arg1) : S1024.Idx → EReal) shapeCasts_S1024_S1x1024 :=
  (congrFun (after_all V0) _).trans ((keep4_v19 _).trans ((keep3_v19 _).trans ((keep2_v19 _).trans ((keep1_v19 _).trans (first_v19 V0)))))

set_option maxHeartbeats 4000000 in
theorem first_v20 : (after hostOps0 V0 (Proc.devRef .tc main_v20) : S1024x2816.Idx → EReal) = (V0 (Proc.devRef .tc main_arg2) : S1024x2816.Idx → EReal) := by
  simp only [hostOps0]
  after_results
  try rfl

theorem keep1_v20 : after hostOps0_1 V0 (Proc.devRef .tc main_v20) = V0 (Proc.devRef .tc main_v20) :=
  after_of_forall_not_mem (b := Proc.devRef .tc main_v20) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v20 : after hostOps0_2 V0 (Proc.devRef .tc main_v20) = V0 (Proc.devRef .tc main_v20) :=
  after_of_forall_not_mem (b := Proc.devRef .tc main_v20) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v20 : after hostOps0_3 V0 (Proc.devRef .tc main_v20) = V0 (Proc.devRef .tc main_v20) :=
  after_of_forall_not_mem (b := Proc.devRef .tc main_v20) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v20 : after hostOps0_4 V0 (Proc.devRef .tc main_v20) = V0 (Proc.devRef .tc main_v20) :=
  after_of_forall_not_mem (b := Proc.devRef .tc main_v20) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v20 : (after (List.flatten [hostOps0, hostOps0_1, hostOps0_2, hostOps0_3, hostOps0_4]) V0 (Proc.devRef .tc main_v20) : S1024x2816.Idx → EReal) = (V0 (Proc.devRef .tc main_arg2) : S1024x2816.Idx → EReal) :=
  (congrFun (after_all V0) _).trans ((keep4_v20 _).trans ((keep3_v20 _).trans ((keep2_v20 _).trans ((keep1_v20 _).trans (first_v20 V0)))))

set_option maxHeartbeats 4000000 in
theorem first_v21 : (after hostOps0 V0 (Proc.devRef .tc main_v21) : S1024x2816.Idx → EReal) = (V0 (Proc.devRef .tc main_arg3) : S1024x2816.Idx → EReal) := by
  simp only [hostOps0]
  after_results
  try rfl

theorem keep1_v21 : after hostOps0_1 V0 (Proc.devRef .tc main_v21) = V0 (Proc.devRef .tc main_v21) :=
  after_of_forall_not_mem (b := Proc.devRef .tc main_v21) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v21 : after hostOps0_2 V0 (Proc.devRef .tc main_v21) = V0 (Proc.devRef .tc main_v21) :=
  after_of_forall_not_mem (b := Proc.devRef .tc main_v21) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v21 : after hostOps0_3 V0 (Proc.devRef .tc main_v21) = V0 (Proc.devRef .tc main_v21) :=
  after_of_forall_not_mem (b := Proc.devRef .tc main_v21) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v21 : after hostOps0_4 V0 (Proc.devRef .tc main_v21) = V0 (Proc.devRef .tc main_v21) :=
  after_of_forall_not_mem (b := Proc.devRef .tc main_v21) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v21 : (after (List.flatten [hostOps0, hostOps0_1, hostOps0_2, hostOps0_3, hostOps0_4]) V0 (Proc.devRef .tc main_v21) : S1024x2816.Idx → EReal) = (V0 (Proc.devRef .tc main_arg3) : S1024x2816.Idx → EReal) :=
  (congrFun (after_all V0) _).trans ((keep4_v21 _).trans ((keep3_v21 _).trans ((keep2_v21 _).trans ((keep1_v21 _).trans (first_v21 V0)))))

set_option maxHeartbeats 4000000 in
theorem first_v22 : (after hostOps0 V0 (Proc.devRef .tc main_v22) : S2816x1024.Idx → EReal) = (V0 (Proc.devRef .tc main_arg4) : S2816x1024.Idx → EReal) := by
  simp only [hostOps0]
  after_results
  try rfl

theorem keep1_v22 : after hostOps0_1 V0 (Proc.devRef .tc main_v22) = V0 (Proc.devRef .tc main_v22) :=
  after_of_forall_not_mem (b := Proc.devRef .tc main_v22) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v22 : after hostOps0_2 V0 (Proc.devRef .tc main_v22) = V0 (Proc.devRef .tc main_v22) :=
  after_of_forall_not_mem (b := Proc.devRef .tc main_v22) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v22 : after hostOps0_3 V0 (Proc.devRef .tc main_v22) = V0 (Proc.devRef .tc main_v22) :=
  after_of_forall_not_mem (b := Proc.devRef .tc main_v22) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v22 : after hostOps0_4 V0 (Proc.devRef .tc main_v22) = V0 (Proc.devRef .tc main_v22) :=
  after_of_forall_not_mem (b := Proc.devRef .tc main_v22) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v22 : (after (List.flatten [hostOps0, hostOps0_1, hostOps0_2, hostOps0_3, hostOps0_4]) V0 (Proc.devRef .tc main_v22) : S2816x1024.Idx → EReal) = (V0 (Proc.devRef .tc main_arg4) : S2816x1024.Idx → EReal) :=
  (congrFun (after_all V0) _).trans ((keep4_v22 _).trans ((keep3_v22 _).trans ((keep2_v22 _).trans ((keep1_v22 _).trans (first_v22 V0)))))

set_option maxHeartbeats 4000000 in
theorem first_v23 : (after hostOps0 V0 (Proc.devRef .tc main_v23) : S1x1024.Idx → EReal) = shapeCast S1x1024 (V0 (Proc.devRef .tc main_arg5) : S1024.Idx → EReal) shapeCasts_S1024_S1x1024 := by
  simp only [hostOps0]
  after_results
  try rfl

theorem keep1_v23 : after hostOps0_1 V0 (Proc.devRef .tc main_v23) = V0 (Proc.devRef .tc main_v23) :=
  after_of_forall_not_mem (b := Proc.devRef .tc main_v23) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v23 : after hostOps0_2 V0 (Proc.devRef .tc main_v23) = V0 (Proc.devRef .tc main_v23) :=
  after_of_forall_not_mem (b := Proc.devRef .tc main_v23) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v23 : after hostOps0_3 V0 (Proc.devRef .tc main_v23) = V0 (Proc.devRef .tc main_v23) :=
  after_of_forall_not_mem (b := Proc.devRef .tc main_v23) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v23 : after hostOps0_4 V0 (Proc.devRef .tc main_v23) = V0 (Proc.devRef .tc main_v23) :=
  after_of_forall_not_mem (b := Proc.devRef .tc main_v23) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v23 : (after (List.flatten [hostOps0, hostOps0_1, hostOps0_2, hostOps0_3, hostOps0_4]) V0 (Proc.devRef .tc main_v23) : S1x1024.Idx → EReal) = shapeCast S1x1024 (V0 (Proc.devRef .tc main_arg5) : S1024.Idx → EReal) shapeCasts_S1024_S1x1024 :=
  (congrFun (after_all V0) _).trans ((keep4_v23 _).trans ((keep3_v23 _).trans ((keep2_v23 _).trans ((keep1_v23 _).trans (first_v23 V0)))))

set_option maxHeartbeats 4000000 in
theorem first_v33 : (after hostOps0 V0 (Proc.devRef .tc main_v33) : S1024x2176.Idx → EReal) = wExt (V0 (Proc.devRef .tc main_arg7)) := by
  simp only [hostOps0]
  after_results
  try rfl

theorem keep1_v33 : after hostOps0_1 V0 (Proc.devRef .tc main_v33) = V0 (Proc.devRef .tc main_v33) :=
  after_of_forall_not_mem (b := Proc.devRef .tc main_v33) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep2_v33 : after hostOps0_2 V0 (Proc.devRef .tc main_v33) = V0 (Proc.devRef .tc main_v33) :=
  after_of_forall_not_mem (b := Proc.devRef .tc main_v33) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep3_v33 : after hostOps0_3 V0 (Proc.devRef .tc main_v33) = V0 (Proc.devRef .tc main_v33) :=
  after_of_forall_not_mem (b := Proc.devRef .tc main_v33) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem keep4_v33 : after hostOps0_4 V0 (Proc.devRef .tc main_v33) = V0 (Proc.devRef .tc main_v33) :=
  after_of_forall_not_mem (b := Proc.devRef .tc main_v33) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v33 : (after (List.flatten [hostOps0, hostOps0_1, hostOps0_2, hostOps0_3, hostOps0_4]) V0 (Proc.devRef .tc main_v33) : S1024x2176.Idx → EReal) = wExt (V0 (Proc.devRef .tc main_arg7)) :=
  (congrFun (after_all V0) _).trans ((keep4_v33 _).trans ((keep3_v33 _).trans ((keep2_v33 _).trans ((keep1_v33 _).trans (first_v33 V0)))))

set_option maxHeartbeats 4000000 in
theorem last_v60 : (after hostOps0_4 V0 (Proc.devRef .tc main_v60) : S1x1024.Idx → EReal) = shapeCast S1x1024 (V0 (Proc.devRef .tc main_arg6) : S1024.Idx → EReal) shapeCasts_S1024_S1x1024 := by
  simp only [hostOps0_4]
  after_results
  try rfl

theorem pass_v60 : after hostOps0 V0 (Proc.devRef .tc main_arg6) = V0 (Proc.devRef .tc main_arg6) :=
  after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem pass_1_v60 : after hostOps0_1 V0 (Proc.devRef .tc main_arg6) = V0 (Proc.devRef .tc main_arg6) :=
  after_of_forall_not_mem (b := Proc.devRef .tc main_arg6) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem pass_2_v60 : after hostOps0_2 V0 (Proc.devRef .tc main_arg6) = V0 (Proc.devRef .tc main_arg6) :=
  after_of_forall_not_mem (b := Proc.devRef .tc main_arg6) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem pass_3_v60 : after hostOps0_3 V0 (Proc.devRef .tc main_arg6) = V0 (Proc.devRef .tc main_arg6) :=
  after_of_forall_not_mem (b := Proc.devRef .tc main_arg6) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v60 : (after (List.flatten [hostOps0, hostOps0_1, hostOps0_2, hostOps0_3, hostOps0_4]) V0 (Proc.devRef .tc main_v60) : S1x1024.Idx → EReal)
    = shapeCast S1x1024 (V0 (Proc.devRef .tc main_arg6) : S1024.Idx → EReal) shapeCasts_S1024_S1x1024 :=
  (congrFun (after_all V0) _).trans ((last_v60 _).trans (congrArg (fun z : S1024.Idx → EReal => shapeCast S1x1024 z shapeCasts_S1024_S1x1024)
    ((pass_3_v60 _).trans ((pass_2_v60 _).trans ((pass_1_v60 _).trans (pass_v60 V0))))))

set_option maxHeartbeats 4000000 in
theorem last_v72 : (after hostOps0_4 V0 (Proc.devRef .tc main_v72) : S1x128.Idx → EReal) = shapeCast S1x128 (V0 (Proc.devRef .tc main_arg10) : S128.Idx → EReal) shapeCasts_S128_S1x128 := by
  simp only [hostOps0_4]
  after_results
  try rfl

theorem pass_v72 : after hostOps0 V0 (Proc.devRef .tc main_arg10) = V0 (Proc.devRef .tc main_arg10) :=
  after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem pass_1_v72 : after hostOps0_1 V0 (Proc.devRef .tc main_arg10) = V0 (Proc.devRef .tc main_arg10) :=
  after_of_forall_not_mem (b := Proc.devRef .tc main_arg10) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem pass_2_v72 : after hostOps0_2 V0 (Proc.devRef .tc main_arg10) = V0 (Proc.devRef .tc main_arg10) :=
  after_of_forall_not_mem (b := Proc.devRef .tc main_arg10) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem pass_3_v72 : after hostOps0_3 V0 (Proc.devRef .tc main_arg10) = V0 (Proc.devRef .tc main_arg10) :=
  after_of_forall_not_mem (b := Proc.devRef .tc main_arg10) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem host_v72 : (after (List.flatten [hostOps0, hostOps0_1, hostOps0_2, hostOps0_3, hostOps0_4]) V0 (Proc.devRef .tc main_v72) : S1x128.Idx → EReal)
    = shapeCast S1x128 (V0 (Proc.devRef .tc main_arg10) : S128.Idx → EReal) shapeCasts_S128_S1x128 :=
  (congrFun (after_all V0) _).trans ((last_v72 _).trans (congrArg (fun z : S128.Idx → EReal => shapeCast S1x128 z shapeCasts_S128_S1x128)
    ((pass_3_v72 _).trans ((pass_2_v72 _).trans ((pass_1_v72 _).trans (pass_v72 V0))))))

end Host

/-! ### Entries -/

theorem cosTab_left (t : Fin 4096) (k : Fin 16) : cosTab (ix2 t ⟨k.val, by omega⟩) = cosT (ix2 t k) := by
  unfold cosTab
  refine concatenate_apply_piece (t := S4096x128) 1 _ _ (ix2 t ⟨k.val, by omega⟩) 0 (by show 0 < 3; omega) S4096x16 _ rfl rfl 0 rfl (ix2 t k) (fun a ha => ?_) ?_
  · match a with
    | ⟨0, _⟩ => rfl
    | ⟨1, _⟩ => exact absurd rfl ha
  · show 0 + k.val = k.val; omega

theorem cosTab_right (t : Fin 4096) (k : Fin 16) : cosTab (ix2 t ⟨16 + k.val, by omega⟩) = cosT (ix2 t k) := by
  unfold cosTab
  refine concatenate_apply_piece (t := S4096x128) 1 _ _ (ix2 t ⟨16 + k.val, by omega⟩) 1 (by show 1 < 3; omega) S4096x16 _ rfl rfl 16 rfl (ix2 t k) (fun a ha => ?_) rfl
  · match a with
    | ⟨0, _⟩ => rfl
    | ⟨1, _⟩ => exact absurd rfl ha

theorem sinTab_left (t : Fin 4096) (k : Fin 16) : sinTab (ix2 t ⟨k.val, by omega⟩) = Neg.neg (α := EReal) (sinT (ix2 t k)) := by
  unfold sinTab
  refine (concatenate_apply_piece (t := S4096x128) 1 _ _ (ix2 t ⟨k.val, by omega⟩) 0 (by show 0 < 3; omega) S4096x16 _ rfl rfl 0 rfl (ix2 t k) (fun a ha => ?_) ?_).trans rfl
  · match a with
    | ⟨0, _⟩ => rfl
    | ⟨1, _⟩ => exact absurd rfl ha
  · show 0 + k.val = k.val; omega

theorem sinTab_right (t : Fin 4096) (k : Fin 16) : sinTab (ix2 t ⟨16 + k.val, by omega⟩) = sinT (ix2 t k) := by
  unfold sinTab
  refine concatenate_apply_piece (t := S4096x128) 1 _ _ (ix2 t ⟨16 + k.val, by omega⟩) 1 (by show 1 < 3; omega) S4096x16 _ rfl rfl 16 rfl (ix2 t k) (fun a ha => ?_) rfl
  · match a with
    | ⟨0, _⟩ => rfl
    | ⟨1, _⟩ => exact absurd rfl ha

theorem wide_apply {N : ℕ} (a : FVec Ideal S1024x1952 .f32) (o : ℕ) (hs : S1024x1952.Slices ![0, o] ⟨2, ![1024, N]⟩) (ho : o + N ≤ 1952) (i : Fin 1024) (j : Fin N) :
    extractStridedSlice ⟨2, ![1024, N]⟩ ![0, o] a hs (ix2 i j) = a (ix2 i ⟨o + j.val, by omega⟩) := by
  refine extractStridedSlice_apply _ _ _ (ix2 i j) _ fun a => ?_
  match a with
  | ⟨0, _⟩ => show i.val = 0 + i.val; omega
  | ⟨1, _⟩ => rfl

theorem half_apply (a : FVec Ideal S1024x32 .f32) (o : ℕ) (hs : S1024x32.Slices ![0, o] S1024x16) (ho : o + 16 ≤ 32) (i : Fin 1024) (j : Fin 16) :
    extractStridedSlice S1024x16 ![0, o] a hs (ix2 i j) = a (ix2 i ⟨o + j.val, by omega⟩) := by
  refine extractStridedSlice_apply _ _ _ (ix2 i j) _ fun a => ?_
  match a with
  | ⟨0, _⟩ => show i.val = 0 + i.val; omega
  | ⟨1, _⟩ => rfl

variable (a7 : FVec Ideal S1024x1952 .f32) (i : Fin 1024)

theorem peW_apply (j : Fin 32) : peW a7 (ix2 i j) = a7 (ix2 i ⟨1920 + j.val, by omega⟩) := wide_apply (N := 32) a7 1920 _ (by omega) i j

/-- The columns past the queries'. -/
theorem wExt_mid (j : Fin 1408) : wExt a7 (ix2 i ⟨512 + j.val, by omega⟩) = a7 (ix2 i ⟨512 + j.val, by omega⟩) := by
  unfold wExt
  refine (concatenate_apply_piece (t := S1024x2176) 1 _ _ (ix2 i ⟨512 + j.val, by omega⟩) 1 (by show 1 < 7; omega) S1024x1408 _ rfl rfl 512 rfl (ix2 i j) (fun a ha => ?_) rfl).trans
    (wide_apply (N := 1408) a7 512 _ (by omega) i j)
  match a with
  | ⟨0, _⟩ => rfl
  | ⟨1, _⟩ => exact absurd rfl ha

/-- The position key's columns. -/
theorem wExt_pe (j : Fin 32) : wExt a7 (ix2 i ⟨1920 + j.val, by omega⟩) = a7 (ix2 i ⟨1920 + j.val, by omega⟩) := by
  unfold wExt
  refine (concatenate_apply_piece (t := S1024x2176) 1 _ _ (ix2 i ⟨1920 + j.val, by omega⟩) 2 (by show 2 < 7; omega) S1024x32 _ rfl rfl 1920 rfl (ix2 i j) (fun a ha => ?_) rfl).trans
    (peW_apply a7 i j)
  match a with
  | ⟨0, _⟩ => rfl
  | ⟨1, _⟩ => exact absurd rfl ha

/-- The same columns with their halves exchanged. -/
theorem wExt_left (j : Fin 16) : wExt a7 (ix2 i ⟨2048 + j.val, by omega⟩) = a7 (ix2 i ⟨1936 + j.val, by omega⟩) := by
  unfold wExt
  refine (concatenate_apply_piece (t := S1024x2176) 1 _ _ (ix2 i ⟨2048 + j.val, by omega⟩) 4 (by show 4 < 7; omega) S1024x16 _ rfl rfl 2048 rfl (ix2 i j) (fun a ha => ?_) rfl).trans
    ((half_apply (peW a7) 16 _ (by omega) i j).trans ((peW_apply a7 i _).trans (congrArg a7 ?_)))
  · match a with
    | ⟨0, _⟩ => rfl
    | ⟨1, _⟩ => exact absurd rfl ha
  · exact congrArg (fun z : Fin 1952 => (ix2 i z : S1024x1952.Idx)) (Fin.ext (by show 1920 + (16 + j.val) = 1936 + j.val; omega))

theorem wExt_right (j : Fin 16) : wExt a7 (ix2 i ⟨2064 + j.val, by omega⟩) = a7 (ix2 i ⟨1920 + j.val, by omega⟩) := by
  unfold wExt
  refine (concatenate_apply_piece (t := S1024x2176) 1 _ _ (ix2 i ⟨2064 + j.val, by omega⟩) 5 (by show 5 < 7; omega) S1024x16 _ rfl rfl 2064 rfl (ix2 i j) (fun a ha => ?_) rfl).trans
    ((half_apply (peW a7) 0 _ (by omega) i j).trans ((peW_apply a7 i _).trans (congrArg a7 ?_)))
  · match a with
    | ⟨0, _⟩ => rfl
    | ⟨1, _⟩ => exact absurd rfl ha
  · exact congrArg (fun z : Fin 1952 => (ix2 i z : S1024x1952.Idx)) (Fin.ext (by show 1920 + (0 + j.val) = 1920 + j.val; omega))

end Cert.InProj

end
-- ==== Proof.Proj.Spec.lean ====
/- One row of the layer's first half, from the arrays the call is given. -/
module

public import proofs.«01_k».proof.Proof.Ffn.Tile

@[expose] public section

noncomputable section

open scoped BigOperators

namespace Cert.InProj

open Cert.Ffn Idealize.ShloMosaic Idealize.ShloMosaic.ValueIdx

/-- The first half step at a row. -/
def xRow (a0 : (⟨3, ![4, 4096, 1024]⟩ : Shape).Idx → EReal) (a1 : (⟨1, ![1024]⟩ : Shape).Idx → EReal) (a2 a3 : (⟨2, ![1024, 2816]⟩ : Shape).Idx → EReal)
    (a4 : (⟨2, ![2816, 1024]⟩ : Shape).Idx → EReal) (a5 : (⟨1, ![1024]⟩ : Shape).Idx → EReal) (b : Fin 4) (t : Fin 4096) : Fin 1024 → EReal :=
  ffnRow (fun k => a0 (ix3 b t k)) (fun k => a1 (ix1 k)) (fun k j => a2 (ix2 k j)) (fun k j => a3 (ix2 k j)) (fun k j => a4 (ix2 k j)) (fun k => a5 (ix1 k))

/-- The mixers' input projection at a row. -/
def dRow (a0 : (⟨3, ![4, 4096, 1024]⟩ : Shape).Idx → EReal) (a1 : (⟨1, ![1024]⟩ : Shape).Idx → EReal) (a2 a3 : (⟨2, ![1024, 2816]⟩ : Shape).Idx → EReal)
    (a4 : (⟨2, ![2816, 1024]⟩ : Shape).Idx → EReal) (a5 a6 : (⟨1, ![1024]⟩ : Shape).Idx → EReal) (a7 : (⟨2, ![1024, 1952]⟩ : Shape).Idx → EReal) (b : Fin 4) (t : Fin 4096) : Fin 1952 → EReal :=
  dotRow (rmsRow 0x44800000#32 (xRow a0 a1 a2 a3 a4 a5 b t) (fun k => a6 (ix1 k))) (fun k j => a7 (ix2 k j))

/-- The position key, turned. -/
def turnRow (d : Fin 1952 → EReal) (co si : Fin 16 → EReal) (k : Fin 32) : EReal :=
  if h : k.val < 16 then d ⟨1920 + k.val, by omega⟩ * co ⟨k.val, h⟩ - d ⟨1936 + k.val, by omega⟩ * si ⟨k.val, h⟩
  else d ⟨1920 + k.val, by omega⟩ * co ⟨k.val - 16, by omega⟩ + d ⟨1904 + k.val, by omega⟩ * si ⟨k.val - 16, by omega⟩

end Cert.InProj

end
-- ==== Proof.Proj.Blocks.lean ====
/- The projection call's blocks as rows of the layer's first half. -/
module

public import proofs.«01_k».proof.Proof.Proj.Run
public import proofs.«01_k».proof.Proof.Proj.Prep
public import proofs.«01_k».proof.Proof.Proj.Host
public import proofs.«01_k».proof.Proof.Proj.Spec

@[expose] public section

set_option maxRecDepth 16384

noncomputable section

open scoped BigOperators

namespace Cert.InProj

open Cert.Ffn Cert.ProjIdeal Cert.ProjIdeal.Gen
open Idealize.ShloMosaic Idealize.ShloMosaic.TcCoe Idealize.ShloMosaic.ValueIdx Idealize.ShloMosaic.StableHlo

section Rows

variable (x0 : FVec Ideal S1x512x1024 .f32) (x3 : FVec Ideal S1x1024 .f32) (x4 x5 : FVec Ideal S1024x2816 .bf16) (x6 : FVec Ideal S2816x1024 .bf16) (x7 x8 : FVec Ideal S1x1024 .f32) (x9 : FVec Ideal S1024x2176 .bf16)

/-- The half step's rows in a block. -/
theorem step_row (i : Fin 512) (k : Fin 1024) : HAdd.hAdd (α := EReal) (β := EReal) (γ := EReal) (k0_pay3 (F := Ideal) x0 (ix2 i k)) (stepV x0 x3 x4 x5 x6 x7 (ix2 i k))
    = ffnRow (fun k => x0 (ix3 0 i k)) (fun k => x3 (ix2 0 k)) (fun k j => x4 (ix2 k j)) (fun k j => x5 (ix2 k j)) (fun k j => x6 (ix2 k j)) (fun k => x7 (ix2 0 k)) k := by
  have e : k0_pay20 (F := Ideal) (actV (k0_pay4 x0 x3) x4 x5) x6 x7 (ix2 i k)
      = Ideal.ofBits .f32 0x3F000000#32 * rmsRow 0x44800000#32 (dotRow (gateRow (rmsRow 0x44800000#32 (fun k => x0 (ix3 0 i k)) (fun k => x3 (ix2 0 k))) (fun k j => x4 (ix2 k j)) (fun k j => x5 (ix2 k j))) (fun k j => x6 (ix2 k j))) (fun k => x7 (ix2 0 k)) k := by
    refine (pay20_apply x7 _ x6 i k).trans ?_
    exact congrArg (fun z : Fin 2816 → EReal => Ideal.ofBits .f32 0x3F000000#32 * rmsRow 0x44800000#32 (dotRow z (fun k j => x6 (ix2 k j))) (fun k => x7 (ix2 0 k)) k)
      (funext fun r => congrArg (fun z : Fin 1024 → EReal => gateRow z (fun k j => x4 (ix2 k j)) (fun k j => x5 (ix2 k j)) r) (funext fun q => pay4_apply x0 x3 i q))
  unfold stepV
  exact congrArg₂ (fun p q : EReal => p + q) (pay3_apply x0 i k) e

theorem proj_row (i : Fin 512) (j : Fin 2176) : projV x0 x3 x4 x5 x6 x7 x8 x9 (ix2 i j)
    = dotRow (rmsRow 0x44800000#32 (ffnRow (fun k => x0 (ix3 0 i k)) (fun k => x3 (ix2 0 k)) (fun k j => x4 (ix2 k j)) (fun k j => x5 (ix2 k j)) (fun k j => x6 (ix2 k j)) (fun k => x7 (ix2 0 k)))
        (fun k => x8 (ix2 0 k))) (fun k j => x9 (ix2 k j)) j := by
  unfold projV
  refine (pay23_apply x8 _ _ x9 i j).trans ?_
  exact congrArg (fun z : Fin 1024 → EReal => dotRow (rmsRow 0x44800000#32 z (fun k => x8 (ix2 0 k))) (fun k j => x9 (ix2 k j)) j) (funext fun k => step_row x0 x3 x4 x5 x6 x7 i k)

end Rows

theorem row_apply {N : ℕ} (x : (⟨1, ![N]⟩ : Shape).Idx → EReal) (h : (⟨1, ![N]⟩ : Shape).ShapeCasts ⟨2, ![1, N]⟩) (k : Fin N) :
    shapeCast ⟨2, ![1, N]⟩ x h (ix2 0 k) = x (ix1 k) := by
  refine shapeCast_apply _ _ _ _ ?_
  rewrite [Shape.rowMajor_val_one, Shape.rowMajor_val_two]
  show k.val = 0 * N + k.val
  omega

theorem gain_row {N : ℕ} {x : (⟨2, ![1, N]⟩ : Shape).Idx → EReal} {y : (⟨2, ![1, N]⟩ : Shape).Idx → EReal} {z : (⟨1, ![N]⟩ : Shape).Idx → EReal} {h : (⟨1, ![N]⟩ : Shape).ShapeCasts ⟨2, ![1, N]⟩}
    (h1 : x = y) (h2 : y = shapeCast ⟨2, ![1, N]⟩ z h) : (fun k => x (ix2 0 k)) = fun k => z (ix1 k) :=
  funext fun k => by rw [h1, h2]; exact row_apply z h k

theorem mat_row {M N : ℕ} {x y z : (⟨2, ![M, N]⟩ : Shape).Idx → EReal} (h1 : x = y) (h2 : y = z) : (fun (k : Fin M) (j : Fin N) => x (ix2 k j)) = fun k j => z (ix2 k j) := by
  rw [h1, h2]

theorem ffnRow_congr {x x' g g' : Fin 1024 → EReal} {wg wg' wu wu' : Fin 1024 → Fin 2816 → EReal} {wd wd' : Fin 2816 → Fin 1024 → EReal} {p p' : Fin 1024 → EReal}
    (h1 : x = x') (h2 : g = g') (h3 : wg = wg') (h4 : wu = wu') (h5 : wd = wd') (h6 : p = p') : ffnRow x g wg wu wd p = ffnRow x' g' wg' wu' wd' p' := by
  rw [h1, h2, h3, h4, h5, h6]

theorem dotRow_congr {x x' g g' : Fin 1024 → EReal} {w w' : Fin 1024 → Fin 2176 → EReal} (h1 : x = x') (h2 : g = g') (h3 : w = w') (j : Fin 2176) :
    dotRow (rmsRow 0x44800000#32 x g) w j = dotRow (rmsRow 0x44800000#32 x' g') w' j := by
  rw [h1, h2, h3]

/-- A column of the widened matrix that is a column of the matrix. -/
theorem dot_col (h : Fin 1024 → EReal) (a7 : FVec Ideal S1024x1952 .f32) (j : Fin 2176) (j' : Fin 1952) (hw : ∀ k, wExt a7 (ix2 k j) = a7 (ix2 k j')) :
    dotRow h (fun k j => wExt a7 (ix2 k j)) j = dotRow h (fun k j => a7 (ix2 k j)) j' :=
  Finset.sum_congr rfl fun k _ => congrArg (h k * ·) (hw k)

variable (m : (ℓ : Loc nD τ sig) → Buf (Elt Ideal) ℓ) (c : Dev nD) (t : Fin cfg0.N)

/-- The first half step's rows, from the launch memory. -/
def xR (b : Fin 4) (s : Fin 4096) : Fin 1024 → EReal := xRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s

/-- The projection's rows, from the launch memory. -/
def dR (b : Fin 4) (s : Fin 4096) : Fin 1952 → EReal := dRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s

theorem blk_ffn (i : Fin 512) :
    ffnRow (fun k => (iblk m c 0 t : S1x512x1024.Idx → EReal) (ix3 0 i k)) (fun k => (iblk m c 3 t : S1x1024.Idx → EReal) (ix2 0 k)) (fun k j => (iblk m c 4 t : S1024x2816.Idx → EReal) (ix2 k j))
      (fun k j => (iblk m c 5 t : S1024x2816.Idx → EReal) (ix2 k j)) (fun k j => (iblk m c 6 t : S2816x1024.Idx → EReal) (ix2 k j)) (fun k => (iblk m c 7 t : S1x1024.Idx → EReal) (ix2 0 k))
      = xR m c (grid0.coords t 0) (rowAt t i) :=
  ffnRow_congr (funext fun k => (iblk0_apply m c t i k).trans (congrFun (V_main_arg0 m c) _)) (gain_row (iblk3_eq m c t) (host_v19 (fun b => m (c, b))))
    (mat_row (iblk4_eq m c t) (host_v20 (fun b => m (c, b)))) (mat_row (iblk5_eq m c t) (host_v21 (fun b => m (c, b)))) (mat_row (iblk6_eq m c t) (host_v22 (fun b => m (c, b))))
    (gain_row (iblk7_eq m c t) (host_v23 (fun b => m (c, b))))

theorem blk_proj (i : Fin 512) (j : Fin 2176) :
    projV (iblk m c 0 t) (iblk m c 3 t) (iblk m c 4 t) (iblk m c 5 t) (iblk m c 6 t) (iblk m c 7 t) (iblk m c 8 t) (iblk m c 9 t) (ix2 i j)
      = dotRow (rmsRow 0x44800000#32 (xR m c (grid0.coords t 0) (rowAt t i)) (fun k => (m ((c : Thread nD τ).loc main_arg6) : S1024.Idx → EReal) (ix1 k)))
          (fun k j => wExt (m ((c : Thread nD τ).loc main_arg7)) (ix2 k j)) j :=
  (proj_row (iblk m c 0 t) (iblk m c 3 t) (iblk m c 4 t) (iblk m c 5 t) (iblk m c 6 t) (iblk m c 7 t) (iblk m c 8 t) (iblk m c 9 t) i j).trans
    (dotRow_congr (blk_ffn m c t i) (gain_row (iblk8_eq m c t) (host_v60 (fun b => m (c, b)))) (mat_row (iblk9_eq m c t) (host_v33 (fun b => m (c, b)))) j)

/-- A column of the projection in a block. -/
theorem blk_col (i : Fin 512) (j : Fin 2176) (j' : Fin 1952) (hw : ∀ k, wExt (m ((c : Thread nD τ).loc main_arg7)) (ix2 k j) = (m ((c : Thread nD τ).loc main_arg7) : S1024x1952.Idx → EReal) (ix2 k j')) :
    projV (iblk m c 0 t) (iblk m c 3 t) (iblk m c 4 t) (iblk m c 5 t) (iblk m c 6 t) (iblk m c 7 t) (iblk m c 8 t) (iblk m c 9 t) (ix2 i j) = dR m c (grid0.coords t 0) (rowAt t i) j' :=
  (blk_proj m c t i j).trans (dot_col _ _ j j' hw)

theorem blk14 (i : Fin 512) (j : Fin 1024) :
    k0_pay22 (F := Ideal) (k0_pay3 (iblk m c 0 t)) (stepV (iblk m c 0 t) (iblk m c 3 t) (iblk m c 4 t) (iblk m c 5 t) (iblk m c 6 t) (iblk m c 7 t)) (ix3 0 i j) = xR m c (grid0.coords t 0) (rowAt t i) j :=
  (pay22_apply _ _ i j).trans ((step_row (iblk m c 0 t) (iblk m c 3 t) (iblk m c 4 t) (iblk m c 5 t) (iblk m c 6 t) (iblk m c 7 t) i j).trans (congrFun (blk_ffn m c t i) j))

theorem blk15 (i j : Fin 512) :
    k0_pay26 (F := Ideal) (k0_pay3 (iblk m c 0 t)) (stepV (iblk m c 0 t) (iblk m c 3 t) (iblk m c 4 t) (iblk m c 5 t) (iblk m c 6 t) (iblk m c 7 t)) (iblk m c 8 t) (iblk m c 9 t) (ix3 0 j i) = dR m c (grid0.coords t 0) (rowAt t i) ⟨512 + j.val, by omega⟩ :=
  (pay26_apply _ _ _ _ i j).trans (blk_col m c t i _ _ fun k => wExt_mid _ k ⟨j.val, by omega⟩)

theorem blk16 (i j : Fin 512) :
    k0_pay27 (F := Ideal) (k0_pay3 (iblk m c 0 t)) (stepV (iblk m c 0 t) (iblk m c 3 t) (iblk m c 4 t) (iblk m c 5 t) (iblk m c 6 t) (iblk m c 7 t)) (iblk m c 8 t) (iblk m c 9 t) (ix3 0 j i) = dR m c (grid0.coords t 0) (rowAt t i) ⟨1024 + j.val, by omega⟩ :=
  (pay27_apply _ _ _ _ i j).trans (blk_col m c t i _ _ fun k => by
    have e := wExt_mid (m ((c : Thread nD τ).loc main_arg7)) k ⟨512 + j.val, by omega⟩
    have e1 : (⟨512 + (512 + j.val), by omega⟩ : Fin 2176) = ⟨1024 + j.val, by omega⟩ := Fin.ext (by show 512 + (512 + j.val) = 1024 + j.val; omega)
    have e2 : (⟨512 + (512 + j.val), by omega⟩ : Fin 1952) = ⟨1024 + j.val, by omega⟩ := Fin.ext (by show 512 + (512 + j.val) = 1024 + j.val; omega)
    rw [← e1, ← e2]
    exact e)

theorem blk17 (i : Fin 512) (j : Fin 128) :
    k0_pay74 (F := Ideal) (projV (iblk m c 0 t) (iblk m c 3 t) (iblk m c 4 t) (iblk m c 5 t) (iblk m c 6 t) (iblk m c 7 t) (iblk m c 8 t) (iblk m c 9 t)) (iblk m c 13 t) (ix3 0 i j)
      = rmsRow 0x43000000#32 (fun k : Fin 128 => dR m c (grid0.coords t 0) (rowAt t i) ⟨1792 + k.val, by omega⟩) (fun k => (m ((c : Thread nD τ).loc main_arg10) : S128.Idx → EReal) (ix1 k)) j := by
  refine (pay74_apply _ _ i j).trans ?_
  refine congrArg₂ (fun (z g : Fin 128 → EReal) => rmsRow 0x43000000#32 z g j) (funext fun k => blk_col m c t i _ _ fun r => ?_) (gain_row (iblk13_eq m c t) (host_v72 (fun b => m (c, b))))
  have e := wExt_mid (m ((c : Thread nD τ).loc main_arg7)) r ⟨1280 + k.val, by omega⟩
  have e1 : (⟨512 + (1280 + k.val), by omega⟩ : Fin 2176) = ⟨1792 + k.val, by omega⟩ := Fin.ext (by show 512 + (1280 + k.val) = 1792 + k.val; omega)
  have e2 : (⟨512 + (1280 + k.val), by omega⟩ : Fin 1952) = ⟨1792 + k.val, by omega⟩ := Fin.ext (by show 512 + (1280 + k.val) = 1792 + k.val; omega)
  rw [← e1, ← e2]
  exact e

theorem blk1_cos (i : Fin 512) (r : Fin 128) : (iblk m c 1 t : S512x128.Idx → EReal) (ix2 i r) = cosTab (ix2 (rowAt t i) r) :=
  (iblk1_apply m c t i r).trans (congrFun (host_v16 (fun b => m (c, b))) _)

theorem blk2_sin (i : Fin 512) (r : Fin 128) : (iblk m c 2 t : S512x128.Idx → EReal) (ix2 i r) = sinTab (ix2 (rowAt t i) r) :=
  (iblk2_apply m c t i r).trans (congrFun (host_v18 (fun b => m (c, b))) _)

theorem blk18 (i : Fin 512) (j : Fin 32) :
    k0_pay75 (F := Ideal) (projV (iblk m c 0 t) (iblk m c 3 t) (iblk m c 4 t) (iblk m c 5 t) (iblk m c 6 t) (iblk m c 7 t) (iblk m c 8 t) (iblk m c 9 t)) (iblk m c 1 t) (iblk m c 2 t) (ix3 0 i j)
      = turnRow (dR m c (grid0.coords t 0) (rowAt t i)) (fun k => cosT (ix2 (rowAt t i) k)) (fun k => sinT (ix2 (rowAt t i) k)) j := by
  refine (pay75_apply _ _ _ i j).trans ?_
  have hd : projV (iblk m c 0 t) (iblk m c 3 t) (iblk m c 4 t) (iblk m c 5 t) (iblk m c 6 t) (iblk m c 7 t) (iblk m c 8 t) (iblk m c 9 t) (ix2 i ⟨1920 + j.val, by omega⟩) = dR m c (grid0.coords t 0) (rowAt t i) ⟨1920 + j.val, by omega⟩ :=
    blk_col m c t i _ _ fun r => wExt_pe _ r j
  unfold turnRow
  by_cases h : j.val < 16
  · rw [dif_pos h]
    have h2 : projV (iblk m c 0 t) (iblk m c 3 t) (iblk m c 4 t) (iblk m c 5 t) (iblk m c 6 t) (iblk m c 7 t) (iblk m c 8 t) (iblk m c 9 t) (ix2 i ⟨2048 + j.val, by omega⟩) = dR m c (grid0.coords t 0) (rowAt t i) ⟨1936 + j.val, by omega⟩ :=
      blk_col m c t i _ _ fun r => wExt_left _ r ⟨j.val, h⟩
    have hc := (blk1_cos m c t i ⟨j.val, by omega⟩).trans (cosTab_left (rowAt t i) ⟨j.val, h⟩)
    have hs := (blk2_sin m c t i ⟨j.val, by omega⟩).trans (sinTab_left (rowAt t i) ⟨j.val, h⟩)
    refine (congrArg₂ (fun p q : EReal => p + q) (congrArg₂ (fun p q : EReal => p * q) hd hc) (congrArg₂ (fun p q : EReal => p * q) h2 hs)).trans ?_
    rw [mul_neg, ← sub_eq_add_neg]
  · rw [dif_neg h]
    have h2 : projV (iblk m c 0 t) (iblk m c 3 t) (iblk m c 4 t) (iblk m c 5 t) (iblk m c 6 t) (iblk m c 7 t) (iblk m c 8 t) (iblk m c 9 t) (ix2 i ⟨2048 + j.val, by omega⟩) = dR m c (grid0.coords t 0) (rowAt t i) ⟨1904 + j.val, by omega⟩ := by
      refine blk_col m c t i _ _ fun r => ?_
      have e := wExt_right (m ((c : Thread nD τ).loc main_arg7)) r ⟨j.val - 16, by omega⟩
      have e1 : (⟨2064 + (j.val - 16), by omega⟩ : Fin 2176) = ⟨2048 + j.val, by omega⟩ := Fin.ext (by show 2064 + (j.val - 16) = 2048 + j.val; omega)
      have e2 : (⟨1920 + (j.val - 16), by omega⟩ : Fin 1952) = ⟨1904 + j.val, by omega⟩ := Fin.ext (by show 1920 + (j.val - 16) = 1904 + j.val; omega)
      rw [← e1, ← e2]
      exact e
    have e3 : (⟨j.val, by omega⟩ : Fin 128) = ⟨16 + (j.val - 16), by omega⟩ := Fin.ext (by show j.val = 16 + (j.val - 16); omega)
    have hc : (iblk m c 1 t : S512x128.Idx → EReal) (ix2 i ⟨j.val, by omega⟩) = cosT (ix2 (rowAt t i) ⟨j.val - 16, by omega⟩) := by
      rw [e3]
      exact (blk1_cos m c t i _).trans (cosTab_right (rowAt t i) ⟨j.val - 16, by omega⟩)
    have hs : (iblk m c 2 t : S512x128.Idx → EReal) (ix2 i ⟨j.val, by omega⟩) = sinT (ix2 (rowAt t i) ⟨j.val - 16, by omega⟩) := by
      rw [e3]
      exact (blk2_sin m c t i _).trans (sinTab_right (rowAt t i) ⟨j.val - 16, by omega⟩)
    exact congrArg₂ (fun p q : EReal => p + q) (congrArg₂ (fun p q : EReal => p * q) hd hc) (congrArg₂ (fun p q : EReal => p * q) h2 hs)

end Cert.InProj

end
-- ==== Proof.Proj.Arrays.lean ====
/- The projection call's output arrays after the call, from the launch memory. -/
module

public import proofs.«01_k».proof.Proof.Proj.Value
public import proofs.«01_k».proof.Proof.Proj.Blocks

@[expose] public section

set_option maxRecDepth 16384

noncomputable section

namespace Cert.InProj

open Cert.Ffn Cert.ProjIdeal Cert.ProjIdeal.Gen
open Idealize.ShloMosaic Idealize.ShloMosaic.TcCoe Idealize.ShloMosaic.ValueIdx

variable (m : (ℓ : Loc nD τ sig) → Buf (Elt Ideal) ℓ) (c : Dev nD) (t : Fin cfg0.N)

/-- The half step as one array. -/
def arr14 : S4x4096x1024.Idx → EReal := fun y => xR m c (y 0) (y 1) (y 2)

set_option maxHeartbeats 4000000 in
theorem left14 : ((dats (F := Ideal) m 0 c).after 14 t : S1x512x1024.Idx → EReal) = k0_pay22 (F := Ideal) (k0_pay3 (iblk m c 0 t)) (stepV (iblk m c 0 t) (iblk m c 3 t) (iblk m c 4 t) (iblk m c 5 t) (iblk m c 6 t) (iblk m c 7 t)) := by
  refine (after0_14 m c t).trans ?_
  unfold outsAt0
  dsimp only
  unfold out0_A_14
  exact out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)

theorem flushed14 (y : S1x512x1024.Idx) : ((dats (F := Ideal) m 0 c).after 14 t : S1x512x1024.Idx → EReal) y = arr14 m c (((cfg0.win 14).blk t).view.emb y) := by
  refine (congrFun (left14 m c t) y).trans ?_
  have hy : y = ix3 0 (y 1) (y 2) := funext fun a => match a with
    | ⟨0, _⟩ => Fin.ext (by have : (y 0).val < 1 := (y 0).isLt; show (y 0).val = 0; omega)
    | ⟨1, _⟩ => rfl
    | ⟨2, _⟩ => rfl
  rw [emb14, hy]
  exact blk14 m c t (y 1) (y 2)

theorem array14 : (dats (F := Ideal) m 0 c).arrAt 14 cfg0.N = arr14 m c :=
  (dats (F := Ideal) m 0 c).arrAt_eq_of_covers 14 (arr14 m c) covers14 fun t _ y => flushed14 m c t y

/-- The keys, heads before rows. -/
def arr15 : S4x512x4096.Idx → EReal := fun y => dR m c (y 0) (y 2) ⟨512 + (y 1).val, by have : (y 1).val < 512 := (y 1).isLt; omega⟩

set_option maxHeartbeats 4000000 in
theorem left15 : ((dats (F := Ideal) m 0 c).after 15 t : S1x512x512.Idx → EReal) = k0_pay26 (F := Ideal) (k0_pay3 (iblk m c 0 t)) (stepV (iblk m c 0 t) (iblk m c 3 t) (iblk m c 4 t) (iblk m c 5 t) (iblk m c 6 t) (iblk m c 7 t)) (iblk m c 8 t) (iblk m c 9 t) := by
  refine (after0_15 m c t).trans ?_
  unfold outsAt0
  dsimp only
  unfold out0_A_15
  exact out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)

theorem flushed15 (y : S1x512x512.Idx) : ((dats (F := Ideal) m 0 c).after 15 t : S1x512x512.Idx → EReal) y = arr15 m c (((cfg0.win 15).blk t).view.emb y) := by
  refine (congrFun (left15 m c t) y).trans ?_
  have hy : y = ix3 0 (y 1) (y 2) := funext fun a => match a with
    | ⟨0, _⟩ => Fin.ext (by have : (y 0).val < 1 := (y 0).isLt; show (y 0).val = 0; omega)
    | ⟨1, _⟩ => rfl
    | ⟨2, _⟩ => rfl
  rw [emb15, hy]
  exact blk15 m c t (y 2) (y 1)

theorem array15 : (dats (F := Ideal) m 0 c).arrAt 15 cfg0.N = arr15 m c :=
  (dats (F := Ideal) m 0 c).arrAt_eq_of_covers 15 (arr15 m c) covers15 fun t _ y => flushed15 m c t y

/-- The values, heads before rows. -/
def arr16 : S4x512x4096.Idx → EReal := fun y => dR m c (y 0) (y 2) ⟨1024 + (y 1).val, by have : (y 1).val < 512 := (y 1).isLt; omega⟩

set_option maxHeartbeats 4000000 in
theorem left16 : ((dats (F := Ideal) m 0 c).after 16 t : S1x512x512.Idx → EReal) = k0_pay27 (F := Ideal) (k0_pay3 (iblk m c 0 t)) (stepV (iblk m c 0 t) (iblk m c 3 t) (iblk m c 4 t) (iblk m c 5 t) (iblk m c 6 t) (iblk m c 7 t)) (iblk m c 8 t) (iblk m c 9 t) := by
  refine (after0_16 m c t).trans ?_
  unfold outsAt0
  dsimp only
  unfold out0_A_16
  exact out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)

theorem flushed16 (y : S1x512x512.Idx) : ((dats (F := Ideal) m 0 c).after 16 t : S1x512x512.Idx → EReal) y = arr16 m c (((cfg0.win 16).blk t).view.emb y) := by
  refine (congrFun (left16 m c t) y).trans ?_
  have hy : y = ix3 0 (y 1) (y 2) := funext fun a => match a with
    | ⟨0, _⟩ => Fin.ext (by have : (y 0).val < 1 := (y 0).isLt; show (y 0).val = 0; omega)
    | ⟨1, _⟩ => rfl
    | ⟨2, _⟩ => rfl
  rw [emb16, hy]
  exact blk16 m c t (y 2) (y 1)

theorem array16 : (dats (F := Ideal) m 0 c).arrAt 16 cfg0.N = arr16 m c :=
  (dats (F := Ideal) m 0 c).arrAt_eq_of_covers 16 (arr16 m c) covers16 fun t _ y => flushed16 m c t y

/-- The compressed keys and values. -/
def arr17 : S4x4096x128.Idx → EReal := fun y => rmsRow 0x43000000#32 (fun k : Fin 128 => dR m c (y 0) (y 1) ⟨1792 + k.val, by omega⟩) (fun k => (m ((c : Thread nD τ).loc main_arg10) : S128.Idx → EReal) (ix1 k)) (y 2)

set_option maxHeartbeats 4000000 in
theorem left17 : ((dats (F := Ideal) m 0 c).after 17 t : S1x512x128.Idx → EReal) = k0_pay74 (F := Ideal) (projV (iblk m c 0 t) (iblk m c 3 t) (iblk m c 4 t) (iblk m c 5 t) (iblk m c 6 t) (iblk m c 7 t) (iblk m c 8 t) (iblk m c 9 t)) (iblk m c 13 t) := by
  refine (after0_17 m c t).trans ?_
  unfold outsAt0
  dsimp only
  unfold out0_A_17
  exact out17_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)

theorem flushed17 (y : S1x512x128.Idx) : ((dats (F := Ideal) m 0 c).after 17 t : S1x512x128.Idx → EReal) y = arr17 m c (((cfg0.win 17).blk t).view.emb y) := by
  refine (congrFun (left17 m c t) y).trans ?_
  have hy : y = ix3 0 (y 1) (y 2) := funext fun a => match a with
    | ⟨0, _⟩ => Fin.ext (by have : (y 0).val < 1 := (y 0).isLt; show (y 0).val = 0; omega)
    | ⟨1, _⟩ => rfl
    | ⟨2, _⟩ => rfl
  rw [emb17, hy]
  exact blk17 m c t (y 1) (y 2)

theorem array17 : (dats (F := Ideal) m 0 c).arrAt 17 cfg0.N = arr17 m c :=
  (dats (F := Ideal) m 0 c).arrAt_eq_of_covers 17 (arr17 m c) covers17 fun t _ y => flushed17 m c t y

/-- The position keys. -/
def arr18 : S4x4096x32.Idx → EReal := fun y => turnRow (dR m c (y 0) (y 1)) (fun k => cosT (ix2 (y 1) k)) (fun k => sinT (ix2 (y 1) k)) (y 2)

set_option maxHeartbeats 4000000 in
theorem left18 : ((dats (F := Ideal) m 0 c).after 18 t : S1x512x32.Idx → EReal) = k0_pay75 (F := Ideal) (projV (iblk m c 0 t) (iblk m c 3 t) (iblk m c 4 t) (iblk m c 5 t) (iblk m c 6 t) (iblk m c 7 t) (iblk m c 8 t) (iblk m c 9 t)) (iblk m c 1 t) (iblk m c 2 t) := by
  refine (after0_18 m c t).trans ?_
  unfold outsAt0
  dsimp only
  unfold out0_A_18
  exact out18_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _)

theorem flushed18 (y : S1x512x32.Idx) : ((dats (F := Ideal) m 0 c).after 18 t : S1x512x32.Idx → EReal) y = arr18 m c (((cfg0.win 18).blk t).view.emb y) := by
  refine (congrFun (left18 m c t) y).trans ?_
  have hy : y = ix3 0 (y 1) (y 2) := funext fun a => match a with
    | ⟨0, _⟩ => Fin.ext (by have : (y 0).val < 1 := (y 0).isLt; show (y 0).val = 0; omega)
    | ⟨1, _⟩ => rfl
    | ⟨2, _⟩ => rfl
  rw [emb18, hy]
  exact blk18 m c t (y 1) (y 2)

theorem array18 : (dats (F := Ideal) m 0 c).arrAt 18 cfg0.N = arr18 m c :=
  (dats (F := Ideal) m 0 c).arrAt_eq_of_covers 18 (arr18 m c) covers18 fun t _ y => flushed18 m c t y

end Cert.InProj

end
-- ==== Proof.Proj.Ref.lean ====
/- The reference of the layer's first half, row by row. -/
module

public import proofs.«01_k».proof.Proof.Gen.ProjRefIdeal.Run
public import proofs.«01_k».proof.Proof.Gen.ProjRefIdeal.Read
public import proofs.«01_k».proof.Proof.Proj.Spec

@[expose] public section

set_option maxRecDepth 16384

noncomputable section

open scoped BigOperators

namespace Cert.ProjRefIdeal.Layer

open Cert.Ffn Cert.InProj Cert.ProjRefIdeal Cert.ProjRefIdeal.Gen Cert.ProjRefIdeal.Value Cert.ProjRefIdeal.Read
open Idealize.ShloMosaic Idealize.ShloMosaic.TcCoe Idealize.ShloMosaic.ValueIdx Idealize.ShloMosaic.StableHlo

variable (x0 : FVec Ideal S4x4096x1024 .f32) (x1 : FVec Ideal S1024 .f32) (x2 x3 : FVec Ideal S1024x2816 .f32) (x4 : FVec Ideal S2816x1024 .f32)
  (x5 x6 : FVec Ideal S1024 .f32) (x7 : FVec Ideal S1024x1952 .f32) (x10 : FVec Ideal S128 .f32)

theorem v12_apply (b : Fin 4) (t : Fin 4096) (j : Fin 1024) :
    val_main_v12 (F := Ideal) x0 x1 (ix3 b t j) = rmsRow 0x44800000#32 (fun k => x0 (ix3 b t k)) (fun k => x1 (ix1 k)) j := by
  unfold val_main_v12 val_main_v9 val_main_v8 val_main_v7 val_main_v6 val_main_v4 val_main_v2 val_main_v1 val_main_v0 val_main_cst val_main_v3 val_main_cst_0 val_main_v5 val_main_cst_1 val_main_v11 val_main_v10
  exact hrms_apply 0x44800000#32 x0 x1 _ (by decide) _ _ _ _ _ _ (by decide) (by decide) (by decide) b t j

theorem v30_apply (b : Fin 4) (t : Fin 4096) (j : Fin 1024) :
    val_main_v30 (F := Ideal) x0 x1 x2 x3 x4 x5 (ix3 b t j) = rmsRow 0x44800000#32 (fun k => val_main_v17 (F := Ideal) x0 x1 x2 x3 x4 (ix3 b t k)) (fun k => x5 (ix1 k)) j := by
  unfold val_main_v30 val_main_v27 val_main_v26 val_main_v25 val_main_v24 val_main_v22 val_main_v20 val_main_v19 val_main_v18 val_main_cst_2 val_main_v21 val_main_cst_3 val_main_v23 val_main_cst_4 val_main_v29 val_main_v28
  exact hrms_apply 0x44800000#32 (val_main_v17 (F := Ideal) x0 x1 x2 x3 x4) x5 _ (by decide) _ _ _ _ _ _ (by decide) (by decide) (by decide) b t j

theorem v46_apply (b : Fin 4) (t : Fin 4096) (j : Fin 1024) :
    val_main_v46 (F := Ideal) x0 x1 x2 x3 x4 x5 x6 (ix3 b t j) = rmsRow 0x44800000#32 (fun k => val_main_v33 (F := Ideal) x0 x1 x2 x3 x4 x5 (ix3 b t k)) (fun k => x6 (ix1 k)) j := by
  unfold val_main_v46 val_main_v43 val_main_v42 val_main_v41 val_main_v40 val_main_v38 val_main_v36 val_main_v35 val_main_v34 val_main_cst_6 val_main_v37 val_main_cst_7 val_main_v39 val_main_cst_8 val_main_v45 val_main_v44
  exact hrms_apply 0x44800000#32 (val_main_v33 (F := Ideal) x0 x1 x2 x3 x4 x5) x6 _ (by decide) _ _ _ _ _ _ (by decide) (by decide) (by decide) b t j

theorem v63_apply (b : Fin 4) (t : Fin 4096) (j : Fin 128) :
    val_main_v63 (F := Ideal) x0 x1 x2 x3 x4 x5 x6 x7 x10 (ix3 b t j) = rmsRow 0x43000000#32 (fun k => val_main_v50 (F := Ideal) x0 x1 x2 x3 x4 x5 x6 x7 (ix3 b t k)) (fun k => x10 (ix1 k)) j := by
  unfold val_main_v63 val_main_v60 val_main_v59 val_main_v58 val_main_v57 val_main_v55 val_main_v53 val_main_v52 val_main_v51 val_main_cst_9 val_main_v54 val_main_cst_10 val_main_v56 val_main_cst_11 val_main_v62 val_main_v61
  exact hrms_apply 0x43000000#32 (val_main_v50 (F := Ideal) x0 x1 x2 x3 x4 x5 x6 x7) x10 _ (by decide) _ _ _ _ _ _ (by decide) (by decide) (by decide) b t j

theorem v13_row (b : Fin 4) (t : Fin 4096) (j : Fin 2816) :
    val_main_v13 (F := Ideal) x0 x1 x2 (ix3 b t j) = dotRow (fun k => val_main_v12 (F := Ideal) x0 x1 (ix3 b t k)) (fun k j => x2 (ix2 k j)) j := by
  refine (val_main_v13_apply x0 x1 x2 _).trans (Finset.sum_congr rfl fun k _ => congrArg₂ (· * ·) (congrArg _ ?_) (congrArg x2 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem v15_row (b : Fin 4) (t : Fin 4096) (j : Fin 2816) :
    val_main_v15 (F := Ideal) x0 x1 x3 (ix3 b t j) = dotRow (fun k => val_main_v12 (F := Ideal) x0 x1 (ix3 b t k)) (fun k j => x3 (ix2 k j)) j := by
  refine (val_main_v15_apply x0 x1 x3 _).trans (Finset.sum_congr rfl fun k _ => congrArg₂ (· * ·) (congrArg _ ?_) (congrArg x3 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem v17_row (b : Fin 4) (t : Fin 4096) (j : Fin 1024) :
    val_main_v17 (F := Ideal) x0 x1 x2 x3 x4 (ix3 b t j) = dotRow (fun k => val_main_v16 (F := Ideal) x0 x1 x2 x3 (ix3 b t k)) (fun k j => x4 (ix2 k j)) j := by
  refine (val_main_v17_apply x0 x1 x2 x3 x4 _).trans (Finset.sum_congr rfl fun k _ => congrArg₂ (· * ·) (congrArg _ ?_) (congrArg x4 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem v47_dot (b : Fin 4) (t : Fin 4096) (j : Fin 1952) :
    val_main_v47 (F := Ideal) x0 x1 x2 x3 x4 x5 x6 x7 (ix3 b t j) = dotRow (fun k => val_main_v46 (F := Ideal) x0 x1 x2 x3 x4 x5 x6 (ix3 b t k)) (fun k j => x7 (ix2 k j)) j := by
  refine (val_main_v47_apply x0 x1 x2 x3 x4 x5 x6 x7 _).trans (Finset.sum_congr rfl fun k _ => congrArg₂ (· * ·) (congrArg _ ?_) (congrArg x7 ?_))
  · exact funext fun a => match a with
      | ⟨0, _⟩ => rfl
      | ⟨1, _⟩ => rfl
      | ⟨2, _⟩ => rfl
  · exact funext fun a => match a with
      | ⟨0, _⟩ => rfl
      | ⟨1, _⟩ => rfl

theorem one32 : FloatOps.ofBits (F := Ideal) .f32 0x3F800000#32 = (1 : EReal) := by
  show Ideal.ofBits .f32 0x3F800000#32 = 1
  simp [Ideal.ofBits, Ideal.ieee, -EReal.coe_mul]
  norm_num

theorem v16_row (b : Fin 4) (t : Fin 4096) (j : Fin 2816) :
    val_main_v16 (F := Ideal) x0 x1 x2 x3 (ix3 b t j)
      = gateRow (fun k => val_main_v12 (F := Ideal) x0 x1 (ix3 b t k)) (fun k j => x2 (ix2 k j)) (fun k j => x3 (ix2 k j)) j := by
  unfold gateRow
  rw [← v13_row, ← v15_row]
  refine (val_main_v16_apply (F := Ideal) x0 x1 x2 x3 _).trans (congrArg (· * _) ?_)
  refine (val_main_v14_apply (F := Ideal) x0 x1 x2 _).trans (congrArg (_ * ·) ?_)
  refine (val_main_call0_v5_apply (F := Ideal) x0 x1 x2 _).trans ?_
  rw [val_main_call0_v3_apply, val_main_call0_v1_apply, val_main_call0_v0_apply, val_main_call0_v4_apply, val_main_call0_v2_apply, val_main_call0_cst_apply, val_main_call0_cst_0_apply, one32]
  rfl

/-- The first half step at an entry. -/
theorem v33_row (b : Fin 4) (t : Fin 4096) (j : Fin 1024) :
    val_main_v33 (F := Ideal) x0 x1 x2 x3 x4 x5 (ix3 b t j) = xRow x0 x1 x2 x3 x4 x5 b t j := by
  unfold xRow ffnRow
  refine (val_main_v33_apply (F := Ideal) x0 x1 x2 x3 x4 x5 _).trans (congrArg (x0 (ix3 b t j) + ·) ?_)
  refine (val_main_v32_apply (F := Ideal) x0 x1 x2 x3 x4 x5 _).trans ?_
  refine congrArg₂ (fun a z : EReal => a * z) ?_ ?_
  · exact (val_main_v31_apply (F := Ideal) _).trans rfl
  refine (v30_apply x0 x1 x2 x3 x4 x5 b t j).trans (congrArg (fun z => rmsRow 0x44800000#32 z (fun k => x5 (ix1 k)) j) (funext fun k => ?_))
  refine (v17_row x0 x1 x2 x3 x4 b t k).trans (congrArg (fun z => dotRow z (fun k j => x4 (ix2 k j)) k) (funext fun k => ?_))
  exact (v16_row x0 x1 x2 x3 b t k).trans (congrArg (fun z : Fin 1024 → EReal => gateRow z (fun k j => x2 (ix2 k j)) (fun k j => x3 (ix2 k j)) k) (funext fun k => v12_apply x0 x1 b t k))

/-- The projection at an entry. -/
theorem v47_row (b : Fin 4) (t : Fin 4096) (j : Fin 1952) :
    val_main_v47 (F := Ideal) x0 x1 x2 x3 x4 x5 x6 x7 (ix3 b t j) = dRow x0 x1 x2 x3 x4 x5 x6 x7 b t j := by
  unfold dRow
  refine (v47_dot x0 x1 x2 x3 x4 x5 x6 x7 b t j).trans (congrArg (fun z => dotRow z (fun k j => x7 (ix2 k j)) j) (funext fun k => ?_))
  exact (v46_apply x0 x1 x2 x3 x4 x5 x6 b t k).trans (congrArg (fun z => rmsRow 0x44800000#32 z (fun k => x6 (ix1 k)) k) (funext fun k => v33_row x0 x1 x2 x3 x4 x5 b t k))

theorem v97_row (b : Fin 4) (j : Fin 512) (t : Fin 4096) :
    val_main_v97 (F := Ideal) x0 x1 x2 x3 x4 x5 x6 x7 (ix3 b j t) = dRow x0 x1 x2 x3 x4 x5 x6 x7 b t ⟨512 + j.val, by omega⟩ := by
  refine (val_main_v97_apply (F := Ideal) x0 x1 x2 x3 x4 x5 x6 x7 _).trans ((val_main_v48_apply (F := Ideal) x0 x1 x2 x3 x4 x5 x6 x7 _).trans ?_)
  refine (congrArg _ ?_).trans (v47_row x0 x1 x2 x3 x4 x5 x6 x7 b t _)
  exact funext fun a => Fin.ext (match a with
    | ⟨0, _⟩ => rfl
    | ⟨1, _⟩ => rfl
    | ⟨2, _⟩ => by first | rfl | (show j.val + 512 = 512 + j.val; omega))

theorem v98_row (b : Fin 4) (j : Fin 512) (t : Fin 4096) :
    val_main_v98 (F := Ideal) x0 x1 x2 x3 x4 x5 x6 x7 (ix3 b j t) = dRow x0 x1 x2 x3 x4 x5 x6 x7 b t ⟨1024 + j.val, by omega⟩ := by
  refine (val_main_v98_apply (F := Ideal) x0 x1 x2 x3 x4 x5 x6 x7 _).trans ((val_main_v49_apply (F := Ideal) x0 x1 x2 x3 x4 x5 x6 x7 _).trans ?_)
  refine (congrArg _ ?_).trans (v47_row x0 x1 x2 x3 x4 x5 x6 x7 b t _)
  exact funext fun a => Fin.ext (match a with
    | ⟨0, _⟩ => rfl
    | ⟨1, _⟩ => rfl
    | ⟨2, _⟩ => by first | rfl | (show j.val + 1024 = 1024 + j.val; omega))

theorem v63_row (b : Fin 4) (t : Fin 4096) (j : Fin 128) :
    val_main_v63 (F := Ideal) x0 x1 x2 x3 x4 x5 x6 x7 x10 (ix3 b t j)
      = rmsRow 0x43000000#32 (fun k : Fin 128 => dRow x0 x1 x2 x3 x4 x5 x6 x7 b t ⟨1792 + k.val, by omega⟩) (fun k => x10 (ix1 k)) j := by
  refine (v63_apply x0 x1 x2 x3 x4 x5 x6 x7 x10 b t j).trans (congrArg (fun z => rmsRow 0x43000000#32 z (fun k => x10 (ix1 k)) j) (funext fun k => ?_))
  refine (val_main_v50_apply (F := Ideal) x0 x1 x2 x3 x4 x5 x6 x7 _).trans ((congrArg _ ?_).trans (v47_row x0 x1 x2 x3 x4 x5 x6 x7 b t _))
  exact funext fun a => Fin.ext (match a with
    | ⟨0, _⟩ => rfl
    | ⟨1, _⟩ => rfl
    | ⟨2, _⟩ => by first | rfl | (show k.val + 1792 = 1792 + k.val; omega))

theorem v80_row (b : Fin 4) (t : Fin 4096) (k : Fin 16) :
    val_main_v80 (F := Ideal) x0 x1 x2 x3 x4 x5 x6 x7 (ix3 b t k) = dRow x0 x1 x2 x3 x4 x5 x6 x7 b t ⟨1920 + k.val, by omega⟩ := by
  refine (val_main_v80_apply (F := Ideal) x0 x1 x2 x3 x4 x5 x6 x7 _).trans ((val_main_v64_apply (F := Ideal) x0 x1 x2 x3 x4 x5 x6 x7 _).trans ((congrArg _ ?_).trans (v47_row x0 x1 x2 x3 x4 x5 x6 x7 b t _)))
  exact funext fun a => Fin.ext (match a with
    | ⟨0, _⟩ => rfl
    | ⟨1, _⟩ => rfl
    | ⟨2, _⟩ => by first | rfl | (show 1920 + (0 + k.val) = 1920 + k.val; omega) | (show (0 + k.val) + 1920 = 1920 + k.val; omega) | (show k.val + 1920 = 1920 + k.val; omega))

theorem v81_row (b : Fin 4) (t : Fin 4096) (k : Fin 16) :
    val_main_v81 (F := Ideal) x0 x1 x2 x3 x4 x5 x6 x7 (ix3 b t k) = dRow x0 x1 x2 x3 x4 x5 x6 x7 b t ⟨1936 + k.val, by omega⟩ := by
  refine (val_main_v81_apply (F := Ideal) x0 x1 x2 x3 x4 x5 x6 x7 _).trans ((val_main_v64_apply (F := Ideal) x0 x1 x2 x3 x4 x5 x6 x7 _).trans ((congrArg _ ?_).trans (v47_row x0 x1 x2 x3 x4 x5 x6 x7 b t _)))
  exact funext fun a => Fin.ext (match a with
    | ⟨0, _⟩ => rfl
    | ⟨1, _⟩ => rfl
    | ⟨2, _⟩ => by first | (show 1920 + (16 + k.val) = 1936 + k.val; omega) | (show (k.val + 16) + 1920 = 1936 + k.val; omega))

theorem cos_row (b : Fin 4) (t : Fin 4096) (k : Fin 16) : val_main_v83 (F := Ideal) (ix3 b t k) = val_main_v78 (F := Ideal) (ix2 t k) := by
  refine (val_main_v83_apply (F := Ideal) _).trans ((val_main_v82_apply (F := Ideal) _).trans (congrArg _ (funext fun a => ?_)))
  match a with
  | ⟨0, _⟩ => rfl
  | ⟨1, _⟩ => rfl

theorem sin_row (b : Fin 4) (t : Fin 4096) (k : Fin 16) : val_main_v86 (F := Ideal) (ix3 b t k) = val_main_v79 (F := Ideal) (ix2 t k) := by
  refine (val_main_v86_apply (F := Ideal) _).trans ((val_main_v85_apply (F := Ideal) _).trans (congrArg _ (funext fun a => ?_)))
  match a with
  | ⟨0, _⟩ => rfl
  | ⟨1, _⟩ => rfl

theorem cos_row' (b : Fin 4) (t : Fin 4096) (k : Fin 16) : val_main_v90 (F := Ideal) (ix3 b t k) = val_main_v78 (F := Ideal) (ix2 t k) := by
  refine (val_main_v90_apply (F := Ideal) _).trans ((val_main_v89_apply (F := Ideal) _).trans (congrArg _ (funext fun a => ?_)))
  match a with
  | ⟨0, _⟩ => rfl
  | ⟨1, _⟩ => rfl

theorem sin_row' (b : Fin 4) (t : Fin 4096) (k : Fin 16) : val_main_v93 (F := Ideal) (ix3 b t k) = val_main_v79 (F := Ideal) (ix2 t k) := by
  refine (val_main_v93_apply (F := Ideal) _).trans ((val_main_v92_apply (F := Ideal) _).trans (congrArg _ (funext fun a => ?_)))
  match a with
  | ⟨0, _⟩ => rfl
  | ⟨1, _⟩ => rfl

theorem v96_row (b : Fin 4) (t : Fin 4096) (k : Fin 32) :
    val_main_v96 (F := Ideal) x0 x1 x2 x3 x4 x5 x6 x7 (ix3 b t k)
      = turnRow (dRow x0 x1 x2 x3 x4 x5 x6 x7 b t) (fun k => val_main_v78 (F := Ideal) (ix2 t k)) (fun k => val_main_v79 (F := Ideal) (ix2 t k)) k := by
  unfold val_main_v96 turnRow
  by_cases h : k.val < 16
  · rw [dif_pos h]
    refine (concatenate_apply_piece (t := S4x4096x32) 2 _ _ (ix3 b t k) 0 (by show 0 < 2; omega) S4x4096x16 _ rfl rfl 0 rfl (ix3 b t ⟨k.val, h⟩) (fun a ha => ?_) ?_).trans ?_
    · match a with
      | ⟨0, _⟩ => rfl
      | ⟨1, _⟩ => rfl
      | ⟨2, _⟩ => exact absurd rfl ha
    · show 0 + k.val = k.val; omega
    · refine (val_main_v88_apply (F := Ideal) x0 x1 x2 x3 x4 x5 x6 x7 _).trans (congrArg₂ (fun p q : EReal => p - q) ?_ ?_)
      · exact (val_main_v84_apply (F := Ideal) x0 x1 x2 x3 x4 x5 x6 x7 _).trans (congrArg₂ (fun p q : EReal => p * q) (v80_row x0 x1 x2 x3 x4 x5 x6 x7 b t ⟨k.val, h⟩) (cos_row b t ⟨k.val, h⟩))
      · exact (val_main_v87_apply (F := Ideal) x0 x1 x2 x3 x4 x5 x6 x7 _).trans (congrArg₂ (fun p q : EReal => p * q) (v81_row x0 x1 x2 x3 x4 x5 x6 x7 b t ⟨k.val, h⟩) (sin_row b t ⟨k.val, h⟩))
  · rw [dif_neg h]
    have hk : k.val - 16 < 16 := by omega
    refine (concatenate_apply_piece (t := S4x4096x32) 2 _ _ (ix3 b t k) 1 (by show 1 < 2; omega) S4x4096x16 _ rfl rfl 16 rfl (ix3 b t ⟨k.val - 16, hk⟩) (fun a ha => ?_) ?_).trans ?_
    · match a with
      | ⟨0, _⟩ => rfl
      | ⟨1, _⟩ => rfl
      | ⟨2, _⟩ => exact absurd rfl ha
    · show 16 + (k.val - 16) = k.val; omega
    · have e1 : (⟨1936 + (k.val - 16), by omega⟩ : Fin 1952) = ⟨1920 + k.val, by omega⟩ := Fin.ext (by show 1936 + (k.val - 16) = 1920 + k.val; omega)
      have e2 : (⟨1920 + (k.val - 16), by omega⟩ : Fin 1952) = ⟨1904 + k.val, by omega⟩ := Fin.ext (by show 1920 + (k.val - 16) = 1904 + k.val; omega)
      refine (val_main_v95_apply (F := Ideal) x0 x1 x2 x3 x4 x5 x6 x7 _).trans (congrArg₂ (fun p q : EReal => p + q) ?_ ?_)
      · exact (val_main_v91_apply (F := Ideal) x0 x1 x2 x3 x4 x5 x6 x7 _).trans (congrArg₂ (fun p q : EReal => p * q)
          ((v81_row x0 x1 x2 x3 x4 x5 x6 x7 b t ⟨k.val - 16, hk⟩).trans (congrArg _ e1)) (cos_row' b t ⟨k.val - 16, hk⟩))
      · exact (val_main_v94_apply (F := Ideal) x0 x1 x2 x3 x4 x5 x6 x7 _).trans (congrArg₂ (fun p q : EReal => p * q)
          ((v80_row x0 x1 x2 x3 x4 x5 x6 x7 b t ⟨k.val - 16, hk⟩).trans (congrArg _ e2)) (sin_row' b t ⟨k.val - 16, hk⟩))

end Cert.ProjRefIdeal.Layer

end
-- ==== Proof.Proj.Algebraic.lean ====
/- The layer's first half: the projection call's five float32 outputs equal the reference's, for any arguments. -/
module

public import proofs.«01_k».proof.Defs
public import proofs.«01_k».proof.Proof.Proj.Arrays
public import proofs.«01_k».proof.Proof.Proj.Ref
public import Idealize.ShloMosaic.Lib.Quiescent

@[expose] public section

set_option maxRecDepth 16384

noncomputable section

namespace Cert.InProj

open Cert.Ffn
open Idealize.ShloMosaic Idealize.ShloMosaic.TcCoe Idealize.ShloMosaic.ValueIdx Idealize.SL.Sem

theorem split3 {n0 n1 n2 : ℕ} (i : (⟨3, ![n0, n1, n2]⟩ : Shape).Idx) : i = ix3 (n0 := n0) (n1 := n1) (n2 := n2) (i 0) (i 1) (i 2) := funext fun a => by
  match a with
  | ⟨0, _⟩ => rfl
  | ⟨1, _⟩ => rfl
  | ⟨2, _⟩ => rfl

section Args

variable {a0 b0 : (⟨3, ![4, 4096, 1024]⟩ : Shape).Idx → EReal} {a1 b1 : (⟨1, ![1024]⟩ : Shape).Idx → EReal} {a2 b2 a3 b3 : (⟨2, ![1024, 2816]⟩ : Shape).Idx → EReal}
  {a4 b4 : (⟨2, ![2816, 1024]⟩ : Shape).Idx → EReal} {a5 b5 a6 b6 : (⟨1, ![1024]⟩ : Shape).Idx → EReal} {a7 b7 : (⟨2, ![1024, 1952]⟩ : Shape).Idx → EReal}

theorem xRow_args (h0 : b0 = a0) (h1 : b1 = a1) (h2 : b2 = a2) (h3 : b3 = a3) (h4 : b4 = a4) (h5 : b5 = a5) (b : Fin 4) (t : Fin 4096) :
    xRow b0 b1 b2 b3 b4 b5 b t = xRow a0 a1 a2 a3 a4 a5 b t := by rw [h0, h1, h2, h3, h4, h5]

theorem dRow_args (h0 : b0 = a0) (h1 : b1 = a1) (h2 : b2 = a2) (h3 : b3 = a3) (h4 : b4 = a4) (h5 : b5 = a5) (h6 : b6 = a6) (h7 : b7 = a7) (b : Fin 4) (t : Fin 4096) :
    dRow b0 b1 b2 b3 b4 b5 b6 b7 b t = dRow a0 a1 a2 a3 a4 a5 a6 a7 b t := by rw [h0, h1, h2, h3, h4, h5, h6, h7]

end Args

theorem algebraic : Cert.algebraic_ProjIdeal_ProjRefIdeal (hProjIdeal := Cert.ProjIdeal.Gen.facts) (hProjRefIdeal := Cert.ProjRefIdeal.Gen.facts) := by
  intro m g m' g' _ hm
  refine ⟨fun c => arr14 m c, fun c => arr15 m c, fun c => arr16 m c, fun c => arr17 m c, fun c => arr18 m c, ?_, ?_⟩
  · refine (θ_run _ _ _).mono (fun r h c => ?_) (Cert.ProjIdeal.Value.run_blocks m g)
    obtain ⟨h0, h1, h2, h3, h4, _, _, _, _, _, _, hk⟩ := h c
    exact ⟨h0.trans (array14 m c), h1.trans (array15 m c), h2.trans (array16 m c), h3.trans (array17 m c), h4.trans (array18 m c), hk⟩
  · refine (θ_run _ _ _).mono (fun r h c => ?_) (Cert.ProjRefIdeal.Value.run m' g')
    obtain ⟨h0, h1, h2, h3, h4, hk⟩ := h c
    obtain ⟨e0, e1, e2, e3, e4, e5, e6, e7, _, _, e10, _⟩ := hm c
    have hx := xRow_args e0 e1 e2 e3 e4 e5
    have hd := dRow_args e0 e1 e2 e3 e4 e5 e6 e7
    refine ⟨h0.trans ?_, h1.trans ?_, h2.trans ?_, h3.trans ?_, h4.trans ?_, hk⟩
    · refine (Cert.ProjRefIdeal.Read.val_main_v33_eq _).trans (funext fun i => ?_)
      rw [split3 (n0 := 4) (n1 := 4096) (n2 := 1024) i]
      exact (Cert.ProjRefIdeal.Layer.v33_row _ _ _ _ _ _ _ _ _).trans (congrFun (hx (i 0) (i 1)) (i 2))
    · refine (Cert.ProjRefIdeal.Read.val_main_v97_eq _).trans (funext fun i => ?_)
      rw [split3 (n0 := 4) (n1 := 512) (n2 := 4096) i]
      exact (Cert.ProjRefIdeal.Layer.v97_row _ _ _ _ _ _ _ _ _ _ _).trans (congrFun (hd (i 0) (i 2)) _)
    · refine (Cert.ProjRefIdeal.Read.val_main_v98_eq _).trans (funext fun i => ?_)
      rw [split3 (n0 := 4) (n1 := 512) (n2 := 4096) i]
      exact (Cert.ProjRefIdeal.Layer.v98_row _ _ _ _ _ _ _ _ _ _ _).trans (congrFun (hd (i 0) (i 2)) _)
    · refine (Cert.ProjRefIdeal.Read.val_main_v63_eq _).trans (funext fun i => ?_)
      rw [split3 (n0 := 4) (n1 := 4096) (n2 := 128) i]
      refine (Cert.ProjRefIdeal.Layer.v63_row _ _ _ _ _ _ _ _ _ _ _ _).trans ?_
      exact congrArg₂ (fun (d : Fin 1952 → EReal) (z : (⟨1, ![128]⟩ : Shape).Idx → EReal) => rmsRow 0x43000000#32 (fun k : Fin 128 => d ⟨1792 + k.val, by omega⟩) (fun k => z (ix1 k)) (i 2))
        (hd (i 0) (i 1)) e10
    · refine (Cert.ProjRefIdeal.Read.val_main_v96_eq _).trans (funext fun i => ?_)
      rw [split3 (n0 := 4) (n1 := 4096) (n2 := 32) i]
      refine (Cert.ProjRefIdeal.Layer.v96_row _ _ _ _ _ _ _ _ _ _ _).trans ?_
      exact congrArg (fun d : Fin 1952 → EReal => turnRow d (fun k => cosT (ix2 (i 1) k)) (fun k => sinT (ix2 (i 1) k)) (i 2)) (hd (i 0) (i 1))

/-- The reference's frame: its run, and it has no semaphore. -/
theorem ref_frame : Cert.quiescent_ProjRefIdeal (hProjRefIdeal := Cert.ProjRefIdeal.Gen.facts) := fun m g _ =>
  (θ_run _ _ _).mono (fun r h => ⟨fun c => (h c).2.2.2.2.2, sem_eq_zero_of_no_sems rfl _⟩) (Cert.ProjRefIdeal.Value.run m g)

end Cert.InProj

end
-- ==== Proof.lean ====
/- The frames of the three calls' kernels, as printed and idealized, and of their references; the idealization's own conditions; and
   each kernel's output equal to its reference's over the extended reals. -/
module

public import proofs.«01_k».proof.Defs
public import proofs.«01_k».proof.Proof.AttnBits.Frame
public import proofs.«01_k».proof.Proof.Attn.Frame
public import proofs.«01_k».proof.Proof.Algebraic
public import proofs.«01_k».proof.Proof.OutFfn.Algebraic
public import proofs.«01_k».proof.Proof.Proj.FrameB
public import proofs.«01_k».proof.Proof.Proj.Algebraic
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceIdeal.Frame
public import proofs.«01_k».proof.Proof.Gen.Pre_finite
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Proj.Gen.facts, Cert.ProjIdeal.Gen.facts, Cert.ProjRefIdeal.Gen.facts, Cert.Out.Gen.facts, Cert.OutIdeal.Gen.facts, Cert.OutRefIdeal.Gen.facts, Cert.Pre_finite.Gen.facts,
    fun m g _ => Cert.Kernel.Attn.frame_any m g,
    fun m g _ => Cert.KernelIdeal.Attn.frame_any m g,
    fun m g _ => Cert.KernelIdeal.Attn.frame_any m g,
    fun m g _ => Cert.ReferenceIdeal.Gen.frame m g,
    fun m g _ => Cert.ReferenceIdeal.Gen.frame m g,
    fun m g _ => Cert.Proj.Gen.frame m g,
    fun m g _ => Cert.ProjIdeal.Gen.frame m g,
    Cert.InProj.ref_frame,
    fun m g _ => Cert.Out.Gen.frame m g,
    fun m g _ => Cert.OutIdeal.Gen.frame m g,
    Cert.OutFfn.ref_frame,
    ⟨IdealRules.named_const.statement Cert.KernelIdeal.κ "exp2_scale" .f32 0x3E16C740#32 _ rfl,
      IdealRules.named_const.statement Cert.KernelIdeal.κ "mask" .f32 0xF149F2CA#32 _ rfl⟩,
    Cert.Latent.algebraic,
    trivial,
    Cert.InProj.algebraic,
    trivial,
    Cert.OutFfn.algebraic⟩

end Cert.Proof

end
